-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x36x32x32x32 : Shape := ⟨5, ![1, 36, 32, 32, 32]⟩
abbrev S64x36x3x3x3 : Shape := ⟨5, ![64, 36, 3, 3, 3]⟩
abbrev S64 : Shape := ⟨1, ![64]⟩
abbrev S64x64x3x3x3 : Shape := ⟨5, ![64, 64, 3, 3, 3]⟩
abbrev S54x64x3x3x3 : Shape := ⟨5, ![54, 64, 3, 3, 3]⟩
abbrev S54 : Shape := ⟨1, ![54]⟩
abbrev S36x32x32x32 : Shape := ⟨4, ![36, 32, 32, 32]⟩
abbrev S32x32x32x36 : Shape := ⟨4, ![32, 32, 32, 36]⟩
abbrev S_ : Shape := ⟨0, ![]⟩
abbrev S34x34x40x64 : Shape := ⟨4, ![34, 34, 40, 64]⟩
abbrev S46240x64 : Shape := ⟨2, ![46240, 64]⟩
abbrev S47920x64 : Shape := ⟨2, ![47920, 64]⟩
abbrev S47920x192 : Shape := ⟨2, ![47920, 192]⟩
abbrev S32x32x32 : Shape := ⟨3, ![32, 32, 32]⟩
abbrev S34x34x40 : Shape := ⟨3, ![34, 34, 40]⟩
abbrev S46240 : Shape := ⟨1, ![46240]⟩
abbrev S46451 : Shape := ⟨1, ![46451]⟩
abbrev S45056 : Shape := ⟨1, ![45056]⟩
abbrev S45056x1 : Shape := ⟨2, ![45056, 1]⟩
abbrev S45056x3 : Shape := ⟨2, ![45056, 3]⟩
abbrev S3x3x3x36x64 : Shape := ⟨5, ![3, 3, 3, 36, 64]⟩
abbrev S3x3x3x64x64 : Shape := ⟨5, ![3, 3, 3, 64, 64]⟩
abbrev S9x192x64 : Shape := ⟨3, ![9, 192, 64]⟩
abbrev S1x64 : Shape := ⟨2, ![1, 64]⟩
abbrev S3x3x3x64x54 : Shape := ⟨5, ![3, 3, 3, 64, 54]⟩
abbrev S9x192x54 : Shape := ⟨3, ![9, 192, 54]⟩
abbrev S1x54 : Shape := ⟨2, ![1, 54]⟩
abbrev S45056x54 : Shape := ⟨2, ![45056, 54]⟩
abbrev S46240x54 : Shape := ⟨2, ![46240, 54]⟩
abbrev S34x34x40x54 : Shape := ⟨4, ![34, 34, 40, 54]⟩
abbrev S32x32x32x54 : Shape := ⟨4, ![32, 32, 32, 54]⟩
abbrev S1x294912x6 : Shape := ⟨3, ![1, 294912, 6]⟩
abbrev S4096x3 : Shape := ⟨2, ![4096, 3]⟩
abbrev S4160x64 : Shape := ⟨2, ![4160, 64]⟩
abbrev S1408x192 : Shape := ⟨2, ![1408, 192]⟩
abbrev S1456x192 : Shape := ⟨2, ![1456, 192]⟩
abbrev S208x64 : Shape := ⟨2, ![208, 64]⟩
abbrev S208x192 : Shape := ⟨2, ![208, 192]⟩
abbrev S1x192x64 : Shape := ⟨3, ![1, 192, 64]⟩
abbrev S192x64 : Shape := ⟨2, ![192, 64]⟩
abbrev S4096x64 : Shape := ⟨2, ![4096, 64]⟩
abbrev S4096x1 : Shape := ⟨2, ![4096, 1]⟩
abbrev S4096x54 : Shape := ⟨2, ![4096, 54]⟩
abbrev S256x54 : Shape := ⟨2, ![256, 54]⟩
abbrev S256x192 : Shape := ⟨2, ![256, 192]⟩
abbrev S1x192x54 : Shape := ⟨3, ![1, 192, 54]⟩
abbrev S192x54 : Shape := ⟨2, ![192, 54]⟩

abbrev nBuf : Space → Nat
  | .hbm => 79
  | .vmem => 33
  | .smem => 0
  | _ => 0

abbrev bufTy : (tb : Table) → Fin (tcTables nBuf tb) → BufTy
  | .hbm, ⟨0, _⟩ => ⟨S1x36x32x32x32, .f32⟩
  | .hbm, ⟨1, _⟩ => ⟨S64x36x3x3x3, .f32⟩
  | .hbm, ⟨2, _⟩ => ⟨S64, .f32⟩
  | .hbm, ⟨3, _⟩ => ⟨S64x64x3x3x3, .f32⟩
  | .hbm, ⟨4, _⟩ => ⟨S64, .f32⟩
  | .hbm, ⟨5, _⟩ => ⟨S64x64x3x3x3, .f32⟩
  | .hbm, ⟨6, _⟩ => ⟨S64, .f32⟩
  | .hbm, ⟨7, _⟩ => ⟨S64x64x3x3x3, .f32⟩
  | .hbm, ⟨8, _⟩ => ⟨S64, .f32⟩
  | .hbm, ⟨9, _⟩ => ⟨S54x64x3x3x3, .f32⟩
  | .hbm, ⟨10, _⟩ => ⟨S54, .f32⟩
  | .hbm, ⟨11, _⟩ => ⟨S36x32x32x32, .f32⟩
  | .hbm, ⟨12, _⟩ => ⟨S32x32x32x36, .f32⟩
  | .hbm, ⟨13, _⟩ => ⟨S_, .i32⟩
  | .hbm, ⟨14, _⟩ => ⟨S_, .f32⟩
  | .hbm, ⟨15, _⟩ => ⟨S34x34x40x64, .f32⟩
  | .hbm, ⟨16, _⟩ => ⟨S46240x64, .f32⟩
  | .hbm, ⟨17, _⟩ => ⟨S_, .i32⟩
  | .hbm, ⟨18, _⟩ => ⟨S_, .f32⟩
  | .hbm, ⟨19, _⟩ => ⟨S47920x64, .f32⟩
  | .hbm, ⟨20, _⟩ => ⟨S_, .i32⟩
  | .hbm, ⟨21, _⟩ => ⟨S_, .f32⟩
  | .hbm, ⟨22, _⟩ => ⟨S47920x64, .f32⟩
  | .hbm, ⟨23, _⟩ => ⟨S_, .i32⟩
  | .hbm, ⟨24, _⟩ => ⟨S_, .f32⟩
  | .hbm, ⟨25, _⟩ => ⟨S47920x64, .f32⟩
  | .hbm, ⟨26, _⟩ => ⟨S47920x192, .f32⟩
  | .hbm, ⟨27, _⟩ => ⟨S47920x192, .bf16⟩
  | .hbm, ⟨28, _⟩ => ⟨S_, .f32⟩
  | .hbm, ⟨29, _⟩ => ⟨S32x32x32, .f32⟩
  | .hbm, ⟨30, _⟩ => ⟨S_, .i32⟩
  | .hbm, ⟨31, _⟩ => ⟨S_, .f32⟩
  | .hbm, ⟨32, _⟩ => ⟨S34x34x40, .f32⟩
  | .hbm, ⟨33, _⟩ => ⟨S46240, .f32⟩
  | .hbm, ⟨34, _⟩ => ⟨S_, .i32⟩
  | .hbm, ⟨35, _⟩ => ⟨S_, .f32⟩
  | .hbm, ⟨36, _⟩ => ⟨S46451, .f32⟩
  | .hbm, ⟨37, _⟩ => ⟨S45056, .f32⟩
  | .hbm, ⟨38, _⟩ => ⟨S45056, .f32⟩
  | .hbm, ⟨39, _⟩ => ⟨S45056, .f32⟩
  | .hbm, ⟨40, _⟩ => ⟨S45056x1, .f32⟩
  | .hbm, ⟨41, _⟩ => ⟨S45056x1, .f32⟩
  | .hbm, ⟨42, _⟩ => ⟨S45056x1, .f32⟩
  | .hbm, ⟨43, _⟩ => ⟨S45056x3, .f32⟩
  | .hbm, ⟨44, _⟩ => ⟨S45056x3, .bf16⟩
  | .hbm, ⟨45, _⟩ => ⟨S3x3x3x36x64, .f32⟩
  | .hbm, ⟨46, _⟩ => ⟨S_, .i32⟩
  | .hbm, ⟨47, _⟩ => ⟨S_, .f32⟩
  | .hbm, ⟨48, _⟩ => ⟨S3x3x3x64x64, .f32⟩
  | .hbm, ⟨49, _⟩ => ⟨S9x192x64, .f32⟩
  | .hbm, ⟨50, _⟩ => ⟨S9x192x64, .bf16⟩
  | .hbm, ⟨51, _⟩ => ⟨S1x64, .f32⟩
  | .hbm, ⟨52, _⟩ => ⟨S47920x192, .bf16⟩
  | .hbm, ⟨53, _⟩ => ⟨S3x3x3x64x64, .f32⟩
  | .hbm, ⟨54, _⟩ => ⟨S9x192x64, .f32⟩
  | .hbm, ⟨55, _⟩ => ⟨S9x192x64, .bf16⟩
  | .hbm, ⟨56, _⟩ => ⟨S1x64, .f32⟩
  | .hbm, ⟨57, _⟩ => ⟨S47920x192, .bf16⟩
  | .hbm, ⟨58, _⟩ => ⟨S3x3x3x64x64, .f32⟩
  | .hbm, ⟨59, _⟩ => ⟨S9x192x64, .f32⟩
  | .hbm, ⟨60, _⟩ => ⟨S9x192x64, .bf16⟩
  | .hbm, ⟨61, _⟩ => ⟨S1x64, .f32⟩
  | .hbm, ⟨62, _⟩ => ⟨S47920x192, .bf16⟩
  | .hbm, ⟨63, _⟩ => ⟨S3x3x3x64x64, .f32⟩
  | .hbm, ⟨64, _⟩ => ⟨S9x192x64, .f32⟩
  | .hbm, ⟨65, _⟩ => ⟨S9x192x64, .bf16⟩
  | .hbm, ⟨66, _⟩ => ⟨S1x64, .f32⟩
  | .hbm, ⟨67, _⟩ => ⟨S47920x192, .bf16⟩
  | .hbm, ⟨68, _⟩ => ⟨S3x3x3x64x54, .f32⟩
  | .hbm, ⟨69, _⟩ => ⟨S9x192x54, .f32⟩
  | .hbm, ⟨70, _⟩ => ⟨S9x192x54, .bf16⟩
  | .hbm, ⟨71, _⟩ => ⟨S1x54, .f32⟩
  | .hbm, ⟨72, _⟩ => ⟨S45056x54, .f32⟩
  | .hbm, ⟨73, _⟩ => ⟨S_, .i32⟩
  | .hbm, ⟨74, _⟩ => ⟨S_, .f32⟩
  | .hbm, ⟨75, _⟩ => ⟨S46240x54, .f32⟩
  | .hbm, ⟨76, _⟩ => ⟨S34x34x40x54, .f32⟩
  | .hbm, ⟨77, _⟩ => ⟨S32x32x32x54, .f32⟩
  | .hbm, ⟨78, _⟩ => ⟨S1x294912x6, .f32⟩
  | .local _ .vmem, ⟨0, _⟩ => ⟨S47920x192, .bf16⟩
  | .local _ .vmem, ⟨1, _⟩ => ⟨S9x192x64, .bf16⟩
  | .local _ .vmem, ⟨2, _⟩ => ⟨S1x64, .f32⟩
  | .local _ .vmem, ⟨3, _⟩ => ⟨S4096x3, .bf16⟩
  | .local _ .vmem, ⟨4, _⟩ => ⟨S4096x3, .bf16⟩
  | .local _ .vmem, ⟨5, _⟩ => ⟨S47920x192, .bf16⟩
  | .local _ .vmem, ⟨6, _⟩ => ⟨S4160x64, .f32⟩
  | .local _ .vmem, ⟨7, _⟩ => ⟨S47920x192, .bf16⟩
  | .local _ .vmem, ⟨8, _⟩ => ⟨S9x192x64, .bf16⟩
  | .local _ .vmem, ⟨9, _⟩ => ⟨S1x64, .f32⟩
  | .local _ .vmem, ⟨10, _⟩ => ⟨S4096x3, .bf16⟩
  | .local _ .vmem, ⟨11, _⟩ => ⟨S4096x3, .bf16⟩
  | .local _ .vmem, ⟨12, _⟩ => ⟨S47920x192, .bf16⟩
  | .local _ .vmem, ⟨13, _⟩ => ⟨S4160x64, .f32⟩
  | .local _ .vmem, ⟨14, _⟩ => ⟨S47920x192, .bf16⟩
  | .local _ .vmem, ⟨15, _⟩ => ⟨S9x192x64, .bf16⟩
  | .local _ .vmem, ⟨16, _⟩ => ⟨S1x64, .f32⟩
  | .local _ .vmem, ⟨17, _⟩ => ⟨S4096x3, .bf16⟩
  | .local _ .vmem, ⟨18, _⟩ => ⟨S4096x3, .bf16⟩
  | .local _ .vmem, ⟨19, _⟩ => ⟨S47920x192, .bf16⟩
  | .local _ .vmem, ⟨20, _⟩ => ⟨S4160x64, .f32⟩
  | .local _ .vmem, ⟨21, _⟩ => ⟨S47920x192, .bf16⟩
  | .local _ .vmem, ⟨22, _⟩ => ⟨S9x192x64, .bf16⟩
  | .local _ .vmem, ⟨23, _⟩ => ⟨S1x64, .f32⟩
  | .local _ .vmem, ⟨24, _⟩ => ⟨S4096x3, .bf16⟩
  | .local _ .vmem, ⟨25, _⟩ => ⟨S4096x3, .bf16⟩
  | .local _ .vmem, ⟨26, _⟩ => ⟨S47920x192, .bf16⟩
  | .local _ .vmem, ⟨27, _⟩ => ⟨S4160x64, .f32⟩
  | .local _ .vmem, ⟨28, _⟩ => ⟨S47920x192, .bf16⟩
  | .local _ .vmem, ⟨29, _⟩ => ⟨S9x192x54, .bf16⟩
  | .local _ .vmem, ⟨30, _⟩ => ⟨S1x54, .f32⟩
  | .local _ .vmem, ⟨31, _⟩ => ⟨S4096x54, .f32⟩
  | .local _ .vmem, ⟨32, _⟩ => ⟨S4096x54, .f32⟩
  | _, _ => ⟨S1x36x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_c : Ref sig .tc := ⟨.hbm, 13, rfl⟩
abbrev main_call0_call0_v0 : Ref sig .tc := ⟨.hbm, 14, rfl⟩
abbrev main_call0_v2 : Ref sig .tc := ⟨.hbm, 15, rfl⟩
abbrev main_call0_v3 : Ref sig .tc := ⟨.hbm, 16, rfl⟩
abbrev main_call0_c_0 : Ref sig .tc := ⟨.hbm, 17, rfl⟩
abbrev main_call0_call1_v0 : Ref sig .tc := ⟨.hbm, 18, rfl⟩
abbrev main_call0_v4 : Ref sig .tc := ⟨.hbm, 19, rfl⟩
abbrev main_call0_c_1 : Ref sig .tc := ⟨.hbm, 20, rfl⟩
abbrev main_call0_call2_v0 : Ref sig .tc := ⟨.hbm, 21, rfl⟩
abbrev main_call0_v5 : Ref sig .tc := ⟨.hbm, 22, rfl⟩
abbrev main_call0_c_2 : Ref sig .tc := ⟨.hbm, 23, rfl⟩
abbrev main_call0_call3_v0 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_cst : Ref sig .tc := ⟨.hbm, 28, rfl⟩
abbrev main_call0_v9 : Ref sig .tc := ⟨.hbm, 29, rfl⟩
abbrev main_call0_c_3 : Ref sig .tc := ⟨.hbm, 30, rfl⟩
abbrev main_call0_call4_v0 : Ref sig .tc := ⟨.hbm, 31, rfl⟩
abbrev main_call0_v10 : Ref sig .tc := ⟨.hbm, 32, rfl⟩
abbrev main_call0_v11 : Ref sig .tc := ⟨.hbm, 33, rfl⟩
abbrev main_call0_c_4 : Ref sig .tc := ⟨.hbm, 34, rfl⟩
abbrev main_call0_call5_v0 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_v15 : Ref sig .tc := ⟨.hbm, 39, rfl⟩
abbrev main_call0_v16 : Ref sig .tc := ⟨.hbm, 40, rfl⟩
abbrev main_call0_v17 : Ref sig .tc := ⟨.hbm, 41, rfl⟩
abbrev main_call0_v18 : Ref sig .tc := ⟨.hbm, 42, rfl⟩
abbrev main_call0_v19 : Ref sig .tc := ⟨.hbm, 43, rfl⟩
abbrev main_call0_v20 : Ref sig .tc := ⟨.hbm, 44, rfl⟩
abbrev main_call0_v21 : Ref sig .tc := ⟨.hbm, 45, rfl⟩
abbrev main_call0_c_5 : Ref sig .tc := ⟨.hbm, 46, rfl⟩
abbrev main_call0_call6_v0 : Ref sig .tc := ⟨.hbm, 47, rfl⟩
abbrev main_call0_v22 : Ref sig .tc := ⟨.hbm, 48, rfl⟩
abbrev main_call0_v23 : Ref sig .tc := ⟨.hbm, 49, rfl⟩
abbrev main_call0_v24 : Ref sig .tc := ⟨.hbm, 50, rfl⟩
abbrev main_call0_v25 : Ref sig .tc := ⟨.hbm, 51, rfl⟩
abbrev main_call0_v26 : Ref sig .tc := ⟨.hbm, 52, rfl⟩
abbrev main_call0_v27 : Ref sig .tc := ⟨.hbm, 53, rfl⟩
abbrev main_call0_v28 : Ref sig .tc := ⟨.hbm, 54, rfl⟩
abbrev main_call0_v29 : Ref sig .tc := ⟨.hbm, 55, rfl⟩
abbrev main_call0_v30 : Ref sig .tc := ⟨.hbm, 56, rfl⟩
abbrev main_call0_v31 : Ref sig .tc := ⟨.hbm, 57, rfl⟩
abbrev main_call0_v32 : Ref sig .tc := ⟨.hbm, 58, rfl⟩
abbrev main_call0_v33 : Ref sig .tc := ⟨.hbm, 59, rfl⟩
abbrev main_call0_v34 : Ref sig .tc := ⟨.hbm, 60, rfl⟩
abbrev main_call0_v35 : Ref sig .tc := ⟨.hbm, 61, rfl⟩
abbrev main_call0_v36 : Ref sig .tc := ⟨.hbm, 62, rfl⟩
abbrev main_call0_v37 : Ref sig .tc := ⟨.hbm, 63, rfl⟩
abbrev main_call0_v38 : Ref sig .tc := ⟨.hbm, 64, rfl⟩
abbrev main_call0_v39 : Ref sig .tc := ⟨.hbm, 65, rfl⟩
abbrev main_call0_v40 : Ref sig .tc := ⟨.hbm, 66, rfl⟩
abbrev main_call0_v41 : Ref sig .tc := ⟨.hbm, 67, rfl⟩
abbrev main_call0_v42 : Ref sig .tc := ⟨.hbm, 68, rfl⟩
abbrev main_call0_v43 : Ref sig .tc := ⟨.hbm, 69, rfl⟩
abbrev main_call0_v44 : Ref sig .tc := ⟨.hbm, 70, rfl⟩
abbrev main_call0_v45 : Ref sig .tc := ⟨.hbm, 71, rfl⟩
abbrev main_call0_v46 : Ref sig .tc := ⟨.hbm, 72, rfl⟩
abbrev main_call0_c_6 : Ref sig .tc := ⟨.hbm, 73, rfl⟩
abbrev main_call0_call7_v0 : Ref sig .tc := ⟨.hbm, 74, rfl⟩
abbrev main_call0_v47 : Ref sig .tc := ⟨.hbm, 75, rfl⟩
abbrev main_call0_v48 : Ref sig .tc := ⟨.hbm, 76, rfl⟩
abbrev main_call0_v49 : Ref sig .tc := ⟨.hbm, 77, rfl⟩
abbrev main_v0 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg3_1 : Ref sig .tc := ⟨.vmem, 32, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem3_1 : DmaSem sig := 16
abbrev cc2_sem4_0 : DmaSem sig := 17
abbrev cc3_sem0_0 : DmaSem sig := 18
abbrev cc3_sem1_0 : DmaSem sig := 19
abbrev cc3_sem2_0 : DmaSem sig := 20
abbrev cc3_sem3_0 : DmaSem sig := 21
abbrev cc3_sem3_1 : DmaSem sig := 22
abbrev cc3_sem4_0 : DmaSem sig := 23
abbrev cc4_sem0_0 : DmaSem sig := 24
abbrev cc4_sem1_0 : DmaSem sig := 25
abbrev cc4_sem2_0 : DmaSem sig := 26
abbrev cc4_sem3_0 : DmaSem sig := 27
abbrev cc4_sem3_1 : DmaSem sig := 28

abbrev nD : Nat := 1
abbrev τ : Topo := Topo.v7x

variable {F : FTy → Type} [FloatOps F]

abbrev grid0 : Pipeline.Grid := ⟨1, ![11], ![false]⟩

def k0_off1 (i : grid0.Coords) (c0_i32_1 : BitVec 32) (c0_i32_2 : BitVec 32) : Fin 2 → Nat :=
  let arg0 : BitVec 32 := BitVec.ofNat 32 (i 0).val
  let c4096_i32 : BitVec 32 := 4096#32
  let v3 : BitVec 32 := Scalar.muli arg0 c4096_i32
  let v4 : BitVec 32 := Scalar.addi v3 c0_i32_1
  let v6 : BitVec 32 := Scalar.addi v4 c0_i32_2
  let v7 : Index := Scalar.indexCast v6
  let c0 : Index := 0#32
  ![v7.toNat, 0]
def k0_off1_at (r : Fin 180) : BitVec 32 × BitVec 32 :=
  if r.val < 90 then
    if r.val < 45 then
      if r.val < 22 then
        if r.val < 11 then
          if r.val < 5 then
            if r.val < 2 then
              if r.val < 1 then
                (0#32, 0#32)
              else
                (0#32, 40#32)
            else
              if r.val < 3 then
                (0#32, 80#32)
              else
                if r.val < 4 then
                  (0#32, 1360#32)
                else
                  (0#32, 1400#32)
          else
            if r.val < 8 then
              if r.val < 6 then
                (0#32, 1440#32)
              else
                if r.val < 7 then
                  (0#32, 2720#32)
                else
                  (0#32, 2760#32)
            else
              if r.val < 9 then
                (0#32, 2800#32)
              else
                if r.val < 10 then
                  (208#32, 0#32)
                else
                  (208#32, 40#32)
        else
          if r.val < 16 then
            if r.val < 13 then
              if r.val < 12 then
                (208#32, 80#32)
              else
                (208#32, 1360#32)
            else
              if r.val < 14 then
                (208#32, 1400#32)
              else
                if r.val < 15 then
                  (208#32, 1440#32)
                else
                  (208#32, 2720#32)
          else
            if r.val < 19 then
              if r.val < 17 then
                (208#32, 2760#32)
              else
                if r.val < 18 then
                  (208#32, 2800#32)
                else
                  (416#32, 0#32)
            else
              if r.val < 20 then
                (416#32, 40#32)
              else
                if r.val < 21 then
                  (416#32, 80#32)
                else
                  (416#32, 1360#32)
      else
        if r.val < 33 then
          if r.val < 27 then
            if r.val < 24 then
              if r.val < 23 then
                (416#32, 1400#32)
              else
                (416#32, 1440#32)
            else
              if r.val < 25 then
                (416#32, 2720#32)
              else
                if r.val < 26 then
                  (416#32, 2760#32)
                else
                  (416#32, 2800#32)
          else
            if r.val < 30 then
              if r.val < 28 then
                (624#32, 0#32)
              else
                if r.val < 29 then
                  (624#32, 40#32)
                else
                  (624#32, 80#32)
            else
              if r.val < 31 then
                (624#32, 1360#32)
              else
                if r.val < 32 then
                  (624#32, 1400#32)
                else
                  (624#32, 1440#32)
        else
          if r.val < 39 then
            if r.val < 36 then
              if r.val < 34 then
                (624#32, 2720#32)
              else
                if r.val < 35 then
                  (624#32, 2760#32)
                else
                  (624#32, 2800#32)
            else
              if r.val < 37 then
                (832#32, 0#32)
              else
                if r.val < 38 then
                  (832#32, 40#32)
                else
                  (832#32, 80#32)
          else
            if r.val < 42 then
              if r.val < 40 then
                (832#32, 1360#32)
              else
                if r.val < 41 then
                  (832#32, 1400#32)
                else
                  (832#32, 1440#32)
            else
              if r.val < 43 then
                (832#32, 2720#32)
              else
                if r.val < 44 then
                  (832#32, 2760#32)
                else
                  (832#32, 2800#32)
    else
      if r.val < 67 then
        if r.val < 56 then
          if r.val < 50 then
            if r.val < 47 then
              if r.val < 46 then
                (1040#32, 0#32)
              else
                (1040#32, 40#32)
            else
              if r.val < 48 then
                (1040#32, 80#32)
              else
                if r.val < 49 then
                  (1040#32, 1360#32)
                else
                  (1040#32, 1400#32)
          else
            if r.val < 53 then
              if r.val < 51 then
                (1040#32, 1440#32)
              else
                if r.val < 52 then
                  (1040#32, 2720#32)
                else
                  (1040#32, 2760#32)
            else
              if r.val < 54 then
                (1040#32, 2800#32)
              else
                if r.val < 55 then
                  (1248#32, 0#32)
                else
                  (1248#32, 40#32)
        else
          if r.val < 61 then
            if r.val < 58 then
              if r.val < 57 then
                (1248#32, 80#32)
              else
                (1248#32, 1360#32)
            else
              if r.val < 59 then
                (1248#32, 1400#32)
              else
                if r.val < 60 then
                  (1248#32, 1440#32)
                else
                  (1248#32, 2720#32)
          else
            if r.val < 64 then
              if r.val < 62 then
                (1248#32, 2760#32)
              else
                if r.val < 63 then
                  (1248#32, 2800#32)
                else
                  (1456#32, 0#32)
            else
              if r.val < 65 then
                (1456#32, 40#32)
              else
                if r.val < 66 then
                  (1456#32, 80#32)
                else
                  (1456#32, 1360#32)
      else
        if r.val < 78 then
          if r.val < 72 then
            if r.val < 69 then
              if r.val < 68 then
                (1456#32, 1400#32)
              else
                (1456#32, 1440#32)
            else
              if r.val < 70 then
                (1456#32, 2720#32)
              else
                if r.val < 71 then
                  (1456#32, 2760#32)
                else
                  (1456#32, 2800#32)
          else
            if r.val < 75 then
              if r.val < 73 then
                (1664#32, 0#32)
              else
                if r.val < 74 then
                  (1664#32, 40#32)
                else
                  (1664#32, 80#32)
            else
              if r.val < 76 then
                (1664#32, 1360#32)
              else
                if r.val < 77 then
                  (1664#32, 1400#32)
                else
                  (1664#32, 1440#32)
        else
          if r.val < 84 then
            if r.val < 81 then
              if r.val < 79 then
                (1664#32, 2720#32)
              else
                if r.val < 80 then
                  (1664#32, 2760#32)
                else
                  (1664#32, 2800#32)
            else
              if r.val < 82 then
                (1872#32, 0#32)
              else
                if r.val < 83 then
                  (1872#32, 40#32)
                else
                  (1872#32, 80#32)
          else
            if r.val < 87 then
              if r.val < 85 then
                (1872#32, 1360#32)
              else
                if r.val < 86 then
                  (1872#32, 1400#32)
                else
                  (1872#32, 1440#32)
            else
              if r.val < 88 then
                (1872#32, 2720#32)
              else
                if r.val < 89 then
                  (1872#32, 2760#32)
                else
                  (1872#32, 2800#32)
  else
    if r.val < 135 then
      if r.val < 112 then
        if r.val < 101 then
          if r.val < 95 then
            if r.val < 92 then
              if r.val < 91 then
                (2080#32, 0#32)
              else
                (2080#32, 40#32)
            else
              if r.val < 93 then
                (2080#32, 80#32)
              else
                if r.val < 94 then
                  (2080#32, 1360#32)
                else
                  (2080#32, 1400#32)
          else
            if r.val < 98 then
              if r.val < 96 then
                (2080#32, 1440#32)
              else
                if r.val < 97 then
                  (2080#32, 2720#32)
                else
                  (2080#32, 2760#32)
            else
              if r.val < 99 then
                (2080#32, 2800#32)
              else
                if r.val < 100 then
                  (2288#32, 0#32)
                else
                  (2288#32, 40#32)
        else
          if r.val < 106 then
            if r.val < 103 then
              if r.val < 102 then
                (2288#32, 80#32)
              else
                (2288#32, 1360#32)
            else
              if r.val < 104 then
                (2288#32, 1400#32)
              else
                if r.val < 105 then
                  (2288#32, 1440#32)
                else
                  (2288#32, 2720#32)
          else
            if r.val < 109 then
              if r.val < 107 then
                (2288#32, 2760#32)
              else
                if r.val < 108 then
                  (2288#32, 2800#32)
                else
                  (2496#32, 0#32)
            else
              if r.val < 110 then
                (2496#32, 40#32)
              else
                if r.val < 111 then
                  (2496#32, 80#32)
                else
                  (2496#32, 1360#32)
      else
        if r.val < 123 then
          if r.val < 117 then
            if r.val < 114 then
              if r.val < 113 then
                (2496#32, 1400#32)
              else
                (2496#32, 1440#32)
            else
              if r.val < 115 then
                (2496#32, 2720#32)
              else
                if r.val < 116 then
                  (2496#32, 2760#32)
                else
                  (2496#32, 2800#32)
          else
            if r.val < 120 then
              if r.val < 118 then
                (2704#32, 0#32)
              else
                if r.val < 119 then
                  (2704#32, 40#32)
                else
                  (2704#32, 80#32)
            else
              if r.val < 121 then
                (2704#32, 1360#32)
              else
                if r.val < 122 then
                  (2704#32, 1400#32)
                else
                  (2704#32, 1440#32)
        else
          if r.val < 129 then
            if r.val < 126 then
              if r.val < 124 then
                (2704#32, 2720#32)
              else
                if r.val < 125 then
                  (2704#32, 2760#32)
                else
                  (2704#32, 2800#32)
            else
              if r.val < 127 then
                (2912#32, 0#32)
              else
                if r.val < 128 then
                  (2912#32, 40#32)
                else
                  (2912#32, 80#32)
          else
            if r.val < 132 then
              if r.val < 130 then
                (2912#32, 1360#32)
              else
                if r.val < 131 then
                  (2912#32, 1400#32)
                else
                  (2912#32, 1440#32)
            else
              if r.val < 133 then
                (2912#32, 2720#32)
              else
                if r.val < 134 then
                  (2912#32, 2760#32)
                else
                  (2912#32, 2800#32)
    else
      if r.val < 157 then
        if r.val < 146 then
          if r.val < 140 then
            if r.val < 137 then
              if r.val < 136 then
                (3120#32, 0#32)
              else
                (3120#32, 40#32)
            else
              if r.val < 138 then
                (3120#32, 80#32)
              else
                if r.val < 139 then
                  (3120#32, 1360#32)
                else
                  (3120#32, 1400#32)
          else
            if r.val < 143 then
              if r.val < 141 then
                (3120#32, 1440#32)
              else
                if r.val < 142 then
                  (3120#32, 2720#32)
                else
                  (3120#32, 2760#32)
            else
              if r.val < 144 then
                (3120#32, 2800#32)
              else
                if r.val < 145 then
                  (3328#32, 0#32)
                else
                  (3328#32, 40#32)
        else
          if r.val < 151 then
            if r.val < 148 then
              if r.val < 147 then
                (3328#32, 80#32)
              else
                (3328#32, 1360#32)
            else
              if r.val < 149 then
                (3328#32, 1400#32)
              else
                if r.val < 150 then
                  (3328#32, 1440#32)
                else
                  (3328#32, 2720#32)
          else
            if r.val < 154 then
              if r.val < 152 then
                (3328#32, 2760#32)
              else
                if r.val < 153 then
                  (3328#32, 2800#32)
                else
                  (3536#32, 0#32)
            else
              if r.val < 155 then
                (3536#32, 40#32)
              else
                if r.val < 156 then
                  (3536#32, 80#32)
                else
                  (3536#32, 1360#32)
      else
        if r.val < 168 then
          if r.val < 162 then
            if r.val < 159 then
              if r.val < 158 then
                (3536#32, 1400#32)
              else
                (3536#32, 1440#32)
            else
              if r.val < 160 then
                (3536#32, 2720#32)
              else
                if r.val < 161 then
                  (3536#32, 2760#32)
                else
                  (3536#32, 2800#32)
          else
            if r.val < 165 then
              if r.val < 163 then
                (3744#32, 0#32)
              else
                if r.val < 164 then
                  (3744#32, 40#32)
                else
                  (3744#32, 80#32)
            else
              if r.val < 166 then
                (3744#32, 1360#32)
              else
                if r.val < 167 then
                  (3744#32, 1400#32)
                else
                  (3744#32, 1440#32)
        else
          if r.val < 174 then
            if r.val < 171 then
              if r.val < 169 then
                (3744#32, 2720#32)
              else
                if r.val < 170 then
                  (3744#32, 2760#32)
                else
                  (3744#32, 2800#32)
            else
              if r.val < 172 then
                (3952#32, 0#32)
              else
                if r.val < 173 then
                  (3952#32, 40#32)
                else
                  (3952#32, 80#32)
          else
            if r.val < 177 then
              if r.val < 175 then
                (3952#32, 1360#32)
              else
                if r.val < 176 then
                  (3952#32, 1400#32)
                else
                  (3952#32, 1440#32)
            else
              if r.val < 178 then
                (3952#32, 2720#32)
              else
                if r.val < 179 then
                  (3952#32, 2760#32)
                else
                  (3952#32, 2800#32)
def k0_off2 (i : grid0.Coords) : Fin 2 → Nat :=
  let arg0 : BitVec 32 := BitVec.ofNat 32 (i 0).val
  let c4096_i32 : BitVec 32 := 4096#32
  let v3 : BitVec 32 := Scalar.muli arg0 c4096_i32
  let c1408_i32 : BitVec 32 := 1408#32
  let v1670 : BitVec 32 := Scalar.addi v3 c1408_i32
  let v1671 : Index := Scalar.indexCast v1670
  let c0_1169 : Index := 0#32
  ![v1671.toNat, 0]
def k0_off3 (i : grid0.Coords) : Fin 2 → Nat :=
  let arg0 : BitVec 32 := BitVec.ofNat 32 (i 0).val
  let c4096_i32 : BitVec 32 := 4096#32
  let v3 : BitVec 32 := Scalar.muli arg0 c4096_i32
  let c1408_i32_1174 : BitVec 32 := 1408#32
  let v1679 : BitVec 32 := Scalar.addi v3 c1408_i32_1174
  let v1680 : Index := Scalar.indexCast v1679
  let c64 : Index := 64#32
  ![v1680.toNat, 64]
def k0_off4 (i : grid0.Coords) : Fin 2 → Nat :=
  let arg0 : BitVec 32 := BitVec.ofNat 32 (i 0).val
  let c4096_i32 : BitVec 32 := 4096#32
  let v3 : BitVec 32 := Scalar.muli arg0 c4096_i32
  let c1408_i32_1178 : BitVec 32 := 1408#32
  let v1688 : BitVec 32 := Scalar.addi v3 c1408_i32_1178
  let v1689 : Index := Scalar.indexCast v1688
  let c128 : Index := 128#32
  ![v1689.toNat, 128]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S47920x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S9x192x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x3 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S47920x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![11], ![false]⟩

def k1_off1 (i : grid1.Coords) (c0_i32_1 : BitVec 32) (c0_i32_2 : BitVec 32) : Fin 2 → Nat :=
  let arg0 : BitVec 32 := BitVec.ofNat 32 (i 0).val
  let c4096_i32 : BitVec 32 := 4096#32
  let v3 : BitVec 32 := Scalar.muli arg0 c4096_i32
  let v4 : BitVec 32 := Scalar.addi v3 c0_i32_1
  let v6 : BitVec 32 := Scalar.addi v4 c0_i32_2
  let v7 : Index := Scalar.indexCast v6
  let c0 : Index := 0#32
  ![v7.toNat, 0]
def k1_off1_at (r : Fin 180) : BitVec 32 × BitVec 32 :=
  if r.val < 90 then
    if r.val < 45 then
      if r.val < 22 then
        if r.val < 11 then
          if r.val < 5 then
            if r.val < 2 then
              if r.val < 1 then
                (0#32, 0#32)
              else
                (0#32, 40#32)
            else
              if r.val < 3 then
                (0#32, 80#32)
              else
                if r.val < 4 then
                  (0#32, 1360#32)
                else
                  (0#32, 1400#32)
          else
            if r.val < 8 then
              if r.val < 6 then
                (0#32, 1440#32)
              else
                if r.val < 7 then
                  (0#32, 2720#32)
                else
                  (0#32, 2760#32)
            else
              if r.val < 9 then
                (0#32, 2800#32)
              else
                if r.val < 10 then
                  (208#32, 0#32)
                else
                  (208#32, 40#32)
        else
          if r.val < 16 then
            if r.val < 13 then
              if r.val < 12 then
                (208#32, 80#32)
              else
                (208#32, 1360#32)
            else
              if r.val < 14 then
                (208#32, 1400#32)
              else
                if r.val < 15 then
                  (208#32, 1440#32)
                else
                  (208#32, 2720#32)
          else
            if r.val < 19 then
              if r.val < 17 then
                (208#32, 2760#32)
              else
                if r.val < 18 then
                  (208#32, 2800#32)
                else
                  (416#32, 0#32)
            else
              if r.val < 20 then
                (416#32, 40#32)
              else
                if r.val < 21 then
                  (416#32, 80#32)
                else
                  (416#32, 1360#32)
      else
        if r.val < 33 then
          if r.val < 27 then
            if r.val < 24 then
              if r.val < 23 then
                (416#32, 1400#32)
              else
                (416#32, 1440#32)
            else
              if r.val < 25 then
                (416#32, 2720#32)
              else
                if r.val < 26 then
                  (416#32, 2760#32)
                else
                  (416#32, 2800#32)
          else
            if r.val < 30 then
              if r.val < 28 then
                (624#32, 0#32)
              else
                if r.val < 29 then
                  (624#32, 40#32)
                else
                  (624#32, 80#32)
            else
              if r.val < 31 then
                (624#32, 1360#32)
              else
                if r.val < 32 then
                  (624#32, 1400#32)
                else
                  (624#32, 1440#32)
        else
          if r.val < 39 then
            if r.val < 36 then
              if r.val < 34 then
                (624#32, 2720#32)
              else
                if r.val < 35 then
                  (624#32, 2760#32)
                else
                  (624#32, 2800#32)
            else
              if r.val < 37 then
                (832#32, 0#32)
              else
                if r.val < 38 then
                  (832#32, 40#32)
                else
                  (832#32, 80#32)
          else
            if r.val < 42 then
              if r.val < 40 then
                (832#32, 1360#32)
              else
                if r.val < 41 then
                  (832#32, 1400#32)
                else
                  (832#32, 1440#32)
            else
              if r.val < 43 then
                (832#32, 2720#32)
              else
                if r.val < 44 then
                  (832#32, 2760#32)
                else
                  (832#32, 2800#32)
    else
      if r.val < 67 then
        if r.val < 56 then
          if r.val < 50 then
            if r.val < 47 then
              if r.val < 46 then
                (1040#32, 0#32)
              else
                (1040#32, 40#32)
            else
              if r.val < 48 then
                (1040#32, 80#32)
              else
                if r.val < 49 then
                  (1040#32, 1360#32)
                else
                  (1040#32, 1400#32)
          else
            if r.val < 53 then
              if r.val < 51 then
                (1040#32, 1440#32)
              else
                if r.val < 52 then
                  (1040#32, 2720#32)
                else
                  (1040#32, 2760#32)
            else
              if r.val < 54 then
                (1040#32, 2800#32)
              else
                if r.val < 55 then
                  (1248#32, 0#32)
                else
                  (1248#32, 40#32)
        else
          if r.val < 61 then
            if r.val < 58 then
              if r.val < 57 then
                (1248#32, 80#32)
              else
                (1248#32, 1360#32)
            else
              if r.val < 59 then
                (1248#32, 1400#32)
              else
                if r.val < 60 then
                  (1248#32, 1440#32)
                else
                  (1248#32, 2720#32)
          else
            if r.val < 64 then
              if r.val < 62 then
                (1248#32, 2760#32)
              else
                if r.val < 63 then
                  (1248#32, 2800#32)
                else
                  (1456#32, 0#32)
            else
              if r.val < 65 then
                (1456#32, 40#32)
              else
                if r.val < 66 then
                  (1456#32, 80#32)
                else
                  (1456#32, 1360#32)
      else
        if r.val < 78 then
          if r.val < 72 then
            if r.val < 69 then
              if r.val < 68 then
                (1456#32, 1400#32)
              else
                (1456#32, 1440#32)
            else
              if r.val < 70 then
                (1456#32, 2720#32)
              else
                if r.val < 71 then
                  (1456#32, 2760#32)
                else
                  (1456#32, 2800#32)
          else
            if r.val < 75 then
              if r.val < 73 then
                (1664#32, 0#32)
              else
                if r.val < 74 then
                  (1664#32, 40#32)
                else
                  (1664#32, 80#32)
            else
              if r.val < 76 then
                (1664#32, 1360#32)
              else
                if r.val < 77 then
                  (1664#32, 1400#32)
                else
                  (1664#32, 1440#32)
        else
          if r.val < 84 then
            if r.val < 81 then
              if r.val < 79 then
                (1664#32, 2720#32)
              else
                if r.val < 80 then
                  (1664#32, 2760#32)
                else
                  (1664#32, 2800#32)
            else
              if r.val < 82 then
                (1872#32, 0#32)
              else
                if r.val < 83 then
                  (1872#32, 40#32)
                else
                  (1872#32, 80#32)
          else
            if r.val < 87 then
              if r.val < 85 then
                (1872#32, 1360#32)
              else
                if r.val < 86 then
                  (1872#32, 1400#32)
                else
                  (1872#32, 1440#32)
            else
              if r.val < 88 then
                (1872#32, 2720#32)
              else
                if r.val < 89 then
                  (1872#32, 2760#32)
                else
                  (1872#32, 2800#32)
  else
    if r.val < 135 then
      if r.val < 112 then
        if r.val < 101 then
          if r.val < 95 then
            if r.val < 92 then
              if r.val < 91 then
                (2080#32, 0#32)
              else
                (2080#32, 40#32)
            else
              if r.val < 93 then
                (2080#32, 80#32)
              else
                if r.val < 94 then
                  (2080#32, 1360#32)
                else
                  (2080#32, 1400#32)
          else
            if r.val < 98 then
              if r.val < 96 then
                (2080#32, 1440#32)
              else
                if r.val < 97 then
                  (2080#32, 2720#32)
                else
                  (2080#32, 2760#32)
            else
              if r.val < 99 then
                (2080#32, 2800#32)
              else
                if r.val < 100 then
                  (2288#32, 0#32)
                else
                  (2288#32, 40#32)
        else
          if r.val < 106 then
            if r.val < 103 then
              if r.val < 102 then
                (2288#32, 80#32)
              else
                (2288#32, 1360#32)
            else
              if r.val < 104 then
                (2288#32, 1400#32)
              else
                if r.val < 105 then
                  (2288#32, 1440#32)
                else
                  (2288#32, 2720#32)
          else
            if r.val < 109 then
              if r.val < 107 then
                (2288#32, 2760#32)
              else
                if r.val < 108 then
                  (2288#32, 2800#32)
                else
                  (2496#32, 0#32)
            else
              if r.val < 110 then
                (2496#32, 40#32)
              else
                if r.val < 111 then
                  (2496#32, 80#32)
                else
                  (2496#32, 1360#32)
      else
        if r.val < 123 then
          if r.val < 117 then
            if r.val < 114 then
              if r.val < 113 then
                (2496#32, 1400#32)
              else
                (2496#32, 1440#32)
            else
              if r.val < 115 then
                (2496#32, 2720#32)
              else
                if r.val < 116 then
                  (2496#32, 2760#32)
                else
                  (2496#32, 2800#32)
          else
            if r.val < 120 then
              if r.val < 118 then
                (2704#32, 0#32)
              else
                if r.val < 119 then
                  (2704#32, 40#32)
                else
                  (2704#32, 80#32)
            else
              if r.val < 121 then
                (2704#32, 1360#32)
              else
                if r.val < 122 then
                  (2704#32, 1400#32)
                else
                  (2704#32, 1440#32)
        else
          if r.val < 129 then
            if r.val < 126 then
              if r.val < 124 then
                (2704#32, 2720#32)
              else
                if r.val < 125 then
                  (2704#32, 2760#32)
                else
                  (2704#32, 2800#32)
            else
              if r.val < 127 then
                (2912#32, 0#32)
              else
                if r.val < 128 then
                  (2912#32, 40#32)
                else
                  (2912#32, 80#32)
          else
            if r.val < 132 then
              if r.val < 130 then
                (2912#32, 1360#32)
              else
                if r.val < 131 then
                  (2912#32, 1400#32)
                else
                  (2912#32, 1440#32)
            else
              if r.val < 133 then
                (2912#32, 2720#32)
              else
                if r.val < 134 then
                  (2912#32, 2760#32)
                else
                  (2912#32, 2800#32)
    else
      if r.val < 157 then
        if r.val < 146 then
          if r.val < 140 then
            if r.val < 137 then
              if r.val < 136 then
                (3120#32, 0#32)
              else
                (3120#32, 40#32)
            else
              if r.val < 138 then
                (3120#32, 80#32)
              else
                if r.val < 139 then
                  (3120#32, 1360#32)
                else
                  (3120#32, 1400#32)
          else
            if r.val < 143 then
              if r.val < 141 then
                (3120#32, 1440#32)
              else
                if r.val < 142 then
                  (3120#32, 2720#32)
                else
                  (3120#32, 2760#32)
            else
              if r.val < 144 then
                (3120#32, 2800#32)
              else
                if r.val < 145 then
                  (3328#32, 0#32)
                else
                  (3328#32, 40#32)
        else
          if r.val < 151 then
            if r.val < 148 then
              if r.val < 147 then
                (3328#32, 80#32)
              else
                (3328#32, 1360#32)
            else
              if r.val < 149 then
                (3328#32, 1400#32)
              else
                if r.val < 150 then
                  (3328#32, 1440#32)
                else
                  (3328#32, 2720#32)
          else
            if r.val < 154 then
              if r.val < 152 then
                (3328#32, 2760#32)
              else
                if r.val < 153 then
                  (3328#32, 2800#32)
                else
                  (3536#32, 0#32)
            else
              if r.val < 155 then
                (3536#32, 40#32)
              else
                if r.val < 156 then
                  (3536#32, 80#32)
                else
                  (3536#32, 1360#32)
      else
        if r.val < 168 then
          if r.val < 162 then
            if r.val < 159 then
              if r.val < 158 then
                (3536#32, 1400#32)
              else
                (3536#32, 1440#32)
            else
              if r.val < 160 then
                (3536#32, 2720#32)
              else
                if r.val < 161 then
                  (3536#32, 2760#32)
                else
                  (3536#32, 2800#32)
          else
            if r.val < 165 then
              if r.val < 163 then
                (3744#32, 0#32)
              else
                if r.val < 164 then
                  (3744#32, 40#32)
                else
                  (3744#32, 80#32)
            else
              if r.val < 166 then
                (3744#32, 1360#32)
              else
                if r.val < 167 then
                  (3744#32, 1400#32)
                else
                  (3744#32, 1440#32)
        else
          if r.val < 174 then
            if r.val < 171 then
              if r.val < 169 then
                (3744#32, 2720#32)
              else
                if r.val < 170 then
                  (3744#32, 2760#32)
                else
                  (3744#32, 2800#32)
            else
              if r.val < 172 then
                (3952#32, 0#32)
              else
                if r.val < 173 then
                  (3952#32, 40#32)
                else
                  (3952#32, 80#32)
          else
            if r.val < 177 then
              if r.val < 175 then
                (3952#32, 1360#32)
              else
                if r.val < 176 then
                  (3952#32, 1400#32)
                else
                  (3952#32, 1440#32)
            else
              if r.val < 178 then
                (3952#32, 2720#32)
              else
                if r.val < 179 then
                  (3952#32, 2760#32)
                else
                  (3952#32, 2800#32)
def k1_off2 (i : grid1.Coords) : Fin 2 → Nat :=
  let arg0 : BitVec 32 := BitVec.ofNat 32 (i 0).val
  let c4096_i32 : BitVec 32 := 4096#32
  let v3 : BitVec 32 := Scalar.muli arg0 c4096_i32
  let c1408_i32 : BitVec 32 := 1408#32
  let v1670 : BitVec 32 := Scalar.addi v3 c1408_i32
  let v1671 : Index := Scalar.indexCast v1670
  let c0_1169 : Index := 0#32
  ![v1671.toNat, 0]
def k1_off3 (i : grid1.Coords) : Fin 2 → Nat :=
  let arg0 : BitVec 32 := BitVec.ofNat 32 (i 0).val
  let c4096_i32 : BitVec 32 := 4096#32
  let v3 : BitVec 32 := Scalar.muli arg0 c4096_i32
  let c1408_i32_1174 : BitVec 32 := 1408#32
  let v1679 : BitVec 32 := Scalar.addi v3 c1408_i32_1174
  let v1680 : Index := Scalar.indexCast v1679
  let c64 : Index := 64#32
  ![v1680.toNat, 64]
def k1_off4 (i : grid1.Coords) : Fin 2 → Nat :=
  let arg0 : BitVec 32 := BitVec.ofNat 32 (i 0).val
  let c4096_i32 : BitVec 32 := 4096#32
  let v3 : BitVec 32 := Scalar.muli arg0 c4096_i32
  let c1408_i32_1178 : BitVec 32 := 1408#32
  let v1688 : BitVec 32 := Scalar.addi v3 c1408_i32_1178
  let v1689 : Index := Scalar.indexCast v1688
  let c128 : Index := 128#32
  ![v1689.toNat, 128]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S47920x192 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S9x192x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x3 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S47920x192 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![11], ![false]⟩

def k2_off1 (i : grid2.Coords) (c0_i32_1 : BitVec 32) (c0_i32_2 : BitVec 32) : Fin 2 → Nat :=
  let arg0 : BitVec 32 := BitVec.ofNat 32 (i 0).val
  let c4096_i32 : BitVec 32 := 4096#32
  let v3 : BitVec 32 := Scalar.muli arg0 c4096_i32
  let v4 : BitVec 32 := Scalar.addi v3 c0_i32_1
  let v6 : BitVec 32 := Scalar.addi v4 c0_i32_2
  let v7 : Index := Scalar.indexCast v6
  let c0 : Index := 0#32
  ![v7.toNat, 0]
def k2_off1_at (r : Fin 180) : BitVec 32 × BitVec 32 :=
  if r.val < 90 then
    if r.val < 45 then
      if r.val < 22 then
        if r.val < 11 then
          if r.val < 5 then
            if r.val < 2 then
              if r.val < 1 then
                (0#32, 0#32)
              else
                (0#32, 40#32)
            else
              if r.val < 3 then
                (0#32, 80#32)
              else
                if r.val < 4 then
                  (0#32, 1360#32)
                else
                  (0#32, 1400#32)
          else
            if r.val < 8 then
              if r.val < 6 then
                (0#32, 1440#32)
              else
                if r.val < 7 then
                  (0#32, 2720#32)
                else
                  (0#32, 2760#32)
            else
              if r.val < 9 then
                (0#32, 2800#32)
              else
                if r.val < 10 then
                  (208#32, 0#32)
                else
                  (208#32, 40#32)
        else
          if r.val < 16 then
            if r.val < 13 then
              if r.val < 12 then
                (208#32, 80#32)
              else
                (208#32, 1360#32)
            else
              if r.val < 14 then
                (208#32, 1400#32)
              else
                if r.val < 15 then
                  (208#32, 1440#32)
                else
                  (208#32, 2720#32)
          else
            if r.val < 19 then
              if r.val < 17 then
                (208#32, 2760#32)
              else
                if r.val < 18 then
                  (208#32, 2800#32)
                else
                  (416#32, 0#32)
            else
              if r.val < 20 then
                (416#32, 40#32)
              else
                if r.val < 21 then
                  (416#32, 80#32)
                else
                  (416#32, 1360#32)
      else
        if r.val < 33 then
          if r.val < 27 then
            if r.val < 24 then
              if r.val < 23 then
                (416#32, 1400#32)
              else
                (416#32, 1440#32)
            else
              if r.val < 25 then
                (416#32, 2720#32)
              else
                if r.val < 26 then
                  (416#32, 2760#32)
                else
                  (416#32, 2800#32)
          else
            if r.val < 30 then
              if r.val < 28 then
                (624#32, 0#32)
              else
                if r.val < 29 then
                  (624#32, 40#32)
                else
                  (624#32, 80#32)
            else
              if r.val < 31 then
                (624#32, 1360#32)
              else
                if r.val < 32 then
                  (624#32, 1400#32)
                else
                  (624#32, 1440#32)
        else
          if r.val < 39 then
            if r.val < 36 then
              if r.val < 34 then
                (624#32, 2720#32)
              else
                if r.val < 35 then
                  (624#32, 2760#32)
                else
                  (624#32, 2800#32)
            else
              if r.val < 37 then
                (832#32, 0#32)
              else
                if r.val < 38 then
                  (832#32, 40#32)
                else
                  (832#32, 80#32)
          else
            if r.val < 42 then
              if r.val < 40 then
                (832#32, 1360#32)
              else
                if r.val < 41 then
                  (832#32, 1400#32)
                else
                  (832#32, 1440#32)
            else
              if r.val < 43 then
                (832#32, 2720#32)
              else
                if r.val < 44 then
                  (832#32, 2760#32)
                else
                  (832#32, 2800#32)
    else
      if r.val < 67 then
        if r.val < 56 then
          if r.val < 50 then
            if r.val < 47 then
              if r.val < 46 then
                (1040#32, 0#32)
              else
                (1040#32, 40#32)
            else
              if r.val < 48 then
                (1040#32, 80#32)
              else
                if r.val < 49 then
                  (1040#32, 1360#32)
                else
                  (1040#32, 1400#32)
          else
            if r.val < 53 then
              if r.val < 51 then
                (1040#32, 1440#32)
              else
                if r.val < 52 then
                  (1040#32, 2720#32)
                else
                  (1040#32, 2760#32)
            else
              if r.val < 54 then
                (1040#32, 2800#32)
              else
                if r.val < 55 then
                  (1248#32, 0#32)
                else
                  (1248#32, 40#32)
        else
          if r.val < 61 then
            if r.val < 58 then
              if r.val < 57 then
                (1248#32, 80#32)
              else
                (1248#32, 1360#32)
            else
              if r.val < 59 then
                (1248#32, 1400#32)
              else
                if r.val < 60 then
                  (1248#32, 1440#32)
                else
                  (1248#32, 2720#32)
          else
            if r.val < 64 then
              if r.val < 62 then
                (1248#32, 2760#32)
              else
                if r.val < 63 then
                  (1248#32, 2800#32)
                else
                  (1456#32, 0#32)
            else
              if r.val < 65 then
                (1456#32, 40#32)
              else
                if r.val < 66 then
                  (1456#32, 80#32)
                else
                  (1456#32, 1360#32)
      else
        if r.val < 78 then
          if r.val < 72 then
            if r.val < 69 then
              if r.val < 68 then
                (1456#32, 1400#32)
              else
                (1456#32, 1440#32)
            else
              if r.val < 70 then
                (1456#32, 2720#32)
              else
                if r.val < 71 then
                  (1456#32, 2760#32)
                else
                  (1456#32, 2800#32)
          else
            if r.val < 75 then
              if r.val < 73 then
                (1664#32, 0#32)
              else
                if r.val < 74 then
                  (1664#32, 40#32)
                else
                  (1664#32, 80#32)
            else
              if r.val < 76 then
                (1664#32, 1360#32)
              else
                if r.val < 77 then
                  (1664#32, 1400#32)
                else
                  (1664#32, 1440#32)
        else
          if r.val < 84 then
            if r.val < 81 then
              if r.val < 79 then
                (1664#32, 2720#32)
              else
                if r.val < 80 then
                  (1664#32, 2760#32)
                else
                  (1664#32, 2800#32)
            else
              if r.val < 82 then
                (1872#32, 0#32)
              else
                if r.val < 83 then
                  (1872#32, 40#32)
                else
                  (1872#32, 80#32)
          else
            if r.val < 87 then
              if r.val < 85 then
                (1872#32, 1360#32)
              else
                if r.val < 86 then
                  (1872#32, 1400#32)
                else
                  (1872#32, 1440#32)
            else
              if r.val < 88 then
                (1872#32, 2720#32)
              else
                if r.val < 89 then
                  (1872#32, 2760#32)
                else
                  (1872#32, 2800#32)
  else
    if r.val < 135 then
      if r.val < 112 then
        if r.val < 101 then
          if r.val < 95 then
            if r.val < 92 then
              if r.val < 91 then
                (2080#32, 0#32)
              else
                (2080#32, 40#32)
            else
              if r.val < 93 then
                (2080#32, 80#32)
              else
                if r.val < 94 then
                  (2080#32, 1360#32)
                else
                  (2080#32, 1400#32)
          else
            if r.val < 98 then
              if r.val < 96 then
                (2080#32, 1440#32)
              else
                if r.val < 97 then
                  (2080#32, 2720#32)
                else
                  (2080#32, 2760#32)
            else
              if r.val < 99 then
                (2080#32, 2800#32)
              else
                if r.val < 100 then
                  (2288#32, 0#32)
                else
                  (2288#32, 40#32)
        else
          if r.val < 106 then
            if r.val < 103 then
              if r.val < 102 then
                (2288#32, 80#32)
              else
                (2288#32, 1360#32)
            else
              if r.val < 104 then
                (2288#32, 1400#32)
              else
                if r.val < 105 then
                  (2288#32, 1440#32)
                else
                  (2288#32, 2720#32)
          else
            if r.val < 109 then
              if r.val < 107 then
                (2288#32, 2760#32)
              else
                if r.val < 108 then
                  (2288#32, 2800#32)
                else
                  (2496#32, 0#32)
            else
              if r.val < 110 then
                (2496#32, 40#32)
              else
                if r.val < 111 then
                  (2496#32, 80#32)
                else
                  (2496#32, 1360#32)
      else
        if r.val < 123 then
          if r.val < 117 then
            if r.val < 114 then
              if r.val < 113 then
                (2496#32, 1400#32)
              else
                (2496#32, 1440#32)
            else
              if r.val < 115 then
                (2496#32, 2720#32)
              else
                if r.val < 116 then
                  (2496#32, 2760#32)
                else
                  (2496#32, 2800#32)
          else
            if r.val < 120 then
              if r.val < 118 then
                (2704#32, 0#32)
              else
                if r.val < 119 then
                  (2704#32, 40#32)
                else
                  (2704#32, 80#32)
            else
              if r.val < 121 then
                (2704#32, 1360#32)
              else
                if r.val < 122 then
                  (2704#32, 1400#32)
                else
                  (2704#32, 1440#32)
        else
          if r.val < 129 then
            if r.val < 126 then
              if r.val < 124 then
                (2704#32, 2720#32)
              else
                if r.val < 125 then
                  (2704#32, 2760#32)
                else
                  (2704#32, 2800#32)
            else
              if r.val < 127 then
                (2912#32, 0#32)
              else
                if r.val < 128 then
                  (2912#32, 40#32)
                else
                  (2912#32, 80#32)
          else
            if r.val < 132 then
              if r.val < 130 then
                (2912#32, 1360#32)
              else
                if r.val < 131 then
                  (2912#32, 1400#32)
                else
                  (2912#32, 1440#32)
            else
              if r.val < 133 then
                (2912#32, 2720#32)
              else
                if r.val < 134 then
                  (2912#32, 2760#32)
                else
                  (2912#32, 2800#32)
    else
      if r.val < 157 then
        if r.val < 146 then
          if r.val < 140 then
            if r.val < 137 then
              if r.val < 136 then
                (3120#32, 0#32)
              else
                (3120#32, 40#32)
            else
              if r.val < 138 then
                (3120#32, 80#32)
              else
                if r.val < 139 then
                  (3120#32, 1360#32)
                else
                  (3120#32, 1400#32)
          else
            if r.val < 143 then
              if r.val < 141 then
                (3120#32, 1440#32)
              else
                if r.val < 142 then
                  (3120#32, 2720#32)
                else
                  (3120#32, 2760#32)
            else
              if r.val < 144 then
                (3120#32, 2800#32)
              else
                if r.val < 145 then
                  (3328#32, 0#32)
                else
                  (3328#32, 40#32)
        else
          if r.val < 151 then
            if r.val < 148 then
              if r.val < 147 then
                (3328#32, 80#32)
              else
                (3328#32, 1360#32)
            else
              if r.val < 149 then
                (3328#32, 1400#32)
              else
                if r.val < 150 then
                  (3328#32, 1440#32)
                else
                  (3328#32, 2720#32)
          else
            if r.val < 154 then
              if r.val < 152 then
                (3328#32, 2760#32)
              else
                if r.val < 153 then
                  (3328#32, 2800#32)
                else
                  (3536#32, 0#32)
            else
              if r.val < 155 then
                (3536#32, 40#32)
              else
                if r.val < 156 then
                  (3536#32, 80#32)
                else
                  (3536#32, 1360#32)
      else
        if r.val < 168 then
          if r.val < 162 then
            if r.val < 159 then
              if r.val < 158 then
                (3536#32, 1400#32)
              else
                (3536#32, 1440#32)
            else
              if r.val < 160 then
                (3536#32, 2720#32)
              else
                if r.val < 161 then
                  (3536#32, 2760#32)
                else
                  (3536#32, 2800#32)
          else
            if r.val < 165 then
              if r.val < 163 then
                (3744#32, 0#32)
              else
                if r.val < 164 then
                  (3744#32, 40#32)
                else
                  (3744#32, 80#32)
            else
              if r.val < 166 then
                (3744#32, 1360#32)
              else
                if r.val < 167 then
                  (3744#32, 1400#32)
                else
                  (3744#32, 1440#32)
        else
          if r.val < 174 then
            if r.val < 171 then
              if r.val < 169 then
                (3744#32, 2720#32)
              else
                if r.val < 170 then
                  (3744#32, 2760#32)
                else
                  (3744#32, 2800#32)
            else
              if r.val < 172 then
                (3952#32, 0#32)
              else
                if r.val < 173 then
                  (3952#32, 40#32)
                else
                  (3952#32, 80#32)
          else
            if r.val < 177 then
              if r.val < 175 then
                (3952#32, 1360#32)
              else
                if r.val < 176 then
                  (3952#32, 1400#32)
                else
                  (3952#32, 1440#32)
            else
              if r.val < 178 then
                (3952#32, 2720#32)
              else
                if r.val < 179 then
                  (3952#32, 2760#32)
                else
                  (3952#32, 2800#32)
def k2_off2 (i : grid2.Coords) : Fin 2 → Nat :=
  let arg0 : BitVec 32 := BitVec.ofNat 32 (i 0).val
  let c4096_i32 : BitVec 32 := 4096#32
  let v3 : BitVec 32 := Scalar.muli arg0 c4096_i32
  let c1408_i32 : BitVec 32 := 1408#32
  let v1670 : BitVec 32 := Scalar.addi v3 c1408_i32
  let v1671 : Index := Scalar.indexCast v1670
  let c0_1169 : Index := 0#32
  ![v1671.toNat, 0]
def k2_off3 (i : grid2.Coords) : Fin 2 → Nat :=
  let arg0 : BitVec 32 := BitVec.ofNat 32 (i 0).val
  let c4096_i32 : BitVec 32 := 4096#32
  let v3 : BitVec 32 := Scalar.muli arg0 c4096_i32
  let c1408_i32_1174 : BitVec 32 := 1408#32
  let v1679 : BitVec 32 := Scalar.addi v3 c1408_i32_1174
  let v1680 : Index := Scalar.indexCast v1679
  let c64 : Index := 64#32
  ![v1680.toNat, 64]
def k2_off4 (i : grid2.Coords) : Fin 2 → Nat :=
  let arg0 : BitVec 32 := BitVec.ofNat 32 (i 0).val
  let c4096_i32 : BitVec 32 := 4096#32
  let v3 : BitVec 32 := Scalar.muli arg0 c4096_i32
  let c1408_i32_1178 : BitVec 32 := 1408#32
  let v1688 : BitVec 32 := Scalar.addi v3 c1408_i32_1178
  let v1689 : Index := Scalar.indexCast v1688
  let c128 : Index := 128#32
  ![v1689.toNat, 128]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S47920x192 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S9x192x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4096x3 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S47920x192 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![11], ![false]⟩

def k3_off1 (i : grid3.Coords) (c0_i32_1 : BitVec 32) (c0_i32_2 : BitVec 32) : Fin 2 → Nat :=
  let arg0 : BitVec 32 := BitVec.ofNat 32 (i 0).val
  let c4096_i32 : BitVec 32 := 4096#32
  let v3 : BitVec 32 := Scalar.muli arg0 c4096_i32
  let v4 : BitVec 32 := Scalar.addi v3 c0_i32_1
  let v6 : BitVec 32 := Scalar.addi v4 c0_i32_2
  let v7 : Index := Scalar.indexCast v6
  let c0 : Index := 0#32
  ![v7.toNat, 0]
def k3_off1_at (r : Fin 180) : BitVec 32 × BitVec 32 :=
  if r.val < 90 then
    if r.val < 45 then
      if r.val < 22 then
        if r.val < 11 then
          if r.val < 5 then
            if r.val < 2 then
              if r.val < 1 then
                (0#32, 0#32)
              else
                (0#32, 40#32)
            else
              if r.val < 3 then
                (0#32, 80#32)
              else
                if r.val < 4 then
                  (0#32, 1360#32)
                else
                  (0#32, 1400#32)
          else
            if r.val < 8 then
              if r.val < 6 then
                (0#32, 1440#32)
              else
                if r.val < 7 then
                  (0#32, 2720#32)
                else
                  (0#32, 2760#32)
            else
              if r.val < 9 then
                (0#32, 2800#32)
              else
                if r.val < 10 then
                  (208#32, 0#32)
                else
                  (208#32, 40#32)
        else
          if r.val < 16 then
            if r.val < 13 then
              if r.val < 12 then
                (208#32, 80#32)
              else
                (208#32, 1360#32)
            else
              if r.val < 14 then
                (208#32, 1400#32)
              else
                if r.val < 15 then
                  (208#32, 1440#32)
                else
                  (208#32, 2720#32)
          else
            if r.val < 19 then
              if r.val < 17 then
                (208#32, 2760#32)
              else
                if r.val < 18 then
                  (208#32, 2800#32)
                else
                  (416#32, 0#32)
            else
              if r.val < 20 then
                (416#32, 40#32)
              else
                if r.val < 21 then
                  (416#32, 80#32)
                else
                  (416#32, 1360#32)
      else
        if r.val < 33 then
          if r.val < 27 then
            if r.val < 24 then
              if r.val < 23 then
                (416#32, 1400#32)
              else
                (416#32, 1440#32)
            else
              if r.val < 25 then
                (416#32, 2720#32)
              else
                if r.val < 26 then
                  (416#32, 2760#32)
                else
                  (416#32, 2800#32)
          else
            if r.val < 30 then
              if r.val < 28 then
                (624#32, 0#32)
              else
                if r.val < 29 then
                  (624#32, 40#32)
                else
                  (624#32, 80#32)
            else
              if r.val < 31 then
                (624#32, 1360#32)
              else
                if r.val < 32 then
                  (624#32, 1400#32)
                else
                  (624#32, 1440#32)
        else
          if r.val < 39 then
            if r.val < 36 then
              if r.val < 34 then
                (624#32, 2720#32)
              else
                if r.val < 35 then
                  (624#32, 2760#32)
                else
                  (624#32, 2800#32)
            else
              if r.val < 37 then
                (832#32, 0#32)
              else
                if r.val < 38 then
                  (832#32, 40#32)
                else
                  (832#32, 80#32)
          else
            if r.val < 42 then
              if r.val < 40 then
                (832#32, 1360#32)
              else
                if r.val < 41 then
                  (832#32, 1400#32)
                else
                  (832#32, 1440#32)
            else
              if r.val < 43 then
                (832#32, 2720#32)
              else
                if r.val < 44 then
                  (832#32, 2760#32)
                else
                  (832#32, 2800#32)
    else
      if r.val < 67 then
        if r.val < 56 then
          if r.val < 50 then
            if r.val < 47 then
              if r.val < 46 then
                (1040#32, 0#32)
              else
                (1040#32, 40#32)
            else
              if r.val < 48 then
                (1040#32, 80#32)
              else
                if r.val < 49 then
                  (1040#32, 1360#32)
                else
                  (1040#32, 1400#32)
          else
            if r.val < 53 then
              if r.val < 51 then
                (1040#32, 1440#32)
              else
                if r.val < 52 then
                  (1040#32, 2720#32)
                else
                  (1040#32, 2760#32)
            else
              if r.val < 54 then
                (1040#32, 2800#32)
              else
                if r.val < 55 then
                  (1248#32, 0#32)
                else
                  (1248#32, 40#32)
        else
          if r.val < 61 then
            if r.val < 58 then
              if r.val < 57 then
                (1248#32, 80#32)
              else
                (1248#32, 1360#32)
            else
              if r.val < 59 then
                (1248#32, 1400#32)
              else
                if r.val < 60 then
                  (1248#32, 1440#32)
                else
                  (1248#32, 2720#32)
          else
            if r.val < 64 then
              if r.val < 62 then
                (1248#32, 2760#32)
              else
                if r.val < 63 then
                  (1248#32, 2800#32)
                else
                  (1456#32, 0#32)
            else
              if r.val < 65 then
                (1456#32, 40#32)
              else
                if r.val < 66 then
                  (1456#32, 80#32)
                else
                  (1456#32, 1360#32)
      else
        if r.val < 78 then
          if r.val < 72 then
            if r.val < 69 then
              if r.val < 68 then
                (1456#32, 1400#32)
              else
                (1456#32, 1440#32)
            else
              if r.val < 70 then
                (1456#32, 2720#32)
              else
                if r.val < 71 then
                  (1456#32, 2760#32)
                else
                  (1456#32, 2800#32)
          else
            if r.val < 75 then
              if r.val < 73 then
                (1664#32, 0#32)
              else
                if r.val < 74 then
                  (1664#32, 40#32)
                else
                  (1664#32, 80#32)
            else
              if r.val < 76 then
                (1664#32, 1360#32)
              else
                if r.val < 77 then
                  (1664#32, 1400#32)
                else
                  (1664#32, 1440#32)
        else
          if r.val < 84 then
            if r.val < 81 then
              if r.val < 79 then
                (1664#32, 2720#32)
              else
                if r.val < 80 then
                  (1664#32, 2760#32)
                else
                  (1664#32, 2800#32)
            else
              if r.val < 82 then
                (1872#32, 0#32)
              else
                if r.val < 83 then
                  (1872#32, 40#32)
                else
                  (1872#32, 80#32)
          else
            if r.val < 87 then
              if r.val < 85 then
                (1872#32, 1360#32)
              else
                if r.val < 86 then
                  (1872#32, 1400#32)
                else
                  (1872#32, 1440#32)
            else
              if r.val < 88 then
                (1872#32, 2720#32)
              else
                if r.val < 89 then
                  (1872#32, 2760#32)
                else
                  (1872#32, 2800#32)
  else
    if r.val < 135 then
      if r.val < 112 then
        if r.val < 101 then
          if r.val < 95 then
            if r.val < 92 then
              if r.val < 91 then
                (2080#32, 0#32)
              else
                (2080#32, 40#32)
            else
              if r.val < 93 then
                (2080#32, 80#32)
              else
                if r.val < 94 then
                  (2080#32, 1360#32)
                else
                  (2080#32, 1400#32)
          else
            if r.val < 98 then
              if r.val < 96 then
                (2080#32, 1440#32)
              else
                if r.val < 97 then
                  (2080#32, 2720#32)
                else
                  (2080#32, 2760#32)
            else
              if r.val < 99 then
                (2080#32, 2800#32)
              else
                if r.val < 100 then
                  (2288#32, 0#32)
                else
                  (2288#32, 40#32)
        else
          if r.val < 106 then
            if r.val < 103 then
              if r.val < 102 then
                (2288#32, 80#32)
              else
                (2288#32, 1360#32)
            else
              if r.val < 104 then
                (2288#32, 1400#32)
              else
                if r.val < 105 then
                  (2288#32, 1440#32)
                else
                  (2288#32, 2720#32)
          else
            if r.val < 109 then
              if r.val < 107 then
                (2288#32, 2760#32)
              else
                if r.val < 108 then
                  (2288#32, 2800#32)
                else
                  (2496#32, 0#32)
            else
              if r.val < 110 then
                (2496#32, 40#32)
              else
                if r.val < 111 then
                  (2496#32, 80#32)
                else
                  (2496#32, 1360#32)
      else
        if r.val < 123 then
          if r.val < 117 then
            if r.val < 114 then
              if r.val < 113 then
                (2496#32, 1400#32)
              else
                (2496#32, 1440#32)
            else
              if r.val < 115 then
                (2496#32, 2720#32)
              else
                if r.val < 116 then
                  (2496#32, 2760#32)
                else
                  (2496#32, 2800#32)
          else
            if r.val < 120 then
              if r.val < 118 then
                (2704#32, 0#32)
              else
                if r.val < 119 then
                  (2704#32, 40#32)
                else
                  (2704#32, 80#32)
            else
              if r.val < 121 then
                (2704#32, 1360#32)
              else
                if r.val < 122 then
                  (2704#32, 1400#32)
                else
                  (2704#32, 1440#32)
        else
          if r.val < 129 then
            if r.val < 126 then
              if r.val < 124 then
                (2704#32, 2720#32)
              else
                if r.val < 125 then
                  (2704#32, 2760#32)
                else
                  (2704#32, 2800#32)
            else
              if r.val < 127 then
                (2912#32, 0#32)
              else
                if r.val < 128 then
                  (2912#32, 40#32)
                else
                  (2912#32, 80#32)
          else
            if r.val < 132 then
              if r.val < 130 then
                (2912#32, 1360#32)
              else
                if r.val < 131 then
                  (2912#32, 1400#32)
                else
                  (2912#32, 1440#32)
            else
              if r.val < 133 then
                (2912#32, 2720#32)
              else
                if r.val < 134 then
                  (2912#32, 2760#32)
                else
                  (2912#32, 2800#32)
    else
      if r.val < 157 then
        if r.val < 146 then
          if r.val < 140 then
            if r.val < 137 then
              if r.val < 136 then
                (3120#32, 0#32)
              else
                (3120#32, 40#32)
            else
              if r.val < 138 then
                (3120#32, 80#32)
              else
                if r.val < 139 then
                  (3120#32, 1360#32)
                else
                  (3120#32, 1400#32)
          else
            if r.val < 143 then
              if r.val < 141 then
                (3120#32, 1440#32)
              else
                if r.val < 142 then
                  (3120#32, 2720#32)
                else
                  (3120#32, 2760#32)
            else
              if r.val < 144 then
                (3120#32, 2800#32)
              else
                if r.val < 145 then
                  (3328#32, 0#32)
                else
                  (3328#32, 40#32)
        else
          if r.val < 151 then
            if r.val < 148 then
              if r.val < 147 then
                (3328#32, 80#32)
              else
                (3328#32, 1360#32)
            else
              if r.val < 149 then
                (3328#32, 1400#32)
              else
                if r.val < 150 then
                  (3328#32, 1440#32)
                else
                  (3328#32, 2720#32)
          else
            if r.val < 154 then
              if r.val < 152 then
                (3328#32, 2760#32)
              else
                if r.val < 153 then
                  (3328#32, 2800#32)
                else
                  (3536#32, 0#32)
            else
              if r.val < 155 then
                (3536#32, 40#32)
              else
                if r.val < 156 then
                  (3536#32, 80#32)
                else
                  (3536#32, 1360#32)
      else
        if r.val < 168 then
          if r.val < 162 then
            if r.val < 159 then
              if r.val < 158 then
                (3536#32, 1400#32)
              else
                (3536#32, 1440#32)
            else
              if r.val < 160 then
                (3536#32, 2720#32)
              else
                if r.val < 161 then
                  (3536#32, 2760#32)
                else
                  (3536#32, 2800#32)
          else
            if r.val < 165 then
              if r.val < 163 then
                (3744#32, 0#32)
              else
                if r.val < 164 then
                  (3744#32, 40#32)
                else
                  (3744#32, 80#32)
            else
              if r.val < 166 then
                (3744#32, 1360#32)
              else
                if r.val < 167 then
                  (3744#32, 1400#32)
                else
                  (3744#32, 1440#32)
        else
          if r.val < 174 then
            if r.val < 171 then
              if r.val < 169 then
                (3744#32, 2720#32)
              else
                if r.val < 170 then
                  (3744#32, 2760#32)
                else
                  (3744#32, 2800#32)
            else
              if r.val < 172 then
                (3952#32, 0#32)
              else
                if r.val < 173 then
                  (3952#32, 40#32)
                else
                  (3952#32, 80#32)
          else
            if r.val < 177 then
              if r.val < 175 then
                (3952#32, 1360#32)
              else
                if r.val < 176 then
                  (3952#32, 1400#32)
                else
                  (3952#32, 1440#32)
            else
              if r.val < 178 then
                (3952#32, 2720#32)
              else
                if r.val < 179 then
                  (3952#32, 2760#32)
                else
                  (3952#32, 2800#32)
def k3_off2 (i : grid3.Coords) : Fin 2 → Nat :=
  let arg0 : BitVec 32 := BitVec.ofNat 32 (i 0).val
  let c4096_i32 : BitVec 32 := 4096#32
  let v3 : BitVec 32 := Scalar.muli arg0 c4096_i32
  let c1408_i32 : BitVec 32 := 1408#32
  let v1670 : BitVec 32 := Scalar.addi v3 c1408_i32
  let v1671 : Index := Scalar.indexCast v1670
  let c0_1169 : Index := 0#32
  ![v1671.toNat, 0]
def k3_off3 (i : grid3.Coords) : Fin 2 → Nat :=
  let arg0 : BitVec 32 := BitVec.ofNat 32 (i 0).val
  let c4096_i32 : BitVec 32 := 4096#32
  let v3 : BitVec 32 := Scalar.muli arg0 c4096_i32
  let c1408_i32_1174 : BitVec 32 := 1408#32
  let v1679 : BitVec 32 := Scalar.addi v3 c1408_i32_1174
  let v1680 : Index := Scalar.indexCast v1679
  let c64 : Index := 64#32
  ![v1680.toNat, 64]
def k3_off4 (i : grid3.Coords) : Fin 2 → Nat :=
  let arg0 : BitVec 32 := BitVec.ofNat 32 (i 0).val
  let c4096_i32 : BitVec 32 := 4096#32
  let v3 : BitVec 32 := Scalar.muli arg0 c4096_i32
  let c1408_i32_1178 : BitVec 32 := 1408#32
  let v1688 : BitVec 32 := Scalar.addi v3 c1408_i32_1178
  let v1689 : Index := Scalar.indexCast v1688
  let c128 : Index := 128#32
  ![v1689.toNat, 128]
def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S47920x192 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S9x192x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4096x3 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S47920x192 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![11], ![false]⟩

def k4_off1 (i : grid4.Coords) (c0_i32 : BitVec 32) (c0_i32_0 : BitVec 32) : Fin 2 → Nat :=
  let arg0 : BitVec 32 := BitVec.ofNat 32 (i 0).val
  let c4096_i32 : BitVec 32 := 4096#32
  let v0 : BitVec 32 := Scalar.muli arg0 c4096_i32
  let v1 : BitVec 32 := Scalar.addi v0 c0_i32
  let c16_i32 : BitVec 32 := 16#32
  let v2 : BitVec 32 := Scalar.addi v1 c16_i32
  let v4 : BitVec 32 := Scalar.addi v2 c0_i32_0
  let v5 : Index := Scalar.indexCast v4
  let c0 : Index := 0#32
  ![v5.toNat, 0]
def k4_off1_at (r : Fin 144) : BitVec 32 × BitVec 32 :=
  if r.val < 72 then
    if r.val < 36 then
      if r.val < 18 then
        if r.val < 9 then
          if r.val < 4 then
            if r.val < 2 then
              if r.val < 1 then
                (0#32, 0#32)
              else
                (0#32, 40#32)
            else
              if r.val < 3 then
                (0#32, 80#32)
              else
                (0#32, 1360#32)
          else
            if r.val < 6 then
              if r.val < 5 then
                (0#32, 1400#32)
              else
                (0#32, 1440#32)
            else
              if r.val < 7 then
                (0#32, 2720#32)
              else
                if r.val < 8 then
                  (0#32, 2760#32)
                else
                  (0#32, 2800#32)
        else
          if r.val < 13 then
            if r.val < 11 then
              if r.val < 10 then
                (256#32, 0#32)
              else
                (256#32, 40#32)
            else
              if r.val < 12 then
                (256#32, 80#32)
              else
                (256#32, 1360#32)
          else
            if r.val < 15 then
              if r.val < 14 then
                (256#32, 1400#32)
              else
                (256#32, 1440#32)
            else
              if r.val < 16 then
                (256#32, 2720#32)
              else
                if r.val < 17 then
                  (256#32, 2760#32)
                else
                  (256#32, 2800#32)
      else
        if r.val < 27 then
          if r.val < 22 then
            if r.val < 20 then
              if r.val < 19 then
                (512#32, 0#32)
              else
                (512#32, 40#32)
            else
              if r.val < 21 then
                (512#32, 80#32)
              else
                (512#32, 1360#32)
          else
            if r.val < 24 then
              if r.val < 23 then
                (512#32, 1400#32)
              else
                (512#32, 1440#32)
            else
              if r.val < 25 then
                (512#32, 2720#32)
              else
                if r.val < 26 then
                  (512#32, 2760#32)
                else
                  (512#32, 2800#32)
        else
          if r.val < 31 then
            if r.val < 29 then
              if r.val < 28 then
                (768#32, 0#32)
              else
                (768#32, 40#32)
            else
              if r.val < 30 then
                (768#32, 80#32)
              else
                (768#32, 1360#32)
          else
            if r.val < 33 then
              if r.val < 32 then
                (768#32, 1400#32)
              else
                (768#32, 1440#32)
            else
              if r.val < 34 then
                (768#32, 2720#32)
              else
                if r.val < 35 then
                  (768#32, 2760#32)
                else
                  (768#32, 2800#32)
    else
      if r.val < 54 then
        if r.val < 45 then
          if r.val < 40 then
            if r.val < 38 then
              if r.val < 37 then
                (1024#32, 0#32)
              else
                (1024#32, 40#32)
            else
              if r.val < 39 then
                (1024#32, 80#32)
              else
                (1024#32, 1360#32)
          else
            if r.val < 42 then
              if r.val < 41 then
                (1024#32, 1400#32)
              else
                (1024#32, 1440#32)
            else
              if r.val < 43 then
                (1024#32, 2720#32)
              else
                if r.val < 44 then
                  (1024#32, 2760#32)
                else
                  (1024#32, 2800#32)
        else
          if r.val < 49 then
            if r.val < 47 then
              if r.val < 46 then
                (1280#32, 0#32)
              else
                (1280#32, 40#32)
            else
              if r.val < 48 then
                (1280#32, 80#32)
              else
                (1280#32, 1360#32)
          else
            if r.val < 51 then
              if r.val < 50 then
                (1280#32, 1400#32)
              else
                (1280#32, 1440#32)
            else
              if r.val < 52 then
                (1280#32, 2720#32)
              else
                if r.val < 53 then
                  (1280#32, 2760#32)
                else
                  (1280#32, 2800#32)
      else
        if r.val < 63 then
          if r.val < 58 then
            if r.val < 56 then
              if r.val < 55 then
                (1536#32, 0#32)
              else
                (1536#32, 40#32)
            else
              if r.val < 57 then
                (1536#32, 80#32)
              else
                (1536#32, 1360#32)
          else
            if r.val < 60 then
              if r.val < 59 then
                (1536#32, 1400#32)
              else
                (1536#32, 1440#32)
            else
              if r.val < 61 then
                (1536#32, 2720#32)
              else
                if r.val < 62 then
                  (1536#32, 2760#32)
                else
                  (1536#32, 2800#32)
        else
          if r.val < 67 then
            if r.val < 65 then
              if r.val < 64 then
                (1792#32, 0#32)
              else
                (1792#32, 40#32)
            else
              if r.val < 66 then
                (1792#32, 80#32)
              else
                (1792#32, 1360#32)
          else
            if r.val < 69 then
              if r.val < 68 then
                (1792#32, 1400#32)
              else
                (1792#32, 1440#32)
            else
              if r.val < 70 then
                (1792#32, 2720#32)
              else
                if r.val < 71 then
                  (1792#32, 2760#32)
                else
                  (1792#32, 2800#32)
  else
    if r.val < 108 then
      if r.val < 90 then
        if r.val < 81 then
          if r.val < 76 then
            if r.val < 74 then
              if r.val < 73 then
                (2048#32, 0#32)
              else
                (2048#32, 40#32)
            else
              if r.val < 75 then
                (2048#32, 80#32)
              else
                (2048#32, 1360#32)
          else
            if r.val < 78 then
              if r.val < 77 then
                (2048#32, 1400#32)
              else
                (2048#32, 1440#32)
            else
              if r.val < 79 then
                (2048#32, 2720#32)
              else
                if r.val < 80 then
                  (2048#32, 2760#32)
                else
                  (2048#32, 2800#32)
        else
          if r.val < 85 then
            if r.val < 83 then
              if r.val < 82 then
                (2304#32, 0#32)
              else
                (2304#32, 40#32)
            else
              if r.val < 84 then
                (2304#32, 80#32)
              else
                (2304#32, 1360#32)
          else
            if r.val < 87 then
              if r.val < 86 then
                (2304#32, 1400#32)
              else
                (2304#32, 1440#32)
            else
              if r.val < 88 then
                (2304#32, 2720#32)
              else
                if r.val < 89 then
                  (2304#32, 2760#32)
                else
                  (2304#32, 2800#32)
      else
        if r.val < 99 then
          if r.val < 94 then
            if r.val < 92 then
              if r.val < 91 then
                (2560#32, 0#32)
              else
                (2560#32, 40#32)
            else
              if r.val < 93 then
                (2560#32, 80#32)
              else
                (2560#32, 1360#32)
          else
            if r.val < 96 then
              if r.val < 95 then
                (2560#32, 1400#32)
              else
                (2560#32, 1440#32)
            else
              if r.val < 97 then
                (2560#32, 2720#32)
              else
                if r.val < 98 then
                  (2560#32, 2760#32)
                else
                  (2560#32, 2800#32)
        else
          if r.val < 103 then
            if r.val < 101 then
              if r.val < 100 then
                (2816#32, 0#32)
              else
                (2816#32, 40#32)
            else
              if r.val < 102 then
                (2816#32, 80#32)
              else
                (2816#32, 1360#32)
          else
            if r.val < 105 then
              if r.val < 104 then
                (2816#32, 1400#32)
              else
                (2816#32, 1440#32)
            else
              if r.val < 106 then
                (2816#32, 2720#32)
              else
                if r.val < 107 then
                  (2816#32, 2760#32)
                else
                  (2816#32, 2800#32)
    else
      if r.val < 126 then
        if r.val < 117 then
          if r.val < 112 then
            if r.val < 110 then
              if r.val < 109 then
                (3072#32, 0#32)
              else
                (3072#32, 40#32)
            else
              if r.val < 111 then
                (3072#32, 80#32)
              else
                (3072#32, 1360#32)
          else
            if r.val < 114 then
              if r.val < 113 then
                (3072#32, 1400#32)
              else
                (3072#32, 1440#32)
            else
              if r.val < 115 then
                (3072#32, 2720#32)
              else
                if r.val < 116 then
                  (3072#32, 2760#32)
                else
                  (3072#32, 2800#32)
        else
          if r.val < 121 then
            if r.val < 119 then
              if r.val < 118 then
                (3328#32, 0#32)
              else
                (3328#32, 40#32)
            else
              if r.val < 120 then
                (3328#32, 80#32)
              else
                (3328#32, 1360#32)
          else
            if r.val < 123 then
              if r.val < 122 then
                (3328#32, 1400#32)
              else
                (3328#32, 1440#32)
            else
              if r.val < 124 then
                (3328#32, 2720#32)
              else
                if r.val < 125 then
                  (3328#32, 2760#32)
                else
                  (3328#32, 2800#32)
      else
        if r.val < 135 then
          if r.val < 130 then
            if r.val < 128 then
              if r.val < 127 then
                (3584#32, 0#32)
              else
                (3584#32, 40#32)
            else
              if r.val < 129 then
                (3584#32, 80#32)
              else
                (3584#32, 1360#32)
          else
            if r.val < 132 then
              if r.val < 131 then
                (3584#32, 1400#32)
              else
                (3584#32, 1440#32)
            else
              if r.val < 133 then
                (3584#32, 2720#32)
              else
                if r.val < 134 then
                  (3584#32, 2760#32)
                else
                  (3584#32, 2800#32)
        else
          if r.val < 139 then
            if r.val < 137 then
              if r.val < 136 then
                (3840#32, 0#32)
              else
                (3840#32, 40#32)
            else
              if r.val < 138 then
                (3840#32, 80#32)
              else
                (3840#32, 1360#32)
          else
            if r.val < 141 then
              if r.val < 140 then
                (3840#32, 1400#32)
              else
                (3840#32, 1440#32)
            else
              if r.val < 142 then
                (3840#32, 2720#32)
              else
                if r.val < 143 then
                  (3840#32, 2760#32)
                else
                  (3840#32, 2800#32)
def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S47920x192 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S9x192x54 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x54 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4096x54 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]
-- ==== ReferenceIdeal.lean ====
abbrev S1x36x32x32x32 : Shape := ⟨5, ![1, 36, 32, 32, 32]⟩
abbrev S64x36x3x3x3 : Shape := ⟨5, ![64, 36, 3, 3, 3]⟩
abbrev S64 : Shape := ⟨1, ![64]⟩
abbrev S64x64x3x3x3 : Shape := ⟨5, ![64, 64, 3, 3, 3]⟩
abbrev S54x64x3x3x3 : Shape := ⟨5, ![54, 64, 3, 3, 3]⟩
abbrev S54 : Shape := ⟨1, ![54]⟩
abbrev S36x32x32x32 : Shape := ⟨4, ![36, 32, 32, 32]⟩
abbrev S_ : Shape := ⟨0, ![]⟩
abbrev S36x34x34x34 : Shape := ⟨4, ![36, 34, 34, 34]⟩
abbrev S36x34x34x32 : Shape := ⟨4, ![36, 34, 34, 32]⟩
abbrev S1x36x34x34x32 : Shape := ⟨5, ![1, 36, 34, 34, 32]⟩
abbrev S3x36x34x34x32 : Shape := ⟨5, ![3, 36, 34, 34, 32]⟩
abbrev S3x36x34x32x32 : Shape := ⟨5, ![3, 36, 34, 32, 32]⟩
abbrev S1x3x36x34x32x32 : Shape := ⟨6, ![1, 3, 36, 34, 32, 32]⟩
abbrev S3x3x36x34x32x32 : Shape := ⟨6, ![3, 3, 36, 34, 32, 32]⟩
abbrev S3x3x36x32x32x32 : Shape := ⟨6, ![3, 3, 36, 32, 32, 32]⟩
abbrev S1x3x3x36x32x32x32 : Shape := ⟨7, ![1, 3, 3, 36, 32, 32, 32]⟩
abbrev S3x3x3x36x32x32x32 : Shape := ⟨7, ![3, 3, 3, 36, 32, 32, 32]⟩
abbrev S64x32x32x32 : Shape := ⟨4, ![64, 32, 32, 32]⟩
abbrev S64x1x1x1 : Shape := ⟨4, ![64, 1, 1, 1]⟩
abbrev S64x34x34x34 : Shape := ⟨4, ![64, 34, 34, 34]⟩
abbrev S64x34x34x32 : Shape := ⟨4, ![64, 34, 34, 32]⟩
abbrev S1x64x34x34x32 : Shape := ⟨5, ![1, 64, 34, 34, 32]⟩
abbrev S3x64x34x34x32 : Shape := ⟨5, ![3, 64, 34, 34, 32]⟩
abbrev S3x64x34x32x32 : Shape := ⟨5, ![3, 64, 34, 32, 32]⟩
abbrev S1x3x64x34x32x32 : Shape := ⟨6, ![1, 3, 64, 34, 32, 32]⟩
abbrev S3x3x64x34x32x32 : Shape := ⟨6, ![3, 3, 64, 34, 32, 32]⟩
abbrev S3x3x64x32x32x32 : Shape := ⟨6, ![3, 3, 64, 32, 32, 32]⟩
abbrev S1x3x3x64x32x32x32 : Shape := ⟨7, ![1, 3, 3, 64, 32, 32, 32]⟩
abbrev S3x3x3x64x32x32x32 : Shape := ⟨7, ![3, 3, 3, 64, 32, 32, 32]⟩
abbrev S54x32x32x32 : Shape := ⟨4, ![54, 32, 32, 32]⟩
abbrev S54x1x1x1 : Shape := ⟨4, ![54, 1, 1, 1]⟩
abbrev S32x32x32x54 : Shape := ⟨4, ![32, 32, 32, 54]⟩
abbrev S1x294912x6 : Shape := ⟨3, ![1, 294912, 6]⟩

abbrev nBuf : Space → Nat
  | .hbm => 166
  | .vmem => 0
  | .smem => 0
  | _ => 0

abbrev hbmTy0_0 (i : Nat) : BufTy := match i % 128 with
  | 0 => ⟨S1x36x32x32x32, .f32⟩
  | 1 => ⟨S64x36x3x3x3, .f32⟩
  | 2 => ⟨S64, .f32⟩
  | 3 => ⟨S64x64x3x3x3, .f32⟩
  | 4 => ⟨S64, .f32⟩
  | 5 => ⟨S64x64x3x3x3, .f32⟩
  | 6 => ⟨S64, .f32⟩
  | 7 => ⟨S64x64x3x3x3, .f32⟩
  | 8 => ⟨S64, .f32⟩
  | 9 => ⟨S54x64x3x3x3, .f32⟩
  | 10 => ⟨S54, .f32⟩
  | 11 => ⟨S36x32x32x32, .f32⟩
  | 12 => ⟨S_, .i32⟩
  | 13 => ⟨S_, .f32⟩
  | 14 => ⟨S36x34x34x34, .f32⟩
  | 15 => ⟨S36x34x34x32, .f32⟩
  | 16 => ⟨S36x34x34x32, .f32⟩
  | 17 => ⟨S36x34x34x32, .f32⟩
  | 18 => ⟨S1x36x34x34x32, .f32⟩
  | 19 => ⟨S1x36x34x34x32, .f32⟩
  | 20 => ⟨S1x36x34x34x32, .f32⟩
  | 21 => ⟨S3x36x34x34x32, .f32⟩
  | 22 => ⟨S3x36x34x32x32, .f32⟩
  | 23 => ⟨S3x36x34x32x32, .f32⟩
  | 24 => ⟨S3x36x34x32x32, .f32⟩
  | 25 => ⟨S1x3x36x34x32x32, .f32⟩
  | 26 => ⟨S1x3x36x34x32x32, .f32⟩
  | 27 => ⟨S1x3x36x34x32x32, .f32⟩
  | 28 => ⟨S3x3x36x34x32x32, .f32⟩
  | 29 => ⟨S3x3x36x32x32x32, .f32⟩
  | 30 => ⟨S3x3x36x32x32x32, .f32⟩
  | 31 => ⟨S3x3x36x32x32x32, .f32⟩
  | 32 => ⟨S1x3x3x36x32x32x32, .f32⟩
  | 33 => ⟨S1x3x3x36x32x32x32, .f32⟩
  | 34 => ⟨S1x3x3x36x32x32x32, .f32⟩
  | 35 => ⟨S3x3x3x36x32x32x32, .f32⟩
  | 36 => ⟨S64x32x32x32, .f32⟩
  | 37 => ⟨S64x1x1x1, .f32⟩
  | 38 => ⟨S64x32x32x32, .f32⟩
  | 39 => ⟨S64x32x32x32, .f32⟩
  | 40 => ⟨S_, .f32⟩
  | 41 => ⟨S64x32x32x32, .f32⟩
  | 42 => ⟨S64x32x32x32, .f32⟩
  | 43 => ⟨S_, .i32⟩
  | 44 => ⟨S_, .f32⟩
  | 45 => ⟨S64x34x34x34, .f32⟩
  | 46 => ⟨S64x34x34x32, .f32⟩
  | 47 => ⟨S64x34x34x32, .f32⟩
  | 48 => ⟨S64x34x34x32, .f32⟩
  | 49 => ⟨S1x64x34x34x32, .f32⟩
  | 50 => ⟨S1x64x34x34x32, .f32⟩
  | 51 => ⟨S1x64x34x34x32, .f32⟩
  | 52 => ⟨S3x64x34x34x32, .f32⟩
  | 53 => ⟨S3x64x34x32x32, .f32⟩
  | 54 => ⟨S3x64x34x32x32, .f32⟩
  | 55 => ⟨S3x64x34x32x32, .f32⟩
  | 56 => ⟨S1x3x64x34x32x32, .f32⟩
  | 57 => ⟨S1x3x64x34x32x32, .f32⟩
  | 58 => ⟨S1x3x64x34x32x32, .f32⟩
  | 59 => ⟨S3x3x64x34x32x32, .f32⟩
  | 60 => ⟨S3x3x64x32x32x32, .f32⟩
  | 61 => ⟨S3x3x64x32x32x32, .f32⟩
  | 62 => ⟨S3x3x64x32x32x32, .f32⟩
  | 63 => ⟨S1x3x3x64x32x32x32, .f32⟩
  | 64 => ⟨S1x3x3x64x32x32x32, .f32⟩
  | 65 => ⟨S1x3x3x64x32x32x32, .f32⟩
  | 66 => ⟨S3x3x3x64x32x32x32, .f32⟩
  | 67 => ⟨S64x32x32x32, .f32⟩
  | 68 => ⟨S64x1x1x1, .f32⟩
  | 69 => ⟨S64x32x32x32, .f32⟩
  | 70 => ⟨S64x32x32x32, .f32⟩
  | 71 => ⟨S_, .f32⟩
  | 72 => ⟨S64x32x32x32, .f32⟩
  | 73 => ⟨S64x32x32x32, .f32⟩
  | 74 => ⟨S_, .i32⟩
  | 75 => ⟨S_, .f32⟩
  | 76 => ⟨S64x34x34x34, .f32⟩
  | 77 => ⟨S64x34x34x32, .f32⟩
  | 78 => ⟨S64x34x34x32, .f32⟩
  | 79 => ⟨S64x34x34x32, .f32⟩
  | 80 => ⟨S1x64x34x34x32, .f32⟩
  | 81 => ⟨S1x64x34x34x32, .f32⟩
  | 82 => ⟨S1x64x34x34x32, .f32⟩
  | 83 => ⟨S3x64x34x34x32, .f32⟩
  | 84 => ⟨S3x64x34x32x32, .f32⟩
  | 85 => ⟨S3x64x34x32x32, .f32⟩
  | 86 => ⟨S3x64x34x32x32, .f32⟩
  | 87 => ⟨S1x3x64x34x32x32, .f32⟩
  | 88 => ⟨S1x3x64x34x32x32, .f32⟩
  | 89 => ⟨S1x3x64x34x32x32, .f32⟩
  | 90 => ⟨S3x3x64x34x32x32, .f32⟩
  | 91 => ⟨S3x3x64x32x32x32, .f32⟩
  | 92 => ⟨S3x3x64x32x32x32, .f32⟩
  | 93 => ⟨S3x3x64x32x32x32, .f32⟩
  | 94 => ⟨S1x3x3x64x32x32x32, .f32⟩
  | 95 => ⟨S1x3x3x64x32x32x32, .f32⟩
  | 96 => ⟨S1x3x3x64x32x32x32, .f32⟩
  | 97 => ⟨S3x3x3x64x32x32x32, .f32⟩
  | 98 => ⟨S64x32x32x32, .f32⟩
  | 99 => ⟨S64x1x1x1, .f32⟩
  | 100 => ⟨S64x32x32x32, .f32⟩
  | 101 => ⟨S64x32x32x32, .f32⟩
  | 102 => ⟨S_, .f32⟩
  | 103 => ⟨S64x32x32x32, .f32⟩
  | 104 => ⟨S64x32x32x32, .f32⟩
  | 105 => ⟨S_, .i32⟩
  | 106 => ⟨S_, .f32⟩
  | 107 => ⟨S64x34x34x34, .f32⟩
  | 108 => ⟨S64x34x34x32, .f32⟩
  | 109 => ⟨S64x34x34x32, .f32⟩
  | 110 => ⟨S64x34x34x32, .f32⟩
  | 111 => ⟨S1x64x34x34x32, .f32⟩
  | 112 => ⟨S1x64x34x34x32, .f32⟩
  | 113 => ⟨S1x64x34x34x32, .f32⟩
  | 114 => ⟨S3x64x34x34x32, .f32⟩
  | 115 => ⟨S3x64x34x32x32, .f32⟩
  | 116 => ⟨S3x64x34x32x32, .f32⟩
  | 117 => ⟨S3x64x34x32x32, .f32⟩
  | 118 => ⟨S1x3x64x34x32x32, .f32⟩
  | 119 => ⟨S1x3x64x34x32x32, .f32⟩
  | 120 => ⟨S1x3x64x34x32x32, .f32⟩
  | 121 => ⟨S3x3x64x34x32x32, .f32⟩
  | 122 => ⟨S3x3x64x32x32x32, .f32⟩
  | 123 => ⟨S3x3x64x32x32x32, .f32⟩
  | 124 => ⟨S3x3x64x32x32x32, .f32⟩
  | 125 => ⟨S1x3x3x64x32x32x32, .f32⟩
  | 126 => ⟨S1x3x3x64x32x32x32, .f32⟩
  | 127 => ⟨S1x3x3x64x32x32x32, .f32⟩
  | _ => ⟨S1x36x32x32x32, .f32⟩

abbrev hbmTy0_1 (i : Nat) : BufTy := match i % 128 with
  | 0 => ⟨S3x3x3x64x32x32x32, .f32⟩
  | 1 => ⟨S64x32x32x32, .f32⟩
  | 2 => ⟨S64x1x1x1, .f32⟩
  | 3 => ⟨S64x32x32x32, .f32⟩
  | 4 => ⟨S64x32x32x32, .f32⟩
  | 5 => ⟨S_, .f32⟩
  | 6 => ⟨S64x32x32x32, .f32⟩
  | 7 => ⟨S64x32x32x32, .f32⟩
  | 8 => ⟨S_, .i32⟩
  | 9 => ⟨S_, .f32⟩
  | 10 => ⟨S64x34x34x34, .f32⟩
  | 11 => ⟨S64x34x34x32, .f32⟩
  | 12 => ⟨S64x34x34x32, .f32⟩
  | 13 => ⟨S64x34x34x32, .f32⟩
  | 14 => ⟨S1x64x34x34x32, .f32⟩
  | 15 => ⟨S1x64x34x34x32, .f32⟩
  | 16 => ⟨S1x64x34x34x32, .f32⟩
  | 17 => ⟨S3x64x34x34x32, .f32⟩
  | 18 => ⟨S3x64x34x32x32, .f32⟩
  | 19 => ⟨S3x64x34x32x32, .f32⟩
  | 20 => ⟨S3x64x34x32x32, .f32⟩
  | 21 => ⟨S1x3x64x34x32x32, .f32⟩
  | 22 => ⟨S1x3x64x34x32x32, .f32⟩
  | 23 => ⟨S1x3x64x34x32x32, .f32⟩
  | 24 => ⟨S3x3x64x34x32x32, .f32⟩
  | 25 => ⟨S3x3x64x32x32x32, .f32⟩
  | 26 => ⟨S3x3x64x32x32x32, .f32⟩
  | 27 => ⟨S3x3x64x32x32x32, .f32⟩
  | 28 => ⟨S1x3x3x64x32x32x32, .f32⟩
  | 29 => ⟨S1x3x3x64x32x32x32, .f32⟩
  | 30 => ⟨S1x3x3x64x32x32x32, .f32⟩
  | 31 => ⟨S3x3x3x64x32x32x32, .f32⟩
  | 32 => ⟨S54x32x32x32, .f32⟩
  | 33 => ⟨S54x1x1x1, .f32⟩
  | 34 => ⟨S54x32x32x32, .f32⟩
  | 35 => ⟨S54x32x32x32, .f32⟩
  | 36 => ⟨S32x32x32x54, .f32⟩
  | 37 => ⟨S1x294912x6, .f32⟩
  | _ => ⟨S1x36x32x32x32, .f32⟩

abbrev hbmTy (i : Nat) : BufTy := match i / 128 with
  | 0 => hbmTy0_0 i
  | 1 => hbmTy0_1 i
  | _ => ⟨S1x36x32x32x32, .f32⟩

abbrev bufTy : (tb : Table) → Fin (tcTables nBuf tb) → BufTy
  | .hbm, ⟨i, _⟩ => hbmTy i
  | _, _ => ⟨S1x36x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_c_0 : Ref sig .tc := ⟨.hbm, 43, rfl⟩
abbrev main_call1_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_1 : Ref sig .tc := ⟨.hbm, 71, rfl⟩
abbrev main_v55 : Ref sig .tc := ⟨.hbm, 72, rfl⟩
abbrev main_v56 : Ref sig .tc := ⟨.hbm, 73, rfl⟩
abbrev main_c_2 : Ref sig .tc := ⟨.hbm, 74, rfl⟩
abbrev main_call2_v0 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_3 : Ref sig .tc := ⟨.hbm, 102, rfl⟩
abbrev main_v83 : Ref sig .tc := ⟨.hbm, 103, rfl⟩
abbrev main_v84 : Ref sig .tc := ⟨.hbm, 104, rfl⟩
abbrev main_c_4 : Ref sig .tc := ⟨.hbm, 105, rfl⟩
abbrev main_call3_v0 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_cst_5 : Ref sig .tc := ⟨.hbm, 133, rfl⟩
abbrev main_v111 : Ref sig .tc := ⟨.hbm, 134, rfl⟩
abbrev main_v112 : Ref sig .tc := ⟨.hbm, 135, rfl⟩
abbrev main_c_6 : Ref sig .tc := ⟨.hbm, 136, rfl⟩
abbrev main_call4_v0 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩

abbrev nD : Nat := 1
abbrev τ : Topo := Topo.v7x

variable {F : FTy → Type} [FloatOps F]
-- ==== Proof.MidBody.lean ====
/-
  The mid kernel's body as nested loops: the printed body lists its 180 products one by one; here the same program is
  written as nine taps inside twenty sub-tiles followed by three masked stores, and the two are equal.
-/
module

public import proofs.«01_k».proof.Proof.Gen.Kernel
public import Idealize.ShloMosaic.Lib.Pipeline.Regions

@[expose] public section

noncomputable section

namespace Cert.Mid

open Cert.Kernel
open Idealize.ShloMosaic Idealize.SL.Sem
open Facts₀ Facts

variable {F : FTy → Type} [FloatOps F] [Cert.Kernel.Facts]

/-- The flat row shift of tap `t = 3 kd + kh`: one plane is 1360 rows, one line 40. -/
def tapOff (t : Nat) : Nat := 1360 * (t / 3) + 40 * (t % 3)

/-- The first row read by sub-tile `s`, tap `t`, at grid point `i`, in closed form. -/
theorem off1_eq (i : grid0.Coords) {s t : Nat} (hs : s < 20) (ht : t < 9) :
    k0_off1 i (BitVec.ofNat 32 (208 * s)) (BitVec.ofNat 32 (tapOff t)) = ![4096 * (i 0).val + 208 * s + tapOff t, 0] := by
  have hi : (i 0).val < 11 := (i 0).isLt
  have ht' : tapOff t ≤ 2800 := by unfold tapOff; omega
  simp only [k0_off1, Scalar.muli, Scalar.addi, Scalar.indexCast, IntOp.addi, IntOp.muli]
  congr 1
  simp [BitVec.toNat_add, BitVec.toNat_mul, BitVec.toNat_ofNat]
  omega

theorem off1_inb (i : grid0.Coords) {s t : Nat} (hs : s < 20) (ht : t < 9) (a : Fin 2) :
    k0_off1 i (BitVec.ofNat 32 (208 * s)) (BitVec.ofNat 32 (tapOff t)) a + S208x192.size a ≤ S47920x192.size a := by
  have hi : (i 0).val < 11 := (i 0).isLt
  have ht' : tapOff t ≤ 2800 := by unfold tapOff; omega
  rw [off1_eq i hs ht]
  fin_cases a
  · show 4096 * (i 0).val + 208 * s + tapOff t + 208 ≤ 47920; omega
  · show 0 + 192 ≤ 192; omega

theorem w_inb {t : Nat} (ht : t < 9) (a : Fin 3) : (![t, 0, 0] : Fin 3 → Nat) a + S1x192x64.size a ≤ S9x192x64.size a := by
  fin_cases a
  · show t + 1 ≤ 9; omega
  · show 0 + 192 ≤ 192; omega
  · show 0 + 64 ≤ 64; omega

theorem y_inb {s : Nat} (hs : s < 20) (a : Fin 2) : (![208 * s, 0] : Fin 2 → Nat) a + S208x64.size a ≤ S4160x64.size a := by
  fin_cases a
  · show 208 * s + 208 ≤ 4160; omega
  · show 0 + 64 ≤ 64; omega

section Program

variable (i : grid0.Coords) (arg1 : Memref sig .tc .vmem S47920x192 .bf16) (arg2 : Memref sig .tc .vmem S9x192x64 .bf16)
  (arg3 : Memref sig .tc .vmem S1x64 .f32) (arg4 : Memref sig .tc .vmem S4096x3 .bf16)
  (arg5 : Memref sig .tc .vmem S47920x192 .bf16) (harg5 : arg5.IsWhole) (arg6 : Memref sig .tc .vmem S4160x64 .f32)

/-- One tap of sub-tile `s`: its 208 packed rows times the tap's filter, added to the accumulator. -/
def tap (s t : Nat) (hs : s < 20) (ht : t < 9) (acc : FVec F S208x64 .f32) : Prog (TpuEff nD τ sig (Elt F) Λ₀ .tc) (FVec F S208x64 .f32) := do
  let a : Vec F S208x192 .bf16 ← Prog.lift (.load arg1 (Rect.unit (s := S47920x192) (k0_off1 i (BitVec.ofNat 32 (208 * s)) (BitVec.ofNat 32 (tapOff t))) S208x192.size (off1_inb i hs ht)).toLoadRect (View.loadsAt_vmem h_S208x192))
  let w : Vec F S1x192x64 .bf16 ← Prog.lift (.load arg2 (Rect.unit (s := S9x192x64) ![t, 0, 0] S1x192x64.size (w_inb ht)).toLoadRect (View.loadsAt_vmem h_S1x192x64))
  pure (addf acc (matmul dot_S208x192_S192x64_S208x64_1_0_0_1_n_n none (shapeCast S208x192 a shapeCasts_S208x192_S208x192) (shapeCast S192x64 w shapeCasts_S1x192x64_S192x64) (constant S208x64 .f32 0x00000000#32)))

/-- The first `n` taps of sub-tile `s`, from a zero accumulator. -/
def taps (s : Nat) (hs : s < 20) : (n : Nat) → n ≤ 9 → Prog (TpuEff nD τ sig (Elt F) Λ₀ .tc) (FVec F S208x64 .f32)
  | 0, _ => pure (broadcast S208x64 (Scalar.ofBits .f32 0x00000000#32))
  | n + 1, h => taps s hs n (Nat.le_of_succ_le h) >>= fun acc => tap i arg1 arg2 s n hs h acc

/-- Sub-tile `s`: its nine taps, the bias, the rectifier, and the store into the scratch rows it computes. -/
def sub (s : Nat) (hs : s < 20) : Prog (TpuEff nD τ sig (Elt F) Λ₀ .tc) PUnit := do
  let acc ← taps i arg1 arg2 s hs 9 (Nat.le_refl 9)
  let b : Vec F S1x64 .f32 ← Prog.lift (.load arg3 (Rect.unit (s := S1x64) ![0, 0] S1x64.size inb_S1x64_S1x64_0_0).toLoadRect (View.loadsAt_vmem h_S1x64))
  let _ : Vec F S208x64 .f32 ← Prog.lift (.load arg6 (Rect.unit (s := S4160x64) ![208 * s, 0] S208x64.size (y_inb hs)).toLoadRect (View.loadsAt_vmem h_S208x64))
  Prog.lift (.store arg6 (Rect.unit (s := S4160x64) ![208 * s, 0] S208x64.size (y_inb hs))
    (shapeCast S208x64 (maximumf (addf acc (broadcastTo S208x64 (shapeCast S1x64 b shapeCasts_S1x64_S1x64) broadcasts_S1x64_S208x64)) (broadcast S208x64 (Scalar.ofBits .f32 0x00000000#32))) shapeCasts_S208x64_S208x64)
    Finset.univ (View.stores_vmem_bits_univ h_S208x64 rfl) (.inl rfl))

/-- The first `n` sub-tiles. -/
def subs : (n : Nat) → n ≤ 20 → Prog (TpuEff nD τ sig (Elt F) Λ₀ .tc) PUnit
  | 0, _ => pure ⟨⟩
  | n + 1, h => subs n (Nat.le_of_succ_le h) >>= fun _ => sub i arg1 arg2 arg3 arg6 n h

/-- The first point's stores: zeros over the rows before and after those the grid computes. -/
def zeros : Prog (TpuEff nD τ sig (Elt F) Λ₀ .tc) PUnit := do
  let _ : Vec F S1408x192 .bf16 ← Prog.lift (.load arg5 (Rect.unit (s := S47920x192) ![0, 0] S1408x192.size inb_S47920x192_S1408x192_0_0).toLoadRect (View.loadsAt_vmem h_S1408x192))
  Prog.lift (.store arg5 (Rect.unit (s := S47920x192) ![0, 0] S1408x192.size inb_S47920x192_S1408x192_0_0) (broadcast S1408x192 (Scalar.ofBits .bf16 0x0000#16) : FVec F S1408x192 .bf16) Finset.univ (View.stores_vmem h_S1408x192 (harg5.storeExact_slice rfl _ packedbf16_S47920x192_S1408x192_0_0) (fun _ => rfl)) (.inl rfl))
  let _ : Vec F S1456x192 .bf16 ← Prog.lift (.load arg5 (Rect.unit (s := S47920x192) ![46464, 0] S1456x192.size inb_S47920x192_S1456x192_46464_0).toLoadRect (View.loadsAt_vmem h_S1456x192))
  Prog.lift (.store arg5 (Rect.unit (s := S47920x192) ![46464, 0] S1456x192.size inb_S47920x192_S1456x192_46464_0) (broadcast S1456x192 (Scalar.ofBits .bf16 0x0000#16) : FVec F S1456x192 .bf16) Finset.univ (View.stores_vmem h_S1456x192 (harg5.storeExact_slice rfl _ packedbf16_S47920x192_S1456x192_46464_0) (fun _ => rfl)) (.inl rfl))

/-- One masked store: scratch rows `7 + j …` masked by column `j` of the mask, into the output's rows at column block `j`. -/
def tail (j : Nat) (hy : ∀ a, (![7 + j, 0] : Fin 2 → Nat) a + S4096x64.size a ≤ S4160x64.size a)
    (hm : ∀ a, (![0, j] : Fin 2 → Nat) a + S4096x1.size a ≤ S4096x3.size a)
    (off : Fin 2 → Nat) (ho : ∀ a, off a + S4096x64.size a ≤ S47920x192.size a)
    (hp : (Rect.unit (s := S47920x192) off S4096x64.size ho).PackedRows (EltTy.packing .bf16)) : Prog (TpuEff nD τ sig (Elt F) Λ₀ .tc) PUnit := do
  let y : Vec F S4096x64 .f32 ← Prog.lift (.load arg6 (Rect.unit (s := S4160x64) ![7 + j, 0] S4096x64.size hy).toLoadRect (View.loadsAt_vmem h_S4096x64))
  let m : Vec F S4096x1 .bf16 ← Prog.lift (.load arg4 (Rect.unit (s := S4096x3) ![0, j] S4096x1.size hm).toLoadRect (View.loadsAt_vmem h_S4096x1))
  let _ : Vec F S4096x64 .bf16 ← Prog.lift (.load arg5 (Rect.unit (s := S47920x192) off S4096x64.size ho).toLoadRect (View.loadsAt_vmem h_S4096x64))
  Prog.lift (.store arg5 (Rect.unit (s := S47920x192) off S4096x64.size ho)
    (mulf (truncf .bf16 y bitsLt_bf16_f32) (broadcastTo S4096x64 (shapeCast S4096x1 m shapeCasts_S4096x1_S4096x1) broadcasts_S4096x1_S4096x64))
    Finset.univ (View.stores_vmem h_S4096x64 (harg5.storeExact_slice rfl _ hp) (fun _ => rfl)) (.inl rfl))

/-- The body without the first point's zero stores: twenty sub-tiles, then the three masked stores. -/
def loop : Prog (TpuEff nD τ sig (Elt F) Λ₀ .tc) PUnit := do
  subs i arg1 arg2 arg3 arg6 20 (Nat.le_refl 20)
  tail arg4 arg5 harg5 arg6 0 inb_S4160x64_S4096x64_7_0 inb_S4096x3_S4096x1_0_0 (k0_off2 i) (k0_off2_inb i) (k0_off2_packedbf16 i)
  tail arg4 arg5 harg5 arg6 1 inb_S4160x64_S4096x64_8_0 inb_S4096x3_S4096x1_0_1 (k0_off3 i) (k0_off3_inb i) (k0_off3_packedbf16 i)
  tail arg4 arg5 harg5 arg6 2 inb_S4160x64_S4096x64_9_0 inb_S4096x3_S4096x1_0_2 (k0_off4 i) (k0_off4_inb i) (k0_off4_packedbf16 i)

/-- The condition the body tests: is this the first grid point. -/
abbrev first : Prop := Scalar.cmpi .ne (Scalar.extui (Scalar.cmpi .eq (BitVec.ofNat 32 (i 0).val) 0#32) : BitVec 32) 0#32 = 1#1

theorem first_iff : first i ↔ (i 0).val = 0 := by
  have h : ∀ n : Fin 11, Scalar.cmpi .ne (Scalar.extui (Scalar.cmpi .eq (BitVec.ofNat 32 n.val) 0#32) : BitVec 32) 0#32 = 1#1 ↔ n.val = 0 := by decide
  exact h (i 0)

variable (harg1 : arg1.IsWhole) (harg2 : arg2.IsWhole) (harg3 : arg3.IsWhole) (harg4 : arg4.IsWhole) (harg6 : arg6.IsWhole)

/-- The printed body's opening statements, at a point other than the first. -/
theorem part1_neg (h : ¬ first i) : k0_part1 (F := F) i arg1 harg1 arg2 harg2 arg3 harg3 arg4 harg4 arg5 harg5 arg6 harg6 = (do
    let a0 ← taps i arg1 arg2 0 (by decide) 3 (by decide)
    let a : Vec F S208x192 .bf16 ← Prog.lift (.load arg1 (Rect.unit (s := S47920x192) (k0_off1 i 0#32 1360#32) S208x192.size (off1_inb (s := 0) (t := 3) i (by decide) (by decide))).toLoadRect (View.loadsAt_vmem h_S208x192))
    pure ⟨Scalar.muli (BitVec.ofNat 32 (i 0).val) 4096#32, Scalar.addi (Scalar.muli (BitVec.ofNat 32 (i 0).val) 4096#32) 0#32, a0, a⟩) := by
  unfold k0_part1
  refine (dif_neg h).trans ?_
  chain_rfl

/-- The same at the first point, after the zero stores. -/
theorem part1_pos (h : first i) : k0_part1 (F := F) i arg1 harg1 arg2 harg2 arg3 harg3 arg4 harg4 arg5 harg5 arg6 harg6 = (do
    zeros arg5 harg5
    let a0 ← taps i arg1 arg2 0 (by decide) 3 (by decide)
    let a : Vec F S208x192 .bf16 ← Prog.lift (.load arg1 (Rect.unit (s := S47920x192) (k0_off1 i 0#32 1360#32) S208x192.size (off1_inb (s := 0) (t := 3) i (by decide) (by decide))).toLoadRect (View.loadsAt_vmem h_S208x192))
    pure ⟨Scalar.muli (BitVec.ofNat 32 (i 0).val) 4096#32, Scalar.addi (Scalar.muli (BitVec.ofNat 32 (i 0).val) 4096#32) 0#32, a0, a⟩) := by
  unfold k0_part1
  refine (dif_pos h).trans ?_
  chain_rfl

/-- The printed body is the loops, at a point other than the first; -/
theorem body_neg (h : ¬ first i) : cc0__mid_body (F := F) i arg1 harg1 arg2 harg2 arg3 harg3 arg4 harg4 arg5 harg5 arg6 harg6
    = loop i arg1 arg2 arg3 arg4 arg5 harg5 arg6 := by
  unfold cc0__mid_body k0_part50
  rw [part1_neg i arg1 arg2 arg3 arg4 arg5 harg5 arg6 harg1 harg2 harg3 harg4 harg6 h]
  chain_rfl

/-- and at the first point the zero stores, then the loops. -/
theorem body_pos (h : first i) : cc0__mid_body (F := F) i arg1 harg1 arg2 harg2 arg3 harg3 arg4 harg4 arg5 harg5 arg6 harg6
    = zeros arg5 harg5 >>= fun _ => loop i arg1 arg2 arg3 arg4 arg5 harg5 arg6 := by
  unfold cc0__mid_body k0_part50
  rw [part1_pos i arg1 arg2 arg3 arg4 arg5 harg5 arg6 harg1 harg2 harg3 harg4 harg6 h]
  chain_rfl

end Program

end Cert.Mid

end
-- ==== Proof.RunCommon.lean ====
/-
  Shared by the two kernels' runs: the resource algebra, a memref's buffer held at contents, and what a store leaves read back.
-/
module

public import proofs.«01_k».proof.Proof.Gen.Kernel
public import Idealize.ShloMosaic.Lib.Tactic
public import Idealize.ShloMosaic.Lib.Pipeline.Frame
public import Idealize.ShloMosaic.Lib.Pipeline.FrameBody
public import Idealize.ShloMosaic.Lib.VecWindow

@[expose] public section

noncomputable section

namespace Cert.Run

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The certificate's resource algebra: the pipeline library's, and the counters its transfers take their tokens from. -/
abbrev UU : Type := UR sig nD τ × Counters

local notation "𝕄" => MT nD τ sig Unit (Elt F) ℕ UU ℕ

/-- A memref's buffer on core `c`: its contents, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- Reading a memref's contents. -/
abbrev rd {c : Dev nD} {sp : Space} {S : Shape} {e : EltTy} (M : Memref sig .tc sp S e) (f : Bf (F := F) c M) : S.Idx → Elt F e := M.view.read (Elt F) f

variable (c : Dev nD)

/-- What a store at a unit-stride rectangle leaves, read back: the old reading with the payload put there. -/
theorem rd_write {sp : Space} {S : Shape} {e : EltTy} (M : Memref sig .tc sp S e) (f : Bf (F := F) c M) {off size : Fin S.rank → Nat}
    (inb : ∀ a, off a + size a ≤ S.size a) (w : (Rect.unit off size inb).shape.Idx → Elt F e) :
    rd (c := c) M ((M.access (Rect.unit off size inb)).write (Elt F) f w Finset.univ) = VecWindow.put (rd M f) off size w :=
  View.read_writes_cons_put M.view f inb w [] rfl

end Cert.Run

end
-- ==== Proof.MidRun.lean ====
/-
  The mid kernel's body run at one grid point: each level of the loops steps over the one below, and the buffers' new
  contents are named as functions of the old ones.
-/
module

public import proofs.«01_k».proof.Proof.MidBody
public import proofs.«01_k».proof.Proof.RunCommon
public import Idealize.ShloMosaic.Lib.Tactic
public import Idealize.ShloMosaic.Lib.Pipeline.Frame
public import Idealize.ShloMosaic.Lib.Pipeline.FrameBody
public import Idealize.ShloMosaic.Lib.VecWindow

@[expose] public section

noncomputable section

namespace Cert.Mid

open Cert.Kernel Cert.Run
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F] [Cert.Kernel.Facts]

local notation "𝕄" => MT nD τ sig Unit (Elt F) ℕ UU ℕ

section Values

variable (i : grid0.Coords) (u : S47920x192.Idx → Elt F .bf16) (w : S9x192x64.Idx → Elt F .bf16) (b : S1x64.Idx → Elt F .f32) (mk : S4096x3.Idx → Elt F .bf16)

/-- The rows tap `t` of sub-tile `s` reads, and the tap's filter. -/
def rowsV {s t : Nat} (hs : s < 20) (ht : t < 9) : FVec F S208x192 .bf16 :=
  VecWindow.window u (k0_off1 i (BitVec.ofNat 32 (208 * s)) (BitVec.ofNat 32 (tapOff t))) S208x192.size (off1_inb i hs ht)
def filtV {t : Nat} (ht : t < 9) : FVec F S1x192x64 .bf16 := VecWindow.window w ![t, 0, 0] S1x192x64.size (w_inb ht)

/-- The accumulator after one more tap. -/
def tapV {s t : Nat} (hs : s < 20) (ht : t < 9) (acc : FVec F S208x64 .f32) : FVec F S208x64 .f32 :=
  addf acc (matmul dot_S208x192_S192x64_S208x64_1_0_0_1_n_n none (shapeCast S208x192 (rowsV i u hs ht) shapeCasts_S208x192_S208x192)
    (shapeCast S192x64 (filtV w ht) shapeCasts_S1x192x64_S192x64) (constant S208x64 .f32 0x00000000#32))

/-- The accumulator after the first `n` taps. -/
def accV {s : Nat} (hs : s < 20) : (n : Nat) → n ≤ 9 → FVec F S208x64 .f32
  | 0, _ => broadcast S208x64 (Scalar.ofBits .f32 0x00000000#32)
  | n + 1, h => tapV i u w hs h (accV hs n (Nat.le_of_succ_le h))

/-- What sub-tile `s` stores: the rectified sum of its taps and the bias. -/
def subV {s : Nat} (hs : s < 20) : FVec F S208x64 .f32 :=
  shapeCast S208x64 (maximumf (addf (accV i u w hs 9 (Nat.le_refl 9)) (broadcastTo S208x64 (shapeCast S1x64 (b : FVec F S1x64 .f32) shapeCasts_S1x64_S1x64) broadcasts_S1x64_S208x64))
    (broadcast S208x64 (Scalar.ofBits .f32 0x00000000#32))) shapeCasts_S208x64_S208x64

/-- The scratch after the first `n` sub-tiles. -/
def scrV (g : S4160x64.Idx → Elt F .f32) : (n : Nat) → n ≤ 20 → (S4160x64.Idx → Elt F .f32)
  | 0, _ => g
  | n + 1, h => VecWindow.put (scrV g n (Nat.le_of_succ_le h)) ![208 * n, 0] S208x64.size (subV i u w b h)

/-- What one masked store writes. -/
def tailV (j : Nat) (hy : ∀ a, (![7 + j, 0] : Fin 2 → Nat) a + S4096x64.size a ≤ S4160x64.size a)
    (hm : ∀ a, (![0, j] : Fin 2 → Nat) a + S4096x1.size a ≤ S4096x3.size a) (g : S4160x64.Idx → Elt F .f32) : FVec F S4096x64 .bf16 :=
  mulf (truncf .bf16 (VecWindow.window g ![7 + j, 0] S4096x64.size hy : FVec F S4096x64 .f32) bitsLt_bf16_f32)
    (broadcastTo S4096x64 (shapeCast S4096x1 (VecWindow.window mk ![0, j] S4096x1.size hm : FVec F S4096x1 .bf16) shapeCasts_S4096x1_S4096x1) broadcasts_S4096x1_S4096x64)

/-- The output buffer after the three masked stores. -/
def tailsV (g : S4160x64.Idx → Elt F .f32) (X : S47920x192.Idx → Elt F .bf16) : S47920x192.Idx → Elt F .bf16 :=
  VecWindow.put (VecWindow.put (VecWindow.put X (k0_off2 i) S4096x64.size (tailV mk 0 inb_S4160x64_S4096x64_7_0 inb_S4096x3_S4096x1_0_0 g))
    (k0_off3 i) S4096x64.size (tailV mk 1 inb_S4160x64_S4096x64_8_0 inb_S4096x3_S4096x1_0_1 g))
    (k0_off4 i) S4096x64.size (tailV mk 2 inb_S4160x64_S4096x64_9_0 inb_S4096x3_S4096x1_0_2 g)

/-- The output buffer after the first point's zero stores. -/
def zerosV (X : S47920x192.Idx → Elt F .bf16) : S47920x192.Idx → Elt F .bf16 :=
  VecWindow.put (VecWindow.put X ![0, 0] S1408x192.size (broadcast S1408x192 (Scalar.ofBits .bf16 0x0000#16) : FVec F S1408x192 .bf16))
    ![46464, 0] S1456x192.size (broadcast S1456x192 (Scalar.ofBits .bf16 0x0000#16) : FVec F S1456x192 .bf16)

end Values

variable (defs : Defs nD τ sig (Elt F) Λ₀) (c : Dev nD)
variable (i : grid0.Coords) (arg1 : Memref sig .tc .vmem S47920x192 .bf16) (arg2 : Memref sig .tc .vmem S9x192x64 .bf16)
  (arg3 : Memref sig .tc .vmem S1x64 .f32) (arg4 : Memref sig .tc .vmem S4096x3 .bf16)
  (arg5 : Memref sig .tc .vmem S47920x192 .bf16) (harg5 : arg5.IsWhole) (arg6 : Memref sig .tc .vmem S4160x64 .f32)

theorem wp_tap (f1 : Bf (F := F) c arg1) (f2 : Bf (F := F) c arg2) (s t : Nat) (hs : s < 20) (ht : t < 9) (acc : FVec F S208x64 .f32) (E : Set ℕ) (Q : FVec F S208x64 .f32 → sProp 𝕄) :
    iprop(pt c arg1 f1 ∗ pt c arg2 f2 ∗ (iprop(pt c arg1 f1 ∗ pt c arg2 f2) -∗ Q (tapV i (rd arg1 f1) (rd arg2 f2) hs ht acc)))
      ⊢ wp frame (wpE defs Variants.none c none) E (tap i arg1 arg2 s t hs ht acc) Q := by
  have key : tapV i (rd arg1 f1) (rd arg2 f2) hs ht acc = addf acc (matmul dot_S208x192_S192x64_S208x64_1_0_0_1_n_n none
      (shapeCast S208x192 (View.readAt (Elt F) arg1.view (Rect.unit (s := S47920x192) (k0_off1 i (BitVec.ofNat 32 (208 * s)) (BitVec.ofNat 32 (tapOff t))) S208x192.size (off1_inb i hs ht)).toLoadRect f1) shapeCasts_S208x192_S208x192)
      (shapeCast S192x64 (View.readAt (Elt F) arg2.view (Rect.unit (s := S9x192x64) ![t, 0, 0] S1x192x64.size (w_inb ht)).toLoadRect f2) shapeCasts_S1x192x64_S192x64)
      (constant S208x64 .f32 0x00000000#32)) := rfl
  rw [key]
  unfold tap
  simp only [Prog.lift, Prog.bind_op, Prog.bind_ret, Pure.pure]
  iintro ⟨H1, H2, Hk⟩
  sl_step
  sl_step
  sl_step
  iapply Hk
  isplitl [H1]; · iexact H1
  iexact H2

theorem wp_taps (f1 : Bf (F := F) c arg1) (f2 : Bf (F := F) c arg2) (s : Nat) (hs : s < 20) (E : Set ℕ) : (n : Nat) → (h : n ≤ 9) → (Q : FVec F S208x64 .f32 → sProp 𝕄) →
    (iprop(pt c arg1 f1 ∗ pt c arg2 f2 ∗ (iprop(pt c arg1 f1 ∗ pt c arg2 f2) -∗ Q (accV i (rd arg1 f1) (rd arg2 f2) hs n h)))
      ⊢ wp frame (wpE defs Variants.none c none) E (taps i arg1 arg2 s hs n h) Q)
  | 0, _, Q => by
    unfold taps accV
    simp only [Pure.pure]
    iintro ⟨H1, H2, Hk⟩
    sl_step
    iapply Hk
    isplitl [H1]; · iexact H1
    iexact H2
  | n + 1, h, Q => by
    unfold taps accV
    rw [wp_bind]
    refine BIBase.Entails.trans ?_ (wp_taps f1 f2 s hs E n _ _)
    iintro ⟨H1, H2, Hk⟩
    isplitl [H1]; · iexact H1
    isplitl [H2]; · iexact H2
    iintro ⟨H1, H2⟩
    iapply (wp_tap defs c i arg1 arg2 f1 f2 s n hs h _ E Q)
    isplitl [H1]; · iexact H1
    isplitl [H2]; · iexact H2
    iexact Hk

attribute [local irreducible] taps accV VecWindow.put in
theorem wp_sub (f1 : Bf (F := F) c arg1) (f2 : Bf (F := F) c arg2) (f3 : Bf (F := F) c arg3) (g : Bf (F := F) c arg6) (s : Nat) (hs : s < 20) (E : Set ℕ) (Q : PUnit → sProp 𝕄) :
    iprop(pt c arg1 f1 ∗ pt c arg2 f2 ∗ pt c arg3 f3 ∗ pt c arg6 g ∗ (∀ g' : Bf (F := F) c arg6,
        ⌜rd arg6 g' = VecWindow.put (rd arg6 g) ![208 * s, 0] S208x64.size (subV i (rd arg1 f1) (rd arg2 f2) (rd arg3 f3) hs)⌝ -∗ pt c arg1 f1 -∗ pt c arg2 f2 -∗ pt c arg3 f3 -∗ pt c arg6 g' -∗ Q ⟨⟩))
      ⊢ wp frame (wpE defs Variants.none c none) E (sub i arg1 arg2 arg3 arg6 s hs) Q := by
  unfold sub
  rw [wp_bind]
  refine BIBase.Entails.trans ?_ (wp_taps defs c i arg1 arg2 f1 f2 s hs E 9 _ _)
  iintro ⟨H1, H2, H3, H6, Hk⟩
  isplitl [H1]; · iexact H1
  isplitl [H2]; · iexact H2
  iintro ⟨H1, H2⟩
  simp only [Prog.lift, Prog.bind_op, Prog.bind_ret, Pure.pure]
  sl_step
  sl_step
  sl_step
  sl_step
  iapply Hk $$ [] H1 H2 H3 H6
  ipureintro
  refine (rd_write c arg6 g (y_inb hs) _).trans ?_
  unfold subV
  have e : rd arg3 f3 = View.readAt (Elt F) arg3.view (Rect.unit ![0, 0] S1x64.size inb_S1x64_S1x64_0_0).toLoadRect f3 :=
    (View.readAt_full arg3.view f3 inb_S1x64_S1x64_0_0).symm
  rw [e]

theorem wp_subs (f1 : Bf (F := F) c arg1) (f2 : Bf (F := F) c arg2) (f3 : Bf (F := F) c arg3) (g : Bf (F := F) c arg6) (E : Set ℕ) : (n : Nat) → (h : n ≤ 20) → (Q : PUnit → sProp 𝕄) →
    (iprop(pt c arg1 f1 ∗ pt c arg2 f2 ∗ pt c arg3 f3 ∗ pt c arg6 g ∗ (∀ g' : Bf (F := F) c arg6,
        ⌜rd arg6 g' = scrV i (rd arg1 f1) (rd arg2 f2) (rd arg3 f3) (rd arg6 g) n h⌝ -∗ pt c arg1 f1 -∗ pt c arg2 f2 -∗ pt c arg3 f3 -∗ pt c arg6 g' -∗ Q ⟨⟩))
      ⊢ wp frame (wpE defs Variants.none c none) E (subs i arg1 arg2 arg3 arg6 n h) Q)
  | 0, _, Q => by
    unfold subs
    simp only [Pure.pure]
    iintro ⟨H1, H2, H3, H6, Hk⟩
    sl_step
    iapply Hk $$ [] H1 H2 H3 H6
    ipureintro
    rfl
  | n + 1, h, Q => by
    unfold subs
    rw [wp_bind]
    refine BIBase.Entails.trans ?_ (wp_subs f1 f2 f3 g E n _ _)
    iintro ⟨H1, H2, H3, H6, Hk⟩
    isplitl [H1]; · iexact H1
    isplitl [H2]; · iexact H2
    isplitl [H3]; · iexact H3
    isplitl [H6]; · iexact H6
    iintro %g' %hg H1 H2 H3 H6
    iapply (wp_sub defs c i arg1 arg2 arg3 arg6 f1 f2 f3 g' n h E Q)
    isplitl [H1]; · iexact H1
    isplitl [H2]; · iexact H2
    isplitl [H3]; · iexact H3
    isplitl [H6]; · iexact H6
    iintro %g'' %hg' H1 H2 H3 H6
    iapply Hk $$ [] H1 H2 H3 H6
    ipureintro
    rw [hg', hg]
    rfl

theorem wp_tail (f4 : Bf (F := F) c arg4) (f5 : Bf (F := F) c arg5) (g : Bf (F := F) c arg6) (j : Nat)
    (hy : ∀ a, (![7 + j, 0] : Fin 2 → Nat) a + S4096x64.size a ≤ S4160x64.size a)
    (hm : ∀ a, (![0, j] : Fin 2 → Nat) a + S4096x1.size a ≤ S4096x3.size a)
    (off : Fin 2 → Nat) (ho : ∀ a, off a + S4096x64.size a ≤ S47920x192.size a)
    (hp : (Rect.unit (s := S47920x192) off S4096x64.size ho).PackedRows (EltTy.packing .bf16)) (E : Set ℕ) (Q : PUnit → sProp 𝕄) :
    iprop(pt c arg4 f4 ∗ pt c arg5 f5 ∗ pt c arg6 g ∗ (∀ f' : Bf (F := F) c arg5,
        ⌜rd arg5 f' = VecWindow.put (rd arg5 f5) off S4096x64.size (tailV (rd arg4 f4) j hy hm (rd arg6 g))⌝ -∗ pt c arg4 f4 -∗ pt c arg5 f' -∗ pt c arg6 g -∗ Q ⟨⟩))
      ⊢ wp frame (wpE defs Variants.none c none) E (tail arg4 arg5 harg5 arg6 j hy hm off ho hp) Q := by
  unfold tail
  simp only [Prog.lift, Prog.bind_op, Prog.bind_ret, Pure.pure]
  iintro ⟨H4, H5, H6, Hk⟩
  sl_step
  sl_step
  sl_step
  sl_step
  sl_step
  iapply Hk $$ [] H4 H5 H6
  ipureintro
  exact rd_write c arg5 f5 _ _

theorem wp_zeros (f5 : Bf (F := F) c arg5) (E : Set ℕ) (Q : PUnit → sProp 𝕄) :
    iprop(pt c arg5 f5 ∗ (∀ f' : Bf (F := F) c arg5, ⌜rd arg5 f' = zerosV (rd arg5 f5)⌝ -∗ pt c arg5 f' -∗ Q ⟨⟩))
      ⊢ wp frame (wpE defs Variants.none c none) E (zeros arg5 harg5) Q := by
  unfold zeros
  simp only [Prog.lift, Prog.bind_op, Prog.bind_ret, Pure.pure]
  iintro ⟨H5, Hk⟩
  sl_step
  sl_step
  sl_step
  sl_step
  sl_step
  iapply Hk $$ [] H5
  ipureintro
  unfold zerosV
  refine (View.read_writes_cons_put arg5.view f5 _ _ _ rfl).trans ?_
  rw [View.read_writes_cons_put arg5.view f5 _ _ _ rfl]
  rfl

attribute [local irreducible] subs scrV tail tailV VecWindow.put in
theorem wp_loop (f1 : Bf (F := F) c arg1) (f2 : Bf (F := F) c arg2) (f3 : Bf (F := F) c arg3) (f4 : Bf (F := F) c arg4) (f5 : Bf (F := F) c arg5) (g : Bf (F := F) c arg6)
    (E : Set ℕ) (Q : PUnit → sProp 𝕄) :
    iprop(pt c arg1 f1 ∗ pt c arg2 f2 ∗ pt c arg3 f3 ∗ pt c arg4 f4 ∗ pt c arg5 f5 ∗ pt c arg6 g ∗ (∀ (f' : Bf (F := F) c arg5) (g' : Bf (F := F) c arg6),
        ⌜rd arg5 f' = tailsV i (rd arg4 f4) (scrV i (rd arg1 f1) (rd arg2 f2) (rd arg3 f3) (rd arg6 g) 20 (Nat.le_refl 20)) (rd arg5 f5)⌝
          -∗ pt c arg1 f1 -∗ pt c arg2 f2 -∗ pt c arg3 f3 -∗ pt c arg4 f4 -∗ pt c arg5 f' -∗ pt c arg6 g' -∗ Q ⟨⟩))
      ⊢ wp frame (wpE defs Variants.none c none) E (loop i arg1 arg2 arg3 arg4 arg5 harg5 arg6) Q := by
  unfold loop
  simp only [wp_bind]
  refine BIBase.Entails.trans ?_ (wp_subs defs c i arg1 arg2 arg3 arg6 f1 f2 f3 g E 20 _ _)
  iintro ⟨H1, H2, H3, H4, H5, H6, Hk⟩
  isplitl [H1]; · iexact H1
  isplitl [H2]; · iexact H2
  isplitl [H3]; · iexact H3
  isplitl [H6]; · iexact H6
  iintro %g' %hg H1 H2 H3 H6
  iapply (wp_tail defs c arg4 arg5 harg5 arg6 f4 f5 g' 0 _ _ _ _ _ E _)
  isplitl [H4]; · iexact H4
  isplitl [H5]; · iexact H5
  isplitl [H6]; · iexact H6
  iintro %a %ha H4 H5 H6
  iapply (wp_tail defs c arg4 arg5 harg5 arg6 f4 a g' 1 _ _ _ _ _ E _)
  isplitl [H4]; · iexact H4
  isplitl [H5]; · iexact H5
  isplitl [H6]; · iexact H6
  iintro %a' %ha' H4 H5 H6
  iapply (wp_tail defs c arg4 arg5 harg5 arg6 f4 a' g' 2 _ _ _ _ _ E _)
  isplitl [H4]; · iexact H4
  isplitl [H5]; · iexact H5
  isplitl [H6]; · iexact H6
  iintro %a'' %ha'' H4 H5 H6
  iapply Hk $$ [] H1 H2 H3 H4 H5 H6
  ipureintro
  rw [ha'', ha', ha, hg]
  rfl

/-- The output buffer after the whole body at grid point `i`, of what it held before and the scratch. -/
def stepV (i : grid0.Coords) (u : S47920x192.Idx → Elt F .bf16) (w : S9x192x64.Idx → Elt F .bf16) (b : S1x64.Idx → Elt F .f32) (mk : S4096x3.Idx → Elt F .bf16)
    (g : S4160x64.Idx → Elt F .f32) (X : S47920x192.Idx → Elt F .bf16) : S47920x192.Idx → Elt F .bf16 :=
  tailsV i mk (scrV i u w b g 20 (Nat.le_refl 20)) (if (i 0).val = 0 then zerosV X else X)

attribute [local irreducible] loop zeros tailsV scrV zerosV cc0__mid_body in
/-- The printed body at one grid point: the inputs stay, the output buffer takes the step. -/
theorem wp_body (harg1 : arg1.IsWhole) (harg2 : arg2.IsWhole) (harg3 : arg3.IsWhole) (harg4 : arg4.IsWhole) (harg6 : arg6.IsWhole)
    (f1 : Bf (F := F) c arg1) (f2 : Bf (F := F) c arg2) (f3 : Bf (F := F) c arg3) (f4 : Bf (F := F) c arg4) (f5 : Bf (F := F) c arg5) (g : Bf (F := F) c arg6)
    (E : Set ℕ) (Q : PUnit → sProp 𝕄) :
    iprop(pt c arg1 f1 ∗ pt c arg2 f2 ∗ pt c arg3 f3 ∗ pt c arg4 f4 ∗ pt c arg5 f5 ∗ pt c arg6 g ∗ (∀ (f' : Bf (F := F) c arg5) (g' : Bf (F := F) c arg6),
        ⌜rd arg5 f' = stepV i (rd arg1 f1) (rd arg2 f2) (rd arg3 f3) (rd arg4 f4) (rd arg6 g) (rd arg5 f5)⌝
          -∗ pt c arg1 f1 -∗ pt c arg2 f2 -∗ pt c arg3 f3 -∗ pt c arg4 f4 -∗ pt c arg5 f' -∗ pt c arg6 g' -∗ Q ⟨⟩))
      ⊢ wp frame (wpE defs Variants.none c none) E (cc0__mid_body i arg1 harg1 arg2 harg2 arg3 harg3 arg4 harg4 arg5 harg5 arg6 harg6) Q := by
  by_cases h : first i
  · rw [body_pos i arg1 arg2 arg3 arg4 arg5 harg5 arg6 harg1 harg2 harg3 harg4 harg6 h, wp_bind]
    unfold stepV
    rw [if_pos ((first_iff i).mp h)]
    refine BIBase.Entails.trans ?_ (wp_zeros defs c arg5 harg5 f5 E _)
    iintro ⟨H1, H2, H3, H4, H5, H6, Hk⟩
    isplitl [H5]; · iexact H5
    iintro %f' %hf H5
    rw [← hf]
    iapply (wp_loop defs c i arg1 arg2 arg3 arg4 arg5 harg5 arg6 f1 f2 f3 f4 f' g E Q)
    isplitl [H1]; · iexact H1
    isplitl [H2]; · iexact H2
    isplitl [H3]; · iexact H3
    isplitl [H4]; · iexact H4
    isplitl [H5]; · iexact H5
    isplitl [H6]; · iexact H6
    iexact Hk
  · rw [body_neg i arg1 arg2 arg3 arg4 arg5 harg5 arg6 harg1 harg2 harg3 harg4 harg6 h]
    unfold stepV
    rw [if_neg (mt (first_iff i).mpr h)]
    exact wp_loop defs c i arg1 arg2 arg3 arg4 arg5 harg5 arg6 f1 f2 f3 f4 f5 g E Q

end Cert.Mid

end
-- ==== Proof.MidOut.lean ====
/-
  What the mid kernel leaves in its output buffer once every grid point has run, as one function of its inputs, and how
  one grid point's step brings the buffer nearer to it.
-/
module

public import proofs.«01_k».proof.Proof.MidRun

@[expose] public section

noncomputable section

namespace Cert.Mid

open Cert.Kernel Cert.Run
open Idealize.ShloMosaic
open Facts₀ Facts

variable {F : FTy → Type} [FloatOps F] [Cert.Kernel.Facts]

variable (i : grid0.Coords) (u : S47920x192.Idx → Elt F .bf16) (w : S9x192x64.Idx → Elt F .bf16) (b : S1x64.Idx → Elt F .f32) (mk : S4096x3.Idx → Elt F .bf16)

/-- An index of the scratch, and of a block of stored rows. -/
def ixY (r c : Nat) (hr : r < 4160) (hc : c < 64) : S4160x64.Idx := fun | 0 => ⟨r, hr⟩ | 1 => ⟨c, hc⟩
def ixS (r c : Nat) (hr : r < 208) (hc : c < 64) : S208x64.Idx := fun | 0 => ⟨r, hr⟩ | 1 => ⟨c, hc⟩
def ixT (r c : Nat) (hr : r < 4096) (hc : c < 64) : S4096x64.Idx := fun | 0 => ⟨r, hr⟩ | 1 => ⟨c, hc⟩

theorem ixT_congr {r c r' c' : Nat} (hr : r < 4096) (hc : c < 64) (hr' : r' < 4096) (hc' : c' < 64) (er : r = r') (ec : c = c') :
    ixT r c hr hc = ixT r' c' hr' hc' := by subst er; subst ec; rfl

/-- The scratch once all its sub-tiles are stored: row `r` belongs to sub-tile `r / 208`. -/
def yV : S4160x64.Idx → Elt F .f32 := fun x =>
  subV i u w b (s := (x 0).val / 208) (by have h : (x 0).val < 4160 := (x 0).isLt; omega)
    (ixS ((x 0).val % 208) (x 1).val (Nat.mod_lt _ (by decide)) (x 1).isLt)

theorem subV_congr {s s' : Nat} (hs : s < 20) (hs' : s' < 20) (e : s = s') (y y' : S208x64.Idx) (ey : y = y') : subV i u w b hs y = subV i u w b hs' y' := by
  subst e; subst ey; rfl

/-- After `n` sub-tiles the rows below `208 n` are the final ones. -/
theorem scrV_at (g : S4160x64.Idx → Elt F .f32) : (n : Nat) → (h : n ≤ 20) → (x : S4160x64.Idx) → (x 0).val < 208 * n → scrV i u w b g n h x = yV i u w b x
  | 0, _, x, hx => absurd hx (by omega)
  | n + 1, h, x, hx => by
    have h1 : (x 1).val < 64 := (x 1).isLt
    unfold scrV VecWindow.put
    split
    · next hin =>
      have h0 : 208 * n ≤ (x 0).val ∧ (x 0).val < 208 * n + 208 := hin 0
      refine subV_congr i u w b _ _ (by omega) _ _ ?_
      funext a
      refine Fin.ext ?_
      match a with
      | 0 => show (x 0).val - 208 * n = (x 0).val % 208; omega
      | 1 => show (x 1).val - 0 = (x 1).val; omega
    · next hout =>
      refine scrV_at g n _ x ?_
      by_contra hlt
      refine hout fun a => ?_
      match a with
      | 0 => exact ⟨by show 208 * n ≤ (x 0).val; omega, by show (x 0).val < 208 * n + 208; omega⟩
      | 1 => exact ⟨Nat.zero_le _, by show (x 1).val < 0 + 64; omega⟩

theorem scrV_full (g : S4160x64.Idx → Elt F .f32) : scrV i u w b g 20 (Nat.le_refl 20) = yV i u w b :=
  funext fun x => scrV_at i u w b g 20 _ x (x 0).isLt

theorem y_off_inb {j : Nat} (hj : j < 3) (a : Fin 2) : (![7 + j, 0] : Fin 2 → Nat) a + S4096x64.size a ≤ S4160x64.size a := by
  fin_cases a
  · show 7 + j + 4096 ≤ 4160; omega
  · show 0 + 64 ≤ 64; omega

theorem mk_off_inb {j : Nat} (hj : j < 3) (a : Fin 2) : (![0, j] : Fin 2 → Nat) a + S4096x1.size a ≤ S4096x3.size a := by
  fin_cases a
  · show 0 + 4096 ≤ 4096; omega
  · show j + 1 ≤ 3; omega

/-- The first row and column of the three masked stores. -/
theorem off2_eq : k0_off2 i = ![4096 * (i 0).val + 1408, 0] := by
  have hi : (i 0).val < 11 := (i 0).isLt
  simp only [k0_off2, Scalar.muli, Scalar.addi, Scalar.indexCast, IntOp.addi, IntOp.muli]
  congr 1
  simp [BitVec.toNat_add, BitVec.toNat_mul, BitVec.toNat_ofNat]
  omega
theorem off3_eq : k0_off3 i = ![4096 * (i 0).val + 1408, 64] := by
  have hi : (i 0).val < 11 := (i 0).isLt
  simp only [k0_off3, Scalar.muli, Scalar.addi, Scalar.indexCast, IntOp.addi, IntOp.muli]
  congr 1
  simp [BitVec.toNat_add, BitVec.toNat_mul, BitVec.toNat_ofNat]
  omega
theorem off4_eq : k0_off4 i = ![4096 * (i 0).val + 1408, 128] := by
  have hi : (i 0).val < 11 := (i 0).isLt
  simp only [k0_off4, Scalar.muli, Scalar.addi, Scalar.indexCast, IntOp.addi, IntOp.muli]
  congr 1
  simp [BitVec.toNat_add, BitVec.toNat_mul, BitVec.toNat_ofNat]
  omega

/-- One store of a block of rows, read at an index. -/
theorem put_rows (X : S47920x192.Idx → Elt F .bf16) (r0 c0 : Nat) (v : FVec F S4096x64 .bf16) (x : S47920x192.Idx) :
    VecWindow.put X ![r0, c0] S4096x64.size v x
      = if h : (r0 ≤ (x 0).val ∧ (x 0).val < r0 + 4096) ∧ (c0 ≤ (x 1).val ∧ (x 1).val < c0 + 64)
        then v (ixT ((x 0).val - r0) ((x 1).val - c0) (by omega) (by omega)) else X x := by
  unfold VecWindow.put
  by_cases h : (r0 ≤ (x 0).val ∧ (x 0).val < r0 + 4096) ∧ (c0 ≤ (x 1).val ∧ (x 1).val < c0 + 64)
  · have h' : ∀ a : Fin 2, (![r0, c0] : Fin 2 → Nat) a ≤ (x a).val ∧ (x a).val < (![r0, c0] : Fin 2 → Nat) a + S4096x64.size a := by
      intro a
      match a with
      | 0 => exact h.1
      | 1 => exact h.2
    rw [dif_pos h, dif_pos h']
    congr 1
    funext a
    refine Fin.ext ?_
    match a with
    | 0 => rfl
    | 1 => rfl
  · rw [dif_neg h, dif_neg]
    intro h'
    exact h ⟨h' 0, h' 1⟩

/-- What the masked store of column group `j` writes. -/
abbrev tailAt (j : Nat) (hj : j < 3) : FVec F S4096x64 .bf16 := tailV mk j (y_off_inb hj) (mk_off_inb hj) (yV i u w b)

theorem tailAt_congr {j j' : Nat} (hj : j < 3) (hj' : j' < 3) (e : j = j') (y y' : S4096x64.Idx) (ey : y = y') :
    tailAt i u w b mk j hj y = tailAt i u w b mk j' hj' y' := by subst e; subst ey; rfl

/-- The rows grid point `i` stores. -/
def inRows (i : grid0.Coords) (x : S47920x192.Idx) : Prop := 4096 * (i 0).val + 1408 ≤ (x 0).val ∧ (x 0).val < 4096 * (i 0).val + 1408 + 4096

instance (x : S47920x192.Idx) : Decidable (inRows i x) := inferInstanceAs (Decidable (_ ∧ _))

/-- The three stores together: the stored rows hold the masked values, and every other row stays. -/
theorem tailsV_at (g : S4160x64.Idx → Elt F .f32) (hg : g = yV i u w b) (X : S47920x192.Idx → Elt F .bf16) (x : S47920x192.Idx) :
    tailsV i mk g X x = if h : inRows i x then
        tailAt i u w b mk ((x 1).val / 64) (by have h1 : (x 1).val < 192 := (x 1).isLt; omega)
          (ixT ((x 0).val - (4096 * (i 0).val + 1408)) ((x 1).val % 64) (by unfold inRows at h; omega) (Nat.mod_lt _ (by decide)))
      else X x := by
  subst hg
  have h1 : (x 1).val < 192 := (x 1).isLt
  unfold tailsV
  rw [off2_eq, off3_eq, off4_eq, put_rows, put_rows, put_rows]
  by_cases h : inRows i x
  · rw [dif_pos h]
    unfold inRows at h
    by_cases c2 : 128 ≤ (x 1).val
    · rw [dif_pos ⟨h, by omega⟩]
      refine tailAt_congr i u w b mk (by omega) _ (by omega) _ _ ?_
      funext a; refine Fin.ext ?_
      match a with
      | 0 => rfl
      | 1 => show (x 1).val - 128 = (x 1).val % 64; omega
    rw [dif_neg (by omega)]
    by_cases c1 : 64 ≤ (x 1).val
    · rw [dif_pos ⟨h, by omega⟩]
      refine tailAt_congr i u w b mk (by omega) _ (by omega) _ _ ?_
      funext a; refine Fin.ext ?_
      match a with
      | 0 => rfl
      | 1 => show (x 1).val - 64 = (x 1).val % 64; omega
    rw [dif_neg (by omega), dif_pos ⟨h, by omega⟩]
    refine tailAt_congr i u w b mk (by omega) _ (by omega) _ _ ?_
    funext a; refine Fin.ext ?_
    match a with
    | 0 => rfl
    | 1 => show (x 1).val - 0 = (x 1).val % 64; omega
  · rw [dif_neg h]
    unfold inRows at h
    rw [dif_neg (by omega), dif_neg (by omega), dif_neg (by omega)]

/-- The zero stores reach the first 1408 rows and those from 46464 on. -/
theorem zerosV_at (X : S47920x192.Idx → Elt F .bf16) (x : S47920x192.Idx) (h : (x 0).val < 1408 ∨ 46464 ≤ (x 0).val) :
    zerosV X x = Scalar.ofBits .bf16 0x0000#16 := by
  have h0 : (x 0).val < 47920 := (x 0).isLt
  have h1 : (x 1).val < 192 := (x 1).isLt
  unfold zerosV VecWindow.put
  by_cases hh : 46464 ≤ (x 0).val
  · rw [dif_pos]
    · rfl
    · intro a
      match a with
      | 0 => exact ⟨hh, by show (x 0).val < 46464 + 1456; omega⟩
      | 1 => exact ⟨Nat.zero_le _, by show (x 1).val < 0 + 192; omega⟩
  · rw [dif_neg, dif_pos]
    · rfl
    · intro a
      match a with
      | 0 => exact ⟨Nat.zero_le _, by show (x 0).val < 0 + 1408; omega⟩
      | 1 => exact ⟨Nat.zero_le _, by show (x 1).val < 0 + 192; omega⟩
    · intro h'
      exact hh (h' 0).1

section Final

variable (mks : Fin 11 → S4096x3.Idx → Elt F .bf16)

/-- Grid point number `t`. -/
def pt0 (t : Fin 11) : grid0.Coords := fun | 0 => t

/-- The output buffer once every grid point has run. -/
def outV : S47920x192.Idx → Elt F .bf16 := fun x =>
  if h : 1408 ≤ (x 0).val ∧ (x 0).val < 46464 then
    tailAt (pt0 ⟨((x 0).val - 1408) / 4096, by omega⟩) u w b (mks ⟨((x 0).val - 1408) / 4096, by omega⟩) ((x 1).val / 64)
      (by have h1 : (x 1).val < 192 := (x 1).isLt; omega)
      (ixT (((x 0).val - 1408) % 4096) ((x 1).val % 64) (Nat.mod_lt _ (by decide)) (Nat.mod_lt _ (by decide)))
  else Scalar.ofBits .bf16 0x0000#16

/-- After `n` grid points the buffer is the final one on every row stored so far. -/
def Good (n : Nat) (X : S47920x192.Idx → Elt F .bf16) : Prop :=
  0 < n → ∀ x, (x 0).val < 1408 + 4096 * n ∨ 46464 ≤ (x 0).val → X x = outV u w b mks x

theorem good_zero (X : S47920x192.Idx → Elt F .bf16) : Good u w b mks 0 X := fun h => absurd h (by omega)

theorem good_full (X : S47920x192.Idx → Elt F .bf16) (h : Good u w b mks 11 X) : X = outV u w b mks :=
  funext fun x => h (by omega) x (by omega)

theorem tailAt_pt {t t' : Fin 11} (e : t = t') {j : Nat} (hj : j < 3) (y y' : S4096x64.Idx) (ey : y = y') :
    tailAt (pt0 t) u w b (mks t) j hj y = tailAt (pt0 t') u w b (mks t') j hj y' := by subst e; subst ey; rfl

/-- One grid point's step takes the buffer from `t` points done to `t + 1`. -/
theorem good_step (t : Fin 11) (g : S4160x64.Idx → Elt F .f32) (X : S47920x192.Idx → Elt F .bf16) (hX : Good u w b mks t.val X) :
    Good u w b mks (t.val + 1) (stepV (pt0 t) u w b (mks t) g X) := by
  intro _ x hx
  have ht : t.val < 11 := t.isLt
  have hp : (pt0 t 0).val = t.val := rfl
  unfold stepV
  rw [tailsV_at (pt0 t) u w b (mks t) _ (scrV_full (pt0 t) u w b g)]
  unfold outV
  by_cases h : inRows (pt0 t) x
  · rw [dif_pos h]
    unfold inRows at h
    rw [hp] at h
    rw [dif_pos (show 1408 ≤ (x 0).val ∧ (x 0).val < 46464 by omega)]
    have e : t = ⟨((x 0).val - 1408) / 4096, by omega⟩ := Fin.ext (by show t.val = ((x 0).val - 1408) / 4096; omega)
    exact tailAt_pt u w b mks e _ _ _ (ixT_congr _ _ _ _ (by rw [hp]; omega) rfl)
  · rw [dif_neg h]
    unfold inRows at h
    rw [hp] at h ⊢
    by_cases h0 : t.val = 0
    · rw [if_pos h0, dif_neg (show ¬(1408 ≤ (x 0).val ∧ (x 0).val < 46464) by omega)]
      exact zerosV_at X x (by omega)
    · rw [if_neg h0]
      exact hX (by omega) x (by omega)

end Final

end Cert.Mid
-- ==== Proof.LastBody.lean ====
/-
  The last kernel's body as nested loops: nine taps inside sixteen sub-tiles; the printed body, which lists its 144
  products one by one, is equal to it.
-/
module

public import proofs.«01_k».proof.Proof.MidBody

@[expose] public section

noncomputable section

namespace Cert.Last

open Cert.Kernel
open Cert.Mid (tapOff)
open Idealize.ShloMosaic Idealize.SL.Sem
open Facts₀ Facts

variable {F : FTy → Type} [FloatOps F] [Cert.Kernel.Facts]

/-- The first row read by sub-tile `s`, tap `t`, at grid point `i`, in closed form. -/
theorem off1_eq (i : grid4.Coords) {s t : Nat} (hs : s < 16) (ht : t < 9) :
    k4_off1 i (BitVec.ofNat 32 (256 * s)) (BitVec.ofNat 32 (tapOff t)) = ![4096 * (i 0).val + 256 * s + 16 + tapOff t, 0] := by
  have hi : (i 0).val < 11 := (i 0).isLt
  have ht' : tapOff t ≤ 2800 := by unfold tapOff; omega
  simp only [k4_off1, Scalar.muli, Scalar.addi, Scalar.indexCast, IntOp.addi, IntOp.muli]
  congr 1
  simp [BitVec.toNat_add, BitVec.toNat_mul, BitVec.toNat_ofNat]
  omega

theorem off1_inb (i : grid4.Coords) {s t : Nat} (hs : s < 16) (ht : t < 9) (a : Fin 2) :
    k4_off1 i (BitVec.ofNat 32 (256 * s)) (BitVec.ofNat 32 (tapOff t)) a + S256x192.size a ≤ S47920x192.size a := by
  have hi : (i 0).val < 11 := (i 0).isLt
  have ht' : tapOff t ≤ 2800 := by unfold tapOff; omega
  rw [off1_eq i hs ht]
  fin_cases a
  · show 4096 * (i 0).val + 256 * s + 16 + tapOff t + 256 ≤ 47920; omega
  · show 0 + 192 ≤ 192; omega

theorem w_inb {t : Nat} (ht : t < 9) (a : Fin 3) : (![t, 0, 0] : Fin 3 → Nat) a + S1x192x54.size a ≤ S9x192x54.size a := by
  fin_cases a
  · show t + 1 ≤ 9; omega
  · show 0 + 192 ≤ 192; omega
  · show 0 + 54 ≤ 54; omega

theorem y_inb {s : Nat} (hs : s < 16) (a : Fin 2) : (![256 * s, 0] : Fin 2 → Nat) a + S256x54.size a ≤ S4096x54.size a := by
  fin_cases a
  · show 256 * s + 256 ≤ 4096; omega
  · show 0 + 54 ≤ 54; omega

section Program

variable (i : grid4.Coords) (arg1 : Memref sig .tc .vmem S47920x192 .bf16) (arg2 : Memref sig .tc .vmem S9x192x54 .bf16)
  (arg3 : Memref sig .tc .vmem S1x54 .f32) (arg4 : Memref sig .tc .vmem S4096x54 .f32)

/-- One tap of sub-tile `s`: its 256 packed rows times the tap's filter, added to the accumulator. -/
def tap (s t : Nat) (hs : s < 16) (ht : t < 9) (acc : FVec F S256x54 .f32) : Prog (TpuEff nD τ sig (Elt F) Λ₀ .tc) (FVec F S256x54 .f32) := do
  let a : Vec F S256x192 .bf16 ← Prog.lift (.load arg1 (Rect.unit (s := S47920x192) (k4_off1 i (BitVec.ofNat 32 (256 * s)) (BitVec.ofNat 32 (tapOff t))) S256x192.size (off1_inb i hs ht)).toLoadRect (View.loadsAt_vmem h_S256x192))
  let w : Vec F S1x192x54 .bf16 ← Prog.lift (.load arg2 (Rect.unit (s := S9x192x54) ![t, 0, 0] S1x192x54.size (w_inb ht)).toLoadRect (View.loadsAt_vmem h_S1x192x54))
  pure (addf acc (matmul dot_S256x192_S192x54_S256x54_1_0_0_1_n_n none (shapeCast S256x192 a shapeCasts_S256x192_S256x192) (shapeCast S192x54 w shapeCasts_S1x192x54_S192x54) (constant S256x54 .f32 0x00000000#32)))

/-- The first `n` taps of sub-tile `s`, from a zero accumulator. -/
def taps (s : Nat) (hs : s < 16) : (n : Nat) → n ≤ 9 → Prog (TpuEff nD τ sig (Elt F) Λ₀ .tc) (FVec F S256x54 .f32)
  | 0, _ => pure (broadcast S256x54 (Scalar.ofBits .f32 0x00000000#32))
  | n + 1, h => taps s hs n (Nat.le_of_succ_le h) >>= fun acc => tap i arg1 arg2 s n hs h acc

/-- Sub-tile `s`: its nine taps, the bias, and the store into its rows of the block. -/
def sub (s : Nat) (hs : s < 16) : Prog (TpuEff nD τ sig (Elt F) Λ₀ .tc) PUnit := do
  let acc ← taps i arg1 arg2 s hs 9 (Nat.le_refl 9)
  let b : Vec F S1x54 .f32 ← Prog.lift (.load arg3 (Rect.unit (s := S1x54) ![0, 0] S1x54.size inb_S1x54_S1x54_0_0).toLoadRect (View.loadsAt_vmem h_S1x54))
  let _ : Vec F S256x54 .f32 ← Prog.lift (.load arg4 (Rect.unit (s := S4096x54) ![256 * s, 0] S256x54.size (y_inb hs)).toLoadRect (View.loadsAt_vmem h_S256x54))
  Prog.lift (.store arg4 (Rect.unit (s := S4096x54) ![256 * s, 0] S256x54.size (y_inb hs))
    (addf acc (broadcastTo S256x54 (shapeCast S1x54 b shapeCasts_S1x54_S1x54) broadcasts_S1x54_S256x54))
    Finset.univ (View.stores_vmem_bits_univ h_S256x54 rfl) (.inl rfl))

/-- The first `n` sub-tiles. -/
def subs : (n : Nat) → n ≤ 16 → Prog (TpuEff nD τ sig (Elt F) Λ₀ .tc) PUnit
  | 0, _ => pure ⟨⟩
  | n + 1, h => subs n (Nat.le_of_succ_le h) >>= fun _ => sub i arg1 arg2 arg3 arg4 n h

variable (harg1 : arg1.IsWhole) (harg2 : arg2.IsWhole) (harg3 : arg3.IsWhole) (harg4 : arg4.IsWhole)

/-- The printed body is the sixteen sub-tiles. -/
theorem body_eq : cc4__last_body (F := F) i arg1 harg1 arg2 harg2 arg3 harg3 arg4 harg4
    = subs i arg1 arg2 arg3 arg4 16 (Nat.le_refl 16) := by
  chain_rfl

end Program

end Cert.Last

end
-- ==== Proof.LastRun.lean ====
/-
  The last kernel's body run at one grid point: each level of the loops steps over the one below, and the buffers' new
  contents are named as functions of the old ones.
-/
module

public import proofs.«01_k».proof.Proof.LastBody
public import proofs.«01_k».proof.Proof.RunCommon
public import Idealize.ShloMosaic.Lib.Tactic
public import Idealize.ShloMosaic.Lib.Pipeline.Frame
public import Idealize.ShloMosaic.Lib.Pipeline.FrameBody
public import Idealize.ShloMosaic.Lib.VecWindow

@[expose] public section

noncomputable section

namespace Cert.Last

open Cert.Kernel Cert.Run
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts
open Cert.Mid (tapOff)

variable {F : FTy → Type} [FloatOps F] [Cert.Kernel.Facts]

local notation "𝕄" => MT nD τ sig Unit (Elt F) ℕ UU ℕ

section Values

variable (i : grid4.Coords) (u : S47920x192.Idx → Elt F .bf16) (w : S9x192x54.Idx → Elt F .bf16) (b : S1x54.Idx → Elt F .f32)

/-- The rows tap `t` of sub-tile `s` reads, and the tap's filter. -/
def rowsV {s t : Nat} (hs : s < 16) (ht : t < 9) : FVec F S256x192 .bf16 :=
  VecWindow.window u (k4_off1 i (BitVec.ofNat 32 (256 * s)) (BitVec.ofNat 32 (tapOff t))) S256x192.size (off1_inb i hs ht)
def filtV {t : Nat} (ht : t < 9) : FVec F S1x192x54 .bf16 := VecWindow.window w ![t, 0, 0] S1x192x54.size (w_inb ht)

/-- The accumulator after one more tap. -/
def tapV {s t : Nat} (hs : s < 16) (ht : t < 9) (acc : FVec F S256x54 .f32) : FVec F S256x54 .f32 :=
  addf acc (matmul dot_S256x192_S192x54_S256x54_1_0_0_1_n_n none (shapeCast S256x192 (rowsV i u hs ht) shapeCasts_S256x192_S256x192)
    (shapeCast S192x54 (filtV w ht) shapeCasts_S1x192x54_S192x54) (constant S256x54 .f32 0x00000000#32))

/-- The accumulator after the first `n` taps. -/
def accV {s : Nat} (hs : s < 16) : (n : Nat) → n ≤ 9 → FVec F S256x54 .f32
  | 0, _ => broadcast S256x54 (Scalar.ofBits .f32 0x00000000#32)
  | n + 1, h => tapV i u w hs h (accV hs n (Nat.le_of_succ_le h))

/-- What sub-tile `s` stores: the sum of its taps and the bias. -/
def subV {s : Nat} (hs : s < 16) : FVec F S256x54 .f32 :=
  addf (accV i u w hs 9 (Nat.le_refl 9)) (broadcastTo S256x54 (shapeCast S1x54 (b : FVec F S1x54 .f32) shapeCasts_S1x54_S1x54) broadcasts_S1x54_S256x54)

/-- The block after the first `n` sub-tiles. -/
def blkV (g : S4096x54.Idx → Elt F .f32) : (n : Nat) → n ≤ 16 → (S4096x54.Idx → Elt F .f32)
  | 0, _ => g
  | n + 1, h => VecWindow.put (blkV g n (Nat.le_of_succ_le h)) ![256 * n, 0] S256x54.size (subV i u w b h)

end Values

variable (defs : Defs nD τ sig (Elt F) Λ₀) (c : Dev nD)
variable (i : grid4.Coords) (arg1 : Memref sig .tc .vmem S47920x192 .bf16) (arg2 : Memref sig .tc .vmem S9x192x54 .bf16)
  (arg3 : Memref sig .tc .vmem S1x54 .f32) (arg4 : Memref sig .tc .vmem S4096x54 .f32)

theorem wp_tap (f1 : Bf (F := F) c arg1) (f2 : Bf (F := F) c arg2) (s t : Nat) (hs : s < 16) (ht : t < 9) (acc : FVec F S256x54 .f32) (E : Set ℕ) (Q : FVec F S256x54 .f32 → sProp 𝕄) :
    iprop(pt c arg1 f1 ∗ pt c arg2 f2 ∗ (iprop(pt c arg1 f1 ∗ pt c arg2 f2) -∗ Q (tapV i (rd arg1 f1) (rd arg2 f2) hs ht acc)))
      ⊢ wp frame (wpE defs Variants.none c none) E (tap i arg1 arg2 s t hs ht acc) Q := by
  have key : tapV i (rd arg1 f1) (rd arg2 f2) hs ht acc = addf acc (matmul dot_S256x192_S192x54_S256x54_1_0_0_1_n_n none
      (shapeCast S256x192 (View.readAt (Elt F) arg1.view (Rect.unit (s := S47920x192) (k4_off1 i (BitVec.ofNat 32 (256 * s)) (BitVec.ofNat 32 (tapOff t))) S256x192.size (off1_inb i hs ht)).toLoadRect f1) shapeCasts_S256x192_S256x192)
      (shapeCast S192x54 (View.readAt (Elt F) arg2.view (Rect.unit (s := S9x192x54) ![t, 0, 0] S1x192x54.size (w_inb ht)).toLoadRect f2) shapeCasts_S1x192x54_S192x54)
      (constant S256x54 .f32 0x00000000#32)) := rfl
  rw [key]
  unfold tap
  simp only [Prog.lift, Prog.bind_op, Prog.bind_ret, Pure.pure]
  iintro ⟨H1, H2, Hk⟩
  sl_step
  sl_step
  sl_step
  iapply Hk
  isplitl [H1]; · iexact H1
  iexact H2

theorem wp_taps (f1 : Bf (F := F) c arg1) (f2 : Bf (F := F) c arg2) (s : Nat) (hs : s < 16) (E : Set ℕ) : (n : Nat) → (h : n ≤ 9) → (Q : FVec F S256x54 .f32 → sProp 𝕄) →
    (iprop(pt c arg1 f1 ∗ pt c arg2 f2 ∗ (iprop(pt c arg1 f1 ∗ pt c arg2 f2) -∗ Q (accV i (rd arg1 f1) (rd arg2 f2) hs n h)))
      ⊢ wp frame (wpE defs Variants.none c none) E (taps i arg1 arg2 s hs n h) Q)
  | 0, _, Q => by
    unfold taps accV
    simp only [Pure.pure]
    iintro ⟨H1, H2, Hk⟩
    sl_step
    iapply Hk
    isplitl [H1]; · iexact H1
    iexact H2
  | n + 1, h, Q => by
    unfold taps accV
    rw [wp_bind]
    refine BIBase.Entails.trans ?_ (wp_taps f1 f2 s hs E n _ _)
    iintro ⟨H1, H2, Hk⟩
    isplitl [H1]; · iexact H1
    isplitl [H2]; · iexact H2
    iintro ⟨H1, H2⟩
    iapply (wp_tap defs c i arg1 arg2 f1 f2 s n hs h _ E Q)
    isplitl [H1]; · iexact H1
    isplitl [H2]; · iexact H2
    iexact Hk

attribute [local irreducible] taps accV VecWindow.put in
theorem wp_sub (f1 : Bf (F := F) c arg1) (f2 : Bf (F := F) c arg2) (f3 : Bf (F := F) c arg3) (g : Bf (F := F) c arg4) (s : Nat) (hs : s < 16) (E : Set ℕ) (Q : PUnit → sProp 𝕄) :
    iprop(pt c arg1 f1 ∗ pt c arg2 f2 ∗ pt c arg3 f3 ∗ pt c arg4 g ∗ (∀ g' : Bf (F := F) c arg4,
        ⌜rd arg4 g' = VecWindow.put (rd arg4 g) ![256 * s, 0] S256x54.size (subV i (rd arg1 f1) (rd arg2 f2) (rd arg3 f3) hs)⌝ -∗ pt c arg1 f1 -∗ pt c arg2 f2 -∗ pt c arg3 f3 -∗ pt c arg4 g' -∗ Q ⟨⟩))
      ⊢ wp frame (wpE defs Variants.none c none) E (sub i arg1 arg2 arg3 arg4 s hs) Q := by
  unfold sub
  rw [wp_bind]
  refine BIBase.Entails.trans ?_ (wp_taps defs c i arg1 arg2 f1 f2 s hs E 9 _ _)
  iintro ⟨H1, H2, H3, H4, Hk⟩
  isplitl [H1]; · iexact H1
  isplitl [H2]; · iexact H2
  iintro ⟨H1, H2⟩
  simp only [Prog.lift, Prog.bind_op, Prog.bind_ret, Pure.pure]
  sl_step
  sl_step
  sl_step
  sl_step
  iapply Hk $$ [] H1 H2 H3 H4
  ipureintro
  refine (rd_write c arg4 g (y_inb hs) _).trans ?_
  unfold subV
  have e : rd arg3 f3 = View.readAt (Elt F) arg3.view (Rect.unit ![0, 0] S1x54.size inb_S1x54_S1x54_0_0).toLoadRect f3 :=
    (View.readAt_full arg3.view f3 inb_S1x54_S1x54_0_0).symm
  rw [e]

theorem wp_subs (f1 : Bf (F := F) c arg1) (f2 : Bf (F := F) c arg2) (f3 : Bf (F := F) c arg3) (g : Bf (F := F) c arg4) (E : Set ℕ) : (n : Nat) → (h : n ≤ 16) → (Q : PUnit → sProp 𝕄) →
    (iprop(pt c arg1 f1 ∗ pt c arg2 f2 ∗ pt c arg3 f3 ∗ pt c arg4 g ∗ (∀ g' : Bf (F := F) c arg4,
        ⌜rd arg4 g' = blkV i (rd arg1 f1) (rd arg2 f2) (rd arg3 f3) (rd arg4 g) n h⌝ -∗ pt c arg1 f1 -∗ pt c arg2 f2 -∗ pt c arg3 f3 -∗ pt c arg4 g' -∗ Q ⟨⟩))
      ⊢ wp frame (wpE defs Variants.none c none) E (subs i arg1 arg2 arg3 arg4 n h) Q)
  | 0, _, Q => by
    unfold subs
    simp only [Pure.pure]
    iintro ⟨H1, H2, H3, H4, Hk⟩
    sl_step
    iapply Hk $$ [] H1 H2 H3 H4
    ipureintro
    rfl
  | n + 1, h, Q => by
    unfold subs
    rw [wp_bind]
    refine BIBase.Entails.trans ?_ (wp_subs f1 f2 f3 g E n _ _)
    iintro ⟨H1, H2, H3, H4, Hk⟩
    isplitl [H1]; · iexact H1
    isplitl [H2]; · iexact H2
    isplitl [H3]; · iexact H3
    isplitl [H4]; · iexact H4
    iintro %g' %hg H1 H2 H3 H4
    iapply (wp_sub defs c i arg1 arg2 arg3 arg4 f1 f2 f3 g' n h E Q)
    isplitl [H1]; · iexact H1
    isplitl [H2]; · iexact H2
    isplitl [H3]; · iexact H3
    isplitl [H4]; · iexact H4
    iintro %g'' %hg' H1 H2 H3 H4
    iapply Hk $$ [] H1 H2 H3 H4
    ipureintro
    rw [hg', hg]
    rfl

attribute [local irreducible] cc4__last_body subs blkV in
/-- The printed body at one grid point: the inputs stay, the block takes all its sub-tiles. -/
theorem wp_body (harg1 : arg1.IsWhole) (harg2 : arg2.IsWhole) (harg3 : arg3.IsWhole) (harg4 : arg4.IsWhole)
    (f1 : Bf (F := F) c arg1) (f2 : Bf (F := F) c arg2) (f3 : Bf (F := F) c arg3) (g : Bf (F := F) c arg4) (E : Set ℕ) (Q : PUnit → sProp 𝕄) :
    iprop(pt c arg1 f1 ∗ pt c arg2 f2 ∗ pt c arg3 f3 ∗ pt c arg4 g ∗ (∀ g' : Bf (F := F) c arg4,
        ⌜rd arg4 g' = blkV i (rd arg1 f1) (rd arg2 f2) (rd arg3 f3) (rd arg4 g) 16 (Nat.le_refl 16)⌝ -∗ pt c arg1 f1 -∗ pt c arg2 f2 -∗ pt c arg3 f3 -∗ pt c arg4 g' -∗ Q ⟨⟩))
      ⊢ wp frame (wpE defs Variants.none c none) E (cc4__last_body i arg1 harg1 arg2 harg2 arg3 harg3 arg4 harg4) Q := by
  rw [body_eq i arg1 arg2 arg3 arg4 harg1 harg2 harg3 harg4]
  exact wp_subs defs c i arg1 arg2 arg3 arg4 f1 f2 f3 g E 16 (Nat.le_refl 16) Q

end Cert.Last

end
-- ==== Proof.LastOut.lean ====
/-
  What the last kernel leaves in its output block at one grid point, as one function of its inputs.
-/
module

public import proofs.«01_k».proof.Proof.LastRun

@[expose] public section

noncomputable section

namespace Cert.Last

open Cert.Kernel Cert.Run
open Idealize.ShloMosaic
open Facts₀ Facts

variable {F : FTy → Type} [FloatOps F] [Cert.Kernel.Facts]

variable (i : grid4.Coords) (u : S47920x192.Idx → Elt F .bf16) (w : S9x192x54.Idx → Elt F .bf16) (b : S1x54.Idx → Elt F .f32)

def ixS (r c : Nat) (hr : r < 256) (hc : c < 54) : S256x54.Idx := fun | 0 => ⟨r, hr⟩ | 1 => ⟨c, hc⟩

/-- The block once all its sub-tiles are stored: row `r` belongs to sub-tile `r / 256`. -/
def yV : S4096x54.Idx → Elt F .f32 := fun x =>
  subV i u w b (s := (x 0).val / 256) (by have h : (x 0).val < 4096 := (x 0).isLt; omega)
    (ixS ((x 0).val % 256) (x 1).val (Nat.mod_lt _ (by decide)) (x 1).isLt)

theorem subV_congr {s s' : Nat} (hs : s < 16) (hs' : s' < 16) (e : s = s') (y y' : S256x54.Idx) (ey : y = y') : subV i u w b hs y = subV i u w b hs' y' := by
  subst e; subst ey; rfl

/-- After `n` sub-tiles the rows below `256 n` are the final ones. -/
theorem blkV_at (g : S4096x54.Idx → Elt F .f32) : (n : Nat) → (h : n ≤ 16) → (x : S4096x54.Idx) → (x 0).val < 256 * n → blkV i u w b g n h x = yV i u w b x
  | 0, _, x, hx => absurd hx (by omega)
  | n + 1, h, x, hx => by
    have h1 : (x 1).val < 54 := (x 1).isLt
    unfold blkV VecWindow.put
    split
    · next hin =>
      have h0 : 256 * n ≤ (x 0).val ∧ (x 0).val < 256 * n + 256 := hin 0
      refine subV_congr i u w b _ _ (by omega) _ _ ?_
      funext a
      refine Fin.ext ?_
      match a with
      | 0 => show (x 0).val - 256 * n = (x 0).val % 256; omega
      | 1 => show (x 1).val - 0 = (x 1).val; omega
    · next hout =>
      refine blkV_at g n _ x ?_
      by_contra hlt
      refine hout fun a => ?_
      match a with
      | 0 => exact ⟨by show 256 * n ≤ (x 0).val; omega, by show (x 0).val < 256 * n + 256; omega⟩
      | 1 => exact ⟨Nat.zero_le _, by show (x 1).val < 0 + 54; omega⟩

theorem blkV_full (g : S4096x54.Idx → Elt F .f32) : blkV i u w b g 16 (Nat.le_refl 16) = yV i u w b :=
  funext fun x => blkV_at i u w b g 16 _ x (x 0).isLt

end Cert.Last
-- ==== Proof.Owned.lean ====
/-
  The two bodies' runs restated over owned buffers: from each buffer at contents read through its memref, to the same
  with the output's changed.
-/
module

public import proofs.«01_k».proof.Proof.MidOut
public import proofs.«01_k».proof.Proof.LastOut

@[expose] public section

noncomputable section

namespace Cert.Run

open Cert.Kernel
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.Kernel.Facts]

local notation "𝕄" => MT nD τ sig Unit (Elt F) ℕ UU ℕ

/-- Owning a whole buffer at what its memref reads is holding the buffer at contents that read so. -/
theorem owns_pt (c : Dev nD) {sp : Space} {s : Shape} {e : EltTy} (M : Memref sig .tc sp s e) (h : M.IsWhole) (X : s.Idx → Elt F e) :
    (owns (c : Thread nD τ) M fullShare X : sProp 𝕄) = iprop(∃ f : Bf (F := F) c M, ⌜rd M f = X⌝ ∗ pt c M f) := by
  unfold owns pt rd
  rw [h.set_eq_univ]

variable (c : Dev nD)

section Mid

variable (i : grid0.Coords) (M1 : Memref sig .tc .vmem S47920x192 .bf16) (M2 : Memref sig .tc .vmem S9x192x64 .bf16)
  (M3 : Memref sig .tc .vmem S1x64 .f32) (M4 : Memref sig .tc .vmem S4096x3 .bf16)
  (M5 : Memref sig .tc .vmem S47920x192 .bf16) (M6 : Memref sig .tc .vmem S4160x64 .f32)

attribute [local irreducible] cc0__mid_body Mid.stepV in
/-- The mid body over owned buffers: the four inputs stay, the output takes the step, the scratch is anything. -/
theorem mid_owns (h1 : M1.IsWhole) (h2 : M2.IsWhole) (h3 : M3.IsWhole) (h4 : M4.IsWhole) (h5 : M5.IsWhole) (h6 : M6.IsWhole)
    (Y1 : S47920x192.Idx → Elt F .bf16) (Y2 : S9x192x64.Idx → Elt F .bf16) (Y3 : S1x64.Idx → Elt F .f32) (Y4 : S4096x3.Idx → Elt F .bf16) (Y5 : S47920x192.Idx → Elt F .bf16)
    (E : Set ℕ) (Q : PUnit → sProp 𝕄) :
    iprop(owns (c : Thread nD τ) M1 fullShare Y1 ∗ owns (c : Thread nD τ) M2 fullShare Y2 ∗ owns (c : Thread nD τ) M3 fullShare Y3 ∗ owns (c : Thread nD τ) M4 fullShare Y4 ∗ owns (c : Thread nD τ) M5 fullShare Y5
        ∗ (∃ g : Bf (F := F) c M6, pt c M6 g)
        ∗ (∀ g, owns (c : Thread nD τ) M1 fullShare Y1 -∗ owns (c : Thread nD τ) M2 fullShare Y2 -∗ owns (c : Thread nD τ) M3 fullShare Y3 -∗ owns (c : Thread nD τ) M4 fullShare Y4
            -∗ owns (c : Thread nD τ) M5 fullShare (Mid.stepV i Y1 Y2 Y3 Y4 g Y5) -∗ (∃ g : Bf (F := F) c M6, pt c M6 g) -∗ Q ⟨⟩))
      ⊢ wp frame (wpE (defs₀ (F := F)) Variants.none (c : Thread nD τ) none) E (cc0__mid_body i M1 h1 M2 h2 M3 h3 M4 h4 M5 h5 M6 h6) Q := by
  simp only [owns_pt c M1 h1, owns_pt c M2 h2, owns_pt c M3 h3, owns_pt c M4 h4, owns_pt c M5 h5]
  iintro ⟨⟨%f1, %e1, H1⟩, ⟨%f2, %e2, H2⟩, ⟨%f3, %e3, H3⟩, ⟨%f4, %e4, H4⟩, ⟨%f5, %e5, H5⟩, ⟨%g, H6⟩, Hk⟩
  subst e1; subst e2; subst e3; subst e4; subst e5
  iapply (Mid.wp_body (defs₀ (F := F)) c i M1 M2 M3 M4 M5 h5 M6 h1 h2 h3 h4 h6 f1 f2 f3 f4 f5 g E Q)
  isplitl [H1]; · iexact H1
  isplitl [H2]; · iexact H2
  isplitl [H3]; · iexact H3
  isplitl [H4]; · iexact H4
  isplitl [H5]; · iexact H5
  isplitl [H6]; · iexact H6
  iintro %f' %g' %hf H1 H2 H3 H4 H5 H6
  iapply Hk $$ [H1] [H2] [H3] [H4] [H5] [H6]
  · iexists f1; isplitr; · ipureintro; rfl
    iexact H1
  · iexists f2; isplitr; · ipureintro; rfl
    iexact H2
  · iexists f3; isplitr; · ipureintro; rfl
    iexact H3
  · iexists f4; isplitr; · ipureintro; rfl
    iexact H4
  · iexists f'; isplitr; · ipureintro; exact hf
    iexact H5
  · iexists g'; iexact H6

end Mid

section Last

variable (i : grid4.Coords) (M1 : Memref sig .tc .vmem S47920x192 .bf16) (M2 : Memref sig .tc .vmem S9x192x54 .bf16)
  (M3 : Memref sig .tc .vmem S1x54 .f32) (M4 : Memref sig .tc .vmem S4096x54 .f32)

attribute [local irreducible] cc4__last_body Last.blkV in
/-- The last body over owned buffers: the three inputs stay, the output block is the inputs' alone. -/
theorem last_owns (h1 : M1.IsWhole) (h2 : M2.IsWhole) (h3 : M3.IsWhole) (h4 : M4.IsWhole)
    (Y1 : S47920x192.Idx → Elt F .bf16) (Y2 : S9x192x54.Idx → Elt F .bf16) (Y3 : S1x54.Idx → Elt F .f32) (Y4 : S4096x54.Idx → Elt F .f32)
    (E : Set ℕ) (Q : PUnit → sProp 𝕄) :
    iprop(owns (c : Thread nD τ) M1 fullShare Y1 ∗ owns (c : Thread nD τ) M2 fullShare Y2 ∗ owns (c : Thread nD τ) M3 fullShare Y3 ∗ owns (c : Thread nD τ) M4 fullShare Y4
        ∗ (owns (c : Thread nD τ) M1 fullShare Y1 -∗ owns (c : Thread nD τ) M2 fullShare Y2 -∗ owns (c : Thread nD τ) M3 fullShare Y3
            -∗ owns (c : Thread nD τ) M4 fullShare (Last.yV i Y1 Y2 Y3) -∗ Q ⟨⟩))
      ⊢ wp frame (wpE (defs₀ (F := F)) Variants.none (c : Thread nD τ) none) E (cc4__last_body i M1 h1 M2 h2 M3 h3 M4 h4) Q := by
  rw [← Last.blkV_full i Y1 Y2 Y3 Y4]
  simp only [owns_pt c M1 h1, owns_pt c M2 h2, owns_pt c M3 h3, owns_pt c M4 h4]
  iintro ⟨⟨%f1, %e1, H1⟩, ⟨%f2, %e2, H2⟩, ⟨%f3, %e3, H3⟩, ⟨%f4, %e4, H4⟩, Hk⟩
  subst e1; subst e2; subst e3; subst e4
  iapply (Last.wp_body (defs₀ (F := F)) c i M1 M2 M3 M4 h1 h2 h3 h4 f1 f2 f3 f4 E Q)
  isplitl [H1]; · iexact H1
  isplitl [H2]; · iexact H2
  isplitl [H3]; · iexact H3
  isplitl [H4]; · iexact H4
  iintro %g' %hf H1 H2 H3 H4
  iapply Hk $$ [H1] [H2] [H3] [H4]
  · iexists f1; isplitr; · ipureintro; rfl
    iexact H1
  · iexists f2; isplitr; · ipureintro; rfl
    iexact H2
  · iexists f3; isplitr; · ipureintro; rfl
    iexact H3
  · iexists g'; isplitr; · ipureintro; exact hf
    iexact H4

end Last

end Cert.Run
-- ==== Proof.Region.lean ====
/-
  What every kernel region shares: what a window fetched once keeps, what a buffer carried from point to point satisfies,
  and the region's record over "every unscoped buffer at a valuation".
-/
module

public import proofs.«01_k».proof.Proof.RunCommon
public import proofs.«01_k».proof.Proof.Gen.Kernel.Regions
public import Idealize.ShloMosaic.Lib.Pipeline.ArrRel
public import Idealize.ShloMosaic.Lib.Pipeline.RegionsLoop
public import Idealize.ShloMosaic.Lib.Pipeline.RegionArrays

@[expose] public section

noncomputable section

namespace Cert.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg RDat Dat)

variable {F : FTy → Type} [FloatOps F]

local notation "𝕄" => MT nD τ sig Unit (Elt F) ℕ UU ℕ

/-! ## What the windows' buffers hold -/

section Finds

variable {cfg : Cfg sig Λ₀} {c : Dev nD} (rd : RDat τ (Elt F) Unit ℕ UU ℕ cfg c)

/-- A buffer fetched at the first point only, which the body leaves as found, holds its block at every point. -/
theorem finds_const (w : Fin cfg.W) (hN : cfg.N = 11) (hf : ∀ t : Fin cfg.N, (cfg.win w).fetch t = true ↔ t.val % 11 = 0)
    (hfl : ∀ t : Fin cfg.N, (cfg.win w).flush t = false) (hkeep : ∀ t Y X, rd.after w t Y X → X = Y)
    (B : (cfg.win w).block.Idx → Elt F (cfg.win w).elt) (hB : ∀ (t : Fin cfg.N) d, t.val = 0 → rd.fetched w t d = B) :
    ∀ (n : Nat) (t : Fin cfg.N) (X : (cfg.win w).block.Idx → Elt F (cfg.win w).elt), t.val = n → rd.Finds w t X → X = B
  | 0, t, X, ht, h => by
    obtain ⟨d, rfl⟩ := (rd.finds_of_fetch ((hf t).mpr (by omega)) X).mp h
    exact hB t d ht
  | n + 1, t, X, ht, h => by
    have hlt := t.isLt
    have hnf : (cfg.win w).fetch t = false := by
      rw [Bool.eq_false_iff]; intro he; have := (hf t).mp he; omega
    rcases (rd.finds_of_pos hnf (by omega) X).mp h with hh | ⟨Y, hY, hYX⟩
    · rw [hfl] at hh; exact absurd hh (by decide)
    · rw [hkeep _ _ _ hYX]
      exact finds_const w hN hf hfl hkeep B hB n _ Y (by show t.val - 1 = n; omega) hY

/-- A buffer never fetched, and written back after the last point only: what each step carries on holds at each point. -/
theorem finds_step (w : Fin cfg.W) (hN : cfg.N = 11) (hf : ∀ t : Fin cfg.N, (cfg.win w).fetch t = false)
    (hfl : ∀ t : Fin cfg.N, (cfg.win w).flush t = true ↔ t.val % 11 = 10)
    (G : Nat → ((cfg.win w).block.Idx → Elt F (cfg.win w).elt) → Prop) (h0 : ∀ X, G 0 X)
    (hstep : ∀ t Y X, rd.after w t Y X → G t.val Y → G (t.val + 1) X) :
    ∀ (n : Nat) (t : Fin cfg.N) (X : (cfg.win w).block.Idx → Elt F (cfg.win w).elt), t.val = n → rd.Finds w t X → G t.val X
  | 0, t, X, ht, _ => by rw [ht]; exact h0 X
  | n + 1, t, X, ht, h => by
    have hlt := t.isLt
    rcases (rd.finds_of_pos (hf t) (by omega) X).mp h with hh | ⟨Y, hY, hYX⟩
    · have h10 : (t.val - 1) % 11 = 10 := (hfl _).mp hh
      omega
    · have := hstep _ _ _ hYX (finds_step w hN hf hfl G h0 hstep n _ Y (by show t.val - 1 = n; omega) hY)
      have e : t.val - 1 + 1 = t.val := by omega
      simpa only [e] using this

end Finds

/-! ## The region's record -/

abbrev LL : GSem nD τ sig → Finset Unit := fun _ => ∅
abbrev lvv : GSem nD τ sig → Unit → ℕ := fun _ _ => 0

/-- What rides along the whole run beside the unscoped buffers: the core owes nothing. -/
abbrev RR (c : Dev nD) : sProp 𝕄 := iprop(∃ W, owes (c : Thread nD τ) (0 : CellTallies nD τ sig Unit) W)

section Seg

variable (rdats : (p : Fin 5) → (c : Dev nD) → RDat τ (Elt F) Unit ℕ UU ℕ (Pipeline.pin (pcfgs (F := F)) adm p) c)

/-- Exact proof data with the same entry contents and shares: the windows' arrays are stated alike. -/
abbrev pdats (p : Fin 5) (c : Dev nD) : Dat τ (Elt F) Unit ℕ UU ℕ (Pipeline.pin (pcfgs (F := F)) adm p) c :=
  (rdats p c).withAfter fun _ _ _ => Classical.arbitrary _

set_option backward.isDefEq.respectTransparency.types false in
/-- A kernel region entered with every unscoped buffer at `V`, left with them at `V'`: the windows' arrays are taken out
    of the buffers and put back, each at the one contents it may then hold. -/
def mkSeg (p : Fin 5) (hl : Pipeline.LaunchFacts (nD := nD) (τ := τ) cfgs p)
    (hbody : ∀ c, (rdats p c).BodyObligation (defs₀ (F := F)) Variants.none () Set.univ)
    (V V' : Dev nD → Valuation τ sig (Elt F))
    (hΦ : ∀ c t, (rdats p c).Φ t = Pipeline.scopedRest (Pipeline.pin (pcfgs (F := F)) adm p).spec c)
    (hq : ∀ c w, (rdats p c).share w = fullShare) (howed : ∀ c t, (rdats p c).owed t = 0) (hrec : ∀ c, (rdats p c).recorded 0 = Set.univ)
    (hpre : (pcfgs (F := F) p).pre.K = 0)
    (hA : ∀ c w, (rdats p c).A w = V c (Proc.devRef .tc (Pipeline.arrRef (Pipeline.pin (pcfgs (F := F)) adm p).spec w)))
    (hF : ∀ c w G, (rdats p c).ArrAt w (Pipeline.pin (pcfgs (F := F)) adm p).N G → G = V' c (Proc.devRef .tc (Pipeline.arrRef (Pipeline.pin (pcfgs (F := F)) adm p).spec w)))
    (hne : ∀ c (b : Ref sig .tc), b ∉ Finset.univ.image (Pipeline.arrRef (Pipeline.pin (pcfgs (F := F)) adm p).spec) → V' c (Proc.devRef .tc b) = V c (Proc.devRef .tc b)) :
    RDat.RegionSeg (pcfgs (F := F)) adm rdats () defs₀ Variants.none LL lvv p where
  win := hl.win.to₀
  block_pos := hl.block_pos
  stage_whole := hl.stage_whole
  K := PEmpty
  osem k := k.elim
  ho := Pipeline.OwnSemFacts.none _
  hbody := hbody
  hwaits := RDat.hwaits_of_owed_zero _ _ _ _ LL lvv p fun c t => howed c t
  pre c := iprop(StableHlo.held (c : Thread nD τ) (Pipeline.ucRefs τ sig) (V c) ∗ RR c)
  post c := iprop(StableHlo.held (c : Thread nD τ) (Pipeline.ucRefs τ sig) (V' c) ∗ RR c)
  X _ := BI.emp
  Y _ := BI.emp
  Z c := Pipeline.unscopedRest (Ix := Unit) (Name := ℕ) (U := UU) (Lvl := ℕ) (Pipeline.pin (pcfgs (F := F)) adm p).spec c (fun b => V c (Proc.devRef .tc b))
  hentry c := by
    rw [Pipeline.ownSems0_none, ← Pipeline.unscopedBufs_held (Ix := Unit) (Name := ℕ) (U := UU) (Lvl := ℕ) c (V c)]
    have hsplit := RDat.arrays_of_unscopedBufs (p := p) (pcfgs (F := F)) adm rdats hl.win hl.arr_whole c (hq c) (fun b => V c (Proc.devRef .tc b)) (hA c)
    iintro ⟨⟨Hub, HO⟩, -, -⟩
    ihave H := hsplit $$ Hub
    icases H with ⟨Ha, Hrest⟩
    imodintro
    isplitl [Ha]; · iexact Ha
    isplitr; · rw [Pipeline.prefHeld_of_none _ hpre]; iempintro
    isplitl [HO]
    · unfold RDat.owesAt Pipeline.owesWithin
      rw [howed c 0]
      icases HO with ⟨%W, HO⟩; iexists W; isplitr
      · ipureintro; unfold RDat.bound; rw [hrec c]; exact fun _ _ => Or.inl trivial
      iexact HO
    isplitr; · iempintro
    iexact Hrest
  hin c := by
    rw [hΦ c]
    iintro ⟨-, -, Hr⟩; iexact Hr
  hout c := by
    rw [Pipeline.ownSems0_none, hΦ c]
    iintro Hr
    isplitr; · iempintro
    isplitr; · iempintro
    iexact Hr
  hexit c := by
    rw [← Pipeline.unscopedBufs_held (Ix := Unit) (Name := ℕ) (U := UU) (Lvl := ℕ) c (V' c)]
    have hfinal : (rdats p c).arraysAt (Pipeline.pin (pcfgs (F := F)) adm p).N
        ⊢ (pdats rdats p c).arrays (fun w => V' c (Proc.devRef .tc (Pipeline.arrRef (Pipeline.pin (pcfgs (F := F)) adm p).spec w))) := by
      have hw : ∀ w : Fin (Pipeline.pin (pcfgs (F := F)) adm p).W,
          iprop(∃ G, ⌜(rdats p c).ArrAt w (Pipeline.pin (pcfgs (F := F)) adm p).N G⌝
            ∗ ((Pipeline.pin (pcfgs (F := F)) adm p).win w).arr.view.loc (c : Thread nD τ) ↦[((Pipeline.pin (pcfgs (F := F)) adm p).win w).arr.view.set]{(rdats p c).share w} G)
          ⊢ (((Pipeline.pin (pcfgs (F := F)) adm p).win w).arr.view.loc (c : Thread nD τ) ↦[((Pipeline.pin (pcfgs (F := F)) adm p).win w).arr.view.set]{(rdats p c).share w}
              V' c (Proc.devRef .tc (Pipeline.arrRef (Pipeline.pin (pcfgs (F := F)) adm p).spec w)) : sProp 𝕄) := by
        intro w
        iintro ⟨%G, %hG, H⟩
        rw [hF c w G hG]
        iexact H
      exact bigSep_mono fun w _ => hw w
    have hjoin := Pipeline.unscopedBufs_of_arrays (p := p) (pcfgs (F := F)) adm (Ix := Unit) (Name := ℕ) (U := UU) (Lvl := ℕ) hl.win hl.arr_whole c
      (pdats rdats) (hq c) (fun b => V c (Proc.devRef .tc b)) (fun b => V' c (Proc.devRef .tc b)) _
      (fun w => rfl) (hne c)
    iintro ⟨Ha, HO, -, Hrest⟩
    imodintro
    isplitl [Ha Hrest]
    · iapply hjoin; isplitl [Ha]
      · iapply hfinal; iexact Ha
      iexact Hrest
    unfold RDat.owesAt Pipeline.owesWithin
    rw [howed c]
    icases HO with ⟨%W, -, HO⟩; iexists W; iexact HO

end Seg

end Cert.Run
-- ==== Proof.MidRegion.lean ====
/-
  What the four mid regions share beside the body: a mask block, a grid point's coordinates, and that the four printed
  bodies are one program.
-/
module

public import proofs.«01_k».proof.Proof.Owned
public import proofs.«01_k».proof.Proof.Region

@[expose] public section

noncomputable section

namespace Cert.Run

open Cert.Kernel Cert.Kernel.Gen
open Idealize.ShloMosaic

variable {F : FTy → Type} [FloatOps F]

/-- The rows of the mask that grid point `t` reads. -/
def mblk (M : S45056x3.Idx → Elt F .bf16) (t : Fin 11) : S4096x3.Idx → Elt F .bf16 := fun x =>
  M (fun | 0 => ⟨4096 * t.val + (x 0).val, by have h : (x 0).val < 4096 := (x 0).isLt; have := t.isLt; show _ < 45056; omega⟩ | 1 => ⟨(x 1).val, (x 1).isLt⟩)

/-- What a mid layer leaves in its output array: of its packed input, its filters, its bias and the mask. -/
def midOut (u : S47920x192.Idx → Elt F .bf16) (w : S9x192x64.Idx → Elt F .bf16) (b : S1x64.Idx → Elt F .f32) (M : S45056x3.Idx → Elt F .bf16) :
    S47920x192.Idx → Elt F .bf16 := Mid.outV u w b (mblk M)

/-- Grid point `t`'s coordinates. -/
theorem coords_eq (t : Fin grid0.N) : grid0.coords t = Mid.pt0 (t.cast N_0) := by
  funext a
  match a with
  | 0 => exact Fin.ext (by show t.val / 1 % 11 = t.val; have := t.isLt; have e := N_0; omega)

theorem cc1_eq : @cc1__mid_body F _ _ = @cc0__mid_body F _ _ := by chain_rfl
theorem cc2_eq : @cc2__mid_body F _ _ = @cc0__mid_body F _ _ := by chain_rfl
theorem cc3_eq : @cc3__mid_body F _ _ = @cc0__mid_body F _ _ := by chain_rfl

end Cert.Run
-- ==== Proof.Region0.lean ====
/-
  Region 0: the first mid layer.
-/
module

public import proofs.«01_k».proof.Proof.MidRegion
public import proofs.«01_k».proof.Proof.Gen.Kernel.Points

@[expose] public section

noncomputable section

namespace Cert.Reg0

open Cert.Kernel Cert.Kernel.Gen Cert.Run
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg RDat Dat)

variable {F : FTy → Type} [FloatOps F]

local notation "𝕄" => MT nD τ sig Unit (Elt F) ℕ UU ℕ

variable (V : Dev nD → Valuation τ sig (Elt F)) (c : Dev nD)

abbrev inU : S47920x192.Idx → Elt F .bf16 := V c main_call0_v8
abbrev inW : S9x192x64.Idx → Elt F .bf16 := V c main_call0_v24
abbrev inB : S1x64.Idx → Elt F .f32 := V c main_call0_v25
abbrev inM : S45056x3.Idx → Elt F .bf16 := V c main_call0_v20

/-- What the output buffer satisfies after `n` points. -/
abbrev good (n : Nat) (X : S47920x192.Idx → Elt F .bf16) : Prop := Mid.Good (inU V c) (inW V c) (inB V c) (mblk (inM V c)) n X

/-- The region's proof data: the inputs stay as found, each point brings the output nearer to its final contents. -/
def rdat : RDat τ (Elt F) Unit ℕ UU ℕ cfg0 c where
  A w := V c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => good V c t.val Y → good V c (t.val + 1) X
  Φ _ := Pipeline.scopedRest (Ix := Unit) (Name := ℕ) (U := UU) (Lvl := ℕ) (Val := Elt F) spec0 c
  q _ := fullShare
  owed _ := 0

theorem share (w : Fin cfg0.W) : (rdat V c).share w = fullShare := by unfold RDat.share; split <;> rfl

theorem finds_0 (t : Fin cfg0.N) (X) (h : (rdat V c).Finds 0 t X) : X = inU V c :=
  finds_const (rdat V c) 0 N_0 fetch0_0 (fun _ => rfl) (fun _ _ _ h => h) _ (fun t d _ => by
    funext x; exact congrArg (inU V c) (by funext a; refine Fin.ext ((Pipeline.Window.rect_emb_val_of_index_zero (cfg0.win 0) t a ?_ _).trans rfl); fin_cases a <;> rfl)) _ t X rfl h
theorem finds_1 (t : Fin cfg0.N) (X) (h : (rdat V c).Finds 1 t X) : X = inW V c :=
  finds_const (rdat V c) 1 N_0 fetch0_1 (fun _ => rfl) (fun _ _ _ h => h) _ (fun t d _ => by
    funext x; exact congrArg (inW V c) (by funext a; refine Fin.ext ((Pipeline.Window.rect_emb_val_of_index_zero (cfg0.win 1) t a ?_ _).trans rfl); fin_cases a <;> rfl)) _ t X rfl h
theorem finds_2 (t : Fin cfg0.N) (X) (h : (rdat V c).Finds 2 t X) : X = inB V c :=
  finds_const (rdat V c) 2 N_0 fetch0_2 (fun _ => rfl) (fun _ _ _ h => h) _ (fun t d _ => by
    funext x; exact congrArg (inB V c) (by funext a; refine Fin.ext ((Pipeline.Window.rect_emb_val_of_index_zero (cfg0.win 2) t a ?_ _).trans rfl); fin_cases a <;> rfl)) _ t X rfl h
theorem finds_3 (t : Fin cfg0.N) (X) (h : (rdat V c).Finds 3 t X) : X = mblk (inM V c) (t.cast N_0) := by
  obtain ⟨d, rfl⟩ := ((rdat V c).finds_of_fetch (fetch0_3 t) X).mp h
  funext x; exact congrArg (inM V c) (by
    have e : (grid0.coords t 0).val = t.val := congrArg (fun i : grid0.Coords => (i 0).val) (coords_eq t)
    have ht : t.val < 11 := t.isLt
    funext a
    refine Fin.ext ((Pipeline.Window.rect_emb_val (cfg0.win 3) t _ a).trans ?_)
    match a with
    | 0 =>
      show (BitVec.ofNat 32 (grid0.coords t 0).val).toNat * 4096 + (x 0).val = 4096 * t.val + (x 0).val
      rw [e, BitVec.toNat_ofNat, Nat.mod_eq_of_lt (by omega), Nat.mul_comm]
    | 1 => show 0 * 3 + (x 1).val = (x 1).val; omega)
theorem finds_4 (t : Fin cfg0.N) (X) (h : (rdat V c).Finds 4 t X) : good V c t.val X :=
  finds_step (rdat V c) 4 N_0 (fun _ => rfl) flush0_4 (good V c) (Mid.good_zero _ _ _ _) (fun _ _ _ h => h) _ t X rfl h

/-- Each point's body, at whatever the buffers may then hold. -/
theorem body : (rdat V c).BodyObligation (defs₀ (F := F)) Variants.none () Set.univ := fun t Y hY => by
  have e0 := finds_0 V c t _ (hY 0)
  have e1 := finds_1 V c t _ (hY 1)
  have e2 := finds_2 V c t _ (hY 2)
  have e3 := finds_3 V c t _ (hY 3)
  have e4 := finds_4 V c t _ (hY 4)
  rw [bigSep_W0, bigSep_W0]
  rw [show (rdat V c).Φ t.castSucc = _ from scopedRest0_split c, show (rdat V c).Φ t.succ = _ from scopedRest0_split c,
    show (rdat V c).owesAt () t.succ = (rdat V c).owesAt () t.castSucc from rfl]
  iintro ⟨⟨⟨%g, Hs⟩, Hr⟩, Ho, H0, H1, H2, H3, H4⟩
  iapply (mid_owns c (grid0.coords t) (st0_0 t) (st0_1 t) (st0_2 t) (st0_3 t) (st0_4 t) (Memref.whole cc0_scratch0)
    (hstage0_0 _) (hstage0_1 _) (hstage0_2 _) (hstage0_3 _) (hstage0_4 _) (Memref.isWhole_whole _) (Y 0) (Y 1) (Y 2) (Y 3) (Y 4) Set.univ _)
  isplitl [H0]; · iexact H0
  isplitl [H1]; · iexact H1
  isplitl [H2]; · iexact H2
  isplitl [H3]; · iexact H3
  isplitl [H4]; · iexact H4
  isplitl [Hs]; · iexists g; iexact Hs
  iintro %g' H0 H1 H2 H3 H4 Hs
  isplitl [Hs Hr]
  · isplitl [Hs]; · iexact Hs
    iexact Hr
  isplitl [Ho]; · iexact Ho
  isplitl [H0]; · iexists (Y 0); isplitr; (· ipureintro; rfl); iexact H0
  isplitl [H1]; · iexists (Y 1); isplitr; (· ipureintro; rfl); iexact H1
  isplitl [H2]; · iexists (Y 2); isplitr; (· ipureintro; rfl); iexact H2
  isplitl [H3]; · iexists (Y 3); isplitr; (· ipureintro; rfl); iexact H3
  iexists _; isplitr; swap; (· iexact H4)
  ipureintro
  intro hg
  rw [e0, e1, e2, e3, coords_eq]
  exact Mid.good_step _ _ _ _ (t.cast N_0) g' (Y 4) hg

/-- The output array after the region. -/
def out : Buf (Elt F) ((c : Thread nD τ).loc main_call0_v26) := midOut (inU V c) (inW V c) (inB V c) (inM V c)

/-- The unscoped buffers after the region. -/
abbrev next : Valuation τ sig (Elt F) := Function.update (V c) main_call0_v26 (out V c)

theorem arrAt_out (G) (h : (rdat V c).ArrAt 4 cfg0.N G) : G = out V c := by
  obtain ⟨X, ⟨Y, hY, hYX⟩, hG⟩ := h.emb_eq_of_wholeAt (t₀ := t0_10) (by decide +kernel)
  have hX : X = midOut (inU V c) (inW V c) (inB V c) (inM V c) := Mid.good_full _ _ _ _ X (hYX (finds_4 V c _ Y hY))
  funext j
  exact (hG j).trans (congrFun hX j)

theorem arrAt_in (w : Fin 5) (hw : w ≠ 4) (G) (h : (rdat V c).ArrAt w cfg0.N G) : G = V c (Pipeline.arrRef spec0 w) := by
  have hin : (cfg0.win w).isOut = false := by revert hw; fin_cases w <;> first | exact fun _ => rfl | exact fun h => absurd rfl h
  rw [(rdat V c).ArrAt_in w hin] at h
  exact h

theorem arrAt (w : Fin 5) (G) (h : (rdat V c).ArrAt w cfg0.N G) : G = next V c (Proc.devRef .tc (Pipeline.arrRef spec0 w)) := by
  by_cases hw : w = 4
  · subst hw
    exact (arrAt_out V c G h).trans (Function.update_self (Proc.devRef .tc main_call0_v26 : DevRef τ sig) (out V c) (V c)).symm
  · refine (arrAt_in V c w hw G h).trans (Function.update_of_ne ?_ _ _).symm
    revert hw; fin_cases w <;> first | exact fun h => absurd rfl h | exact fun _ => by decide

theorem rest (b : Ref sig .tc) (hb : b ∉ Finset.univ.image (Pipeline.arrRef spec0)) : next V c (Proc.devRef .tc b) = V c (Proc.devRef .tc b) := by
  refine Function.update_of_ne (fun e => hb ?_) _ _
  rw [Proc.devRef_injective _ e]
  exact Finset.mem_image.mpr ⟨4, Finset.mem_univ _, rfl⟩

end Cert.Reg0
-- ==== Proof.Region1.lean ====
/-
  Region 1: the second mid layer.
-/
module

public import proofs.«01_k».proof.Proof.MidRegion
public import proofs.«01_k».proof.Proof.Gen.Kernel.Points

@[expose] public section

noncomputable section

namespace Cert.Reg1

open Cert.Kernel Cert.Kernel.Gen Cert.Run
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg RDat Dat)

variable {F : FTy → Type} [FloatOps F]

local notation "𝕄" => MT nD τ sig Unit (Elt F) ℕ UU ℕ

variable (V : Dev nD → Valuation τ sig (Elt F)) (c : Dev nD)

abbrev inU : S47920x192.Idx → Elt F .bf16 := V c main_call0_v26
abbrev inW : S9x192x64.Idx → Elt F .bf16 := V c main_call0_v29
abbrev inB : S1x64.Idx → Elt F .f32 := V c main_call0_v30
abbrev inM : S45056x3.Idx → Elt F .bf16 := V c main_call0_v20

/-- What the output buffer satisfies after `n` points. -/
abbrev good (n : Nat) (X : S47920x192.Idx → Elt F .bf16) : Prop := Mid.Good (inU V c) (inW V c) (inB V c) (mblk (inM V c)) n X

/-- The region's proof data: the inputs stay as found, each point brings the output nearer to its final contents. -/
def rdat : RDat τ (Elt F) Unit ℕ UU ℕ cfg1 c where
  A w := V c (Pipeline.arrRef spec1 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => good V c t.val Y → good V c (t.val + 1) X
  Φ _ := Pipeline.scopedRest (Ix := Unit) (Name := ℕ) (U := UU) (Lvl := ℕ) (Val := Elt F) spec1 c
  q _ := fullShare
  owed _ := 0

theorem share (w : Fin cfg1.W) : (rdat V c).share w = fullShare := by unfold RDat.share; split <;> rfl

theorem finds_0 (t : Fin cfg1.N) (X) (h : (rdat V c).Finds 0 t X) : X = inU V c :=
  finds_const (rdat V c) 0 N_0 fetch1_0 (fun _ => rfl) (fun _ _ _ h => h) _ (fun t d _ => by
    funext x; exact congrArg (inU V c) (by funext a; refine Fin.ext ((Pipeline.Window.rect_emb_val_of_index_zero (cfg1.win 0) t a ?_ _).trans rfl); fin_cases a <;> rfl)) _ t X rfl h
theorem finds_1 (t : Fin cfg1.N) (X) (h : (rdat V c).Finds 1 t X) : X = inW V c :=
  finds_const (rdat V c) 1 N_0 fetch1_1 (fun _ => rfl) (fun _ _ _ h => h) _ (fun t d _ => by
    funext x; exact congrArg (inW V c) (by funext a; refine Fin.ext ((Pipeline.Window.rect_emb_val_of_index_zero (cfg1.win 1) t a ?_ _).trans rfl); fin_cases a <;> rfl)) _ t X rfl h
theorem finds_2 (t : Fin cfg1.N) (X) (h : (rdat V c).Finds 2 t X) : X = inB V c :=
  finds_const (rdat V c) 2 N_0 fetch1_2 (fun _ => rfl) (fun _ _ _ h => h) _ (fun t d _ => by
    funext x; exact congrArg (inB V c) (by funext a; refine Fin.ext ((Pipeline.Window.rect_emb_val_of_index_zero (cfg1.win 2) t a ?_ _).trans rfl); fin_cases a <;> rfl)) _ t X rfl h
theorem finds_3 (t : Fin cfg1.N) (X) (h : (rdat V c).Finds 3 t X) : X = mblk (inM V c) (t.cast N_0) := by
  obtain ⟨d, rfl⟩ := ((rdat V c).finds_of_fetch (fetch1_3 t) X).mp h
  funext x; exact congrArg (inM V c) (by
    have e : (grid0.coords t 0).val = t.val := congrArg (fun i : grid0.Coords => (i 0).val) (coords_eq t)
    have ht : t.val < 11 := t.isLt
    funext a
    refine Fin.ext ((Pipeline.Window.rect_emb_val (cfg1.win 3) t _ a).trans ?_)
    match a with
    | 0 =>
      show (BitVec.ofNat 32 (grid0.coords t 0).val).toNat * 4096 + (x 0).val = 4096 * t.val + (x 0).val
      rw [e, BitVec.toNat_ofNat, Nat.mod_eq_of_lt (by omega), Nat.mul_comm]
    | 1 => show 0 * 3 + (x 1).val = (x 1).val; omega)
theorem finds_4 (t : Fin cfg1.N) (X) (h : (rdat V c).Finds 4 t X) : good V c t.val X :=
  finds_step (rdat V c) 4 N_0 (fun _ => rfl) flush1_4 (good V c) (Mid.good_zero _ _ _ _) (fun _ _ _ h => h) _ t X rfl h

/-- Each point's body, at whatever the buffers may then hold. -/
theorem body : (rdat V c).BodyObligation (defs₀ (F := F)) Variants.none () Set.univ := fun t Y hY => by
  have e0 := finds_0 V c t _ (hY 0)
  have e1 := finds_1 V c t _ (hY 1)
  have e2 := finds_2 V c t _ (hY 2)
  have e3 := finds_3 V c t _ (hY 3)
  have e4 := finds_4 V c t _ (hY 4)
  rw [bigSep_W1, bigSep_W1]
  rw [show (rdat V c).Φ t.castSucc = _ from scopedRest1_split c, show (rdat V c).Φ t.succ = _ from scopedRest1_split c,
    show (rdat V c).owesAt () t.succ = (rdat V c).owesAt () t.castSucc from rfl]
  iintro ⟨⟨⟨%g, Hs⟩, Hr⟩, Ho, H0, H1, H2, H3, H4⟩
  rw [show defs₀ (F := F) .tc cfg1.body (cfg1.bodyArgs t (cfg1.slots t)) = bodyAt1 t from rfl]
  unfold bodyAt1
  rw [cc1_eq]
  iapply (mid_owns c (grid0.coords t) (st1_0 t) (st1_1 t) (st1_2 t) (st1_3 t) (st1_4 t) (Memref.whole cc1_scratch0)
    (hstage1_0 _) (hstage1_1 _) (hstage1_2 _) (hstage1_3 _) (hstage1_4 _) (Memref.isWhole_whole _) (Y 0) (Y 1) (Y 2) (Y 3) (Y 4) Set.univ _)
  isplitl [H0]; · iexact H0
  isplitl [H1]; · iexact H1
  isplitl [H2]; · iexact H2
  isplitl [H3]; · iexact H3
  isplitl [H4]; · iexact H4
  isplitl [Hs]; · iexists g; iexact Hs
  iintro %g' H0 H1 H2 H3 H4 Hs
  isplitl [Hs Hr]
  · isplitl [Hs]; · iexact Hs
    iexact Hr
  isplitl [Ho]; · iexact Ho
  isplitl [H0]; · iexists (Y 0); isplitr; (· ipureintro; rfl); iexact H0
  isplitl [H1]; · iexists (Y 1); isplitr; (· ipureintro; rfl); iexact H1
  isplitl [H2]; · iexists (Y 2); isplitr; (· ipureintro; rfl); iexact H2
  isplitl [H3]; · iexists (Y 3); isplitr; (· ipureintro; rfl); iexact H3
  iexists _; isplitr; swap; (· iexact H4)
  ipureintro
  intro hg
  rw [e0, e1, e2, e3, coords_eq]
  exact Mid.good_step _ _ _ _ (t.cast N_0) g' (Y 4) hg

/-- The output array after the region. -/
def out : Buf (Elt F) ((c : Thread nD τ).loc main_call0_v31) := midOut (inU V c) (inW V c) (inB V c) (inM V c)

/-- The unscoped buffers after the region. -/
abbrev next : Valuation τ sig (Elt F) := Function.update (V c) main_call0_v31 (out V c)

theorem arrAt_out (G) (h : (rdat V c).ArrAt 4 cfg1.N G) : G = out V c := by
  obtain ⟨X, ⟨Y, hY, hYX⟩, hG⟩ := h.emb_eq_of_wholeAt (t₀ := t1_10) (by decide +kernel)
  have hX : X = midOut (inU V c) (inW V c) (inB V c) (inM V c) := Mid.good_full _ _ _ _ X (hYX (finds_4 V c _ Y hY))
  funext j
  exact (hG j).trans (congrFun hX j)

theorem arrAt_in (w : Fin 5) (hw : w ≠ 4) (G) (h : (rdat V c).ArrAt w cfg1.N G) : G = V c (Pipeline.arrRef spec1 w) := by
  have hin : (cfg1.win w).isOut = false := by revert hw; fin_cases w <;> first | exact fun _ => rfl | exact fun h => absurd rfl h
  rw [(rdat V c).ArrAt_in w hin] at h
  exact h

theorem arrAt (w : Fin 5) (G) (h : (rdat V c).ArrAt w cfg1.N G) : G = next V c (Proc.devRef .tc (Pipeline.arrRef spec1 w)) := by
  by_cases hw : w = 4
  · subst hw
    exact (arrAt_out V c G h).trans (Function.update_self (Proc.devRef .tc main_call0_v31 : DevRef τ sig) (out V c) (V c)).symm
  · refine (arrAt_in V c w hw G h).trans (Function.update_of_ne ?_ _ _).symm
    revert hw; fin_cases w <;> first | exact fun h => absurd rfl h | exact fun _ => by decide

theorem rest (b : Ref sig .tc) (hb : b ∉ Finset.univ.image (Pipeline.arrRef spec1)) : next V c (Proc.devRef .tc b) = V c (Proc.devRef .tc b) := by
  refine Function.update_of_ne (fun e => hb ?_) _ _
  rw [Proc.devRef_injective _ e]
  exact Finset.mem_image.mpr ⟨4, Finset.mem_univ _, rfl⟩

end Cert.Reg1
-- ==== Proof.Region2.lean ====
/-
  Region 2: the third mid layer.
-/
module

public import proofs.«01_k».proof.Proof.MidRegion
public import proofs.«01_k».proof.Proof.Gen.Kernel.Points

@[expose] public section

noncomputable section

namespace Cert.Reg2

open Cert.Kernel Cert.Kernel.Gen Cert.Run
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg RDat Dat)

variable {F : FTy → Type} [FloatOps F]

local notation "𝕄" => MT nD τ sig Unit (Elt F) ℕ UU ℕ

variable (V : Dev nD → Valuation τ sig (Elt F)) (c : Dev nD)

abbrev inU : S47920x192.Idx → Elt F .bf16 := V c main_call0_v31
abbrev inW : S9x192x64.Idx → Elt F .bf16 := V c main_call0_v34
abbrev inB : S1x64.Idx → Elt F .f32 := V c main_call0_v35
abbrev inM : S45056x3.Idx → Elt F .bf16 := V c main_call0_v20

/-- What the output buffer satisfies after `n` points. -/
abbrev good (n : Nat) (X : S47920x192.Idx → Elt F .bf16) : Prop := Mid.Good (inU V c) (inW V c) (inB V c) (mblk (inM V c)) n X

/-- The region's proof data: the inputs stay as found, each point brings the output nearer to its final contents. -/
def rdat : RDat τ (Elt F) Unit ℕ UU ℕ cfg2 c where
  A w := V c (Pipeline.arrRef spec2 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => good V c t.val Y → good V c (t.val + 1) X
  Φ _ := Pipeline.scopedRest (Ix := Unit) (Name := ℕ) (U := UU) (Lvl := ℕ) (Val := Elt F) spec2 c
  q _ := fullShare
  owed _ := 0

theorem share (w : Fin cfg2.W) : (rdat V c).share w = fullShare := by unfold RDat.share; split <;> rfl

theorem finds_0 (t : Fin cfg2.N) (X) (h : (rdat V c).Finds 0 t X) : X = inU V c :=
  finds_const (rdat V c) 0 N_0 fetch2_0 (fun _ => rfl) (fun _ _ _ h => h) _ (fun t d _ => by
    funext x; exact congrArg (inU V c) (by funext a; refine Fin.ext ((Pipeline.Window.rect_emb_val_of_index_zero (cfg2.win 0) t a ?_ _).trans rfl); fin_cases a <;> rfl)) _ t X rfl h
theorem finds_1 (t : Fin cfg2.N) (X) (h : (rdat V c).Finds 1 t X) : X = inW V c :=
  finds_const (rdat V c) 1 N_0 fetch2_1 (fun _ => rfl) (fun _ _ _ h => h) _ (fun t d _ => by
    funext x; exact congrArg (inW V c) (by funext a; refine Fin.ext ((Pipeline.Window.rect_emb_val_of_index_zero (cfg2.win 1) t a ?_ _).trans rfl); fin_cases a <;> rfl)) _ t X rfl h
theorem finds_2 (t : Fin cfg2.N) (X) (h : (rdat V c).Finds 2 t X) : X = inB V c :=
  finds_const (rdat V c) 2 N_0 fetch2_2 (fun _ => rfl) (fun _ _ _ h => h) _ (fun t d _ => by
    funext x; exact congrArg (inB V c) (by funext a; refine Fin.ext ((Pipeline.Window.rect_emb_val_of_index_zero (cfg2.win 2) t a ?_ _).trans rfl); fin_cases a <;> rfl)) _ t X rfl h
theorem finds_3 (t : Fin cfg2.N) (X) (h : (rdat V c).Finds 3 t X) : X = mblk (inM V c) (t.cast N_0) := by
  obtain ⟨d, rfl⟩ := ((rdat V c).finds_of_fetch (fetch2_3 t) X).mp h
  funext x; exact congrArg (inM V c) (by
    have e : (grid0.coords t 0).val = t.val := congrArg (fun i : grid0.Coords => (i 0).val) (coords_eq t)
    have ht : t.val < 11 := t.isLt
    funext a
    refine Fin.ext ((Pipeline.Window.rect_emb_val (cfg2.win 3) t _ a).trans ?_)
    match a with
    | 0 =>
      show (BitVec.ofNat 32 (grid0.coords t 0).val).toNat * 4096 + (x 0).val = 4096 * t.val + (x 0).val
      rw [e, BitVec.toNat_ofNat, Nat.mod_eq_of_lt (by omega), Nat.mul_comm]
    | 1 => show 0 * 3 + (x 1).val = (x 1).val; omega)
theorem finds_4 (t : Fin cfg2.N) (X) (h : (rdat V c).Finds 4 t X) : good V c t.val X :=
  finds_step (rdat V c) 4 N_0 (fun _ => rfl) flush2_4 (good V c) (Mid.good_zero _ _ _ _) (fun _ _ _ h => h) _ t X rfl h

/-- Each point's body, at whatever the buffers may then hold. -/
theorem body : (rdat V c).BodyObligation (defs₀ (F := F)) Variants.none () Set.univ := fun t Y hY => by
  have e0 := finds_0 V c t _ (hY 0)
  have e1 := finds_1 V c t _ (hY 1)
  have e2 := finds_2 V c t _ (hY 2)
  have e3 := finds_3 V c t _ (hY 3)
  have e4 := finds_4 V c t _ (hY 4)
  rw [bigSep_W2, bigSep_W2]
  rw [show (rdat V c).Φ t.castSucc = _ from scopedRest2_split c, show (rdat V c).Φ t.succ = _ from scopedRest2_split c,
    show (rdat V c).owesAt () t.succ = (rdat V c).owesAt () t.castSucc from rfl]
  iintro ⟨⟨⟨%g, Hs⟩, Hr⟩, Ho, H0, H1, H2, H3, H4⟩
  rw [show defs₀ (F := F) .tc cfg2.body (cfg2.bodyArgs t (cfg2.slots t)) = bodyAt2 t from rfl]
  unfold bodyAt2
  rw [cc2_eq]
  iapply (mid_owns c (grid0.coords t) (st2_0 t) (st2_1 t) (st2_2 t) (st2_3 t) (st2_4 t) (Memref.whole cc2_scratch0)
    (hstage2_0 _) (hstage2_1 _) (hstage2_2 _) (hstage2_3 _) (hstage2_4 _) (Memref.isWhole_whole _) (Y 0) (Y 1) (Y 2) (Y 3) (Y 4) Set.univ _)
  isplitl [H0]; · iexact H0
  isplitl [H1]; · iexact H1
  isplitl [H2]; · iexact H2
  isplitl [H3]; · iexact H3
  isplitl [H4]; · iexact H4
  isplitl [Hs]; · iexists g; iexact Hs
  iintro %g' H0 H1 H2 H3 H4 Hs
  isplitl [Hs Hr]
  · isplitl [Hs]; · iexact Hs
    iexact Hr
  isplitl [Ho]; · iexact Ho
  isplitl [H0]; · iexists (Y 0); isplitr; (· ipureintro; rfl); iexact H0
  isplitl [H1]; · iexists (Y 1); isplitr; (· ipureintro; rfl); iexact H1
  isplitl [H2]; · iexists (Y 2); isplitr; (· ipureintro; rfl); iexact H2
  isplitl [H3]; · iexists (Y 3); isplitr; (· ipureintro; rfl); iexact H3
  iexists _; isplitr; swap; (· iexact H4)
  ipureintro
  intro hg
  rw [e0, e1, e2, e3, coords_eq]
  exact Mid.good_step _ _ _ _ (t.cast N_0) g' (Y 4) hg

/-- The output array after the region. -/
def out : Buf (Elt F) ((c : Thread nD τ).loc main_call0_v36) := midOut (inU V c) (inW V c) (inB V c) (inM V c)

/-- The unscoped buffers after the region. -/
abbrev next : Valuation τ sig (Elt F) := Function.update (V c) main_call0_v36 (out V c)

theorem arrAt_out (G) (h : (rdat V c).ArrAt 4 cfg2.N G) : G = out V c := by
  obtain ⟨X, ⟨Y, hY, hYX⟩, hG⟩ := h.emb_eq_of_wholeAt (t₀ := t2_10) (by decide +kernel)
  have hX : X = midOut (inU V c) (inW V c) (inB V c) (inM V c) := Mid.good_full _ _ _ _ X (hYX (finds_4 V c _ Y hY))
  funext j
  exact (hG j).trans (congrFun hX j)

theorem arrAt_in (w : Fin 5) (hw : w ≠ 4) (G) (h : (rdat V c).ArrAt w cfg2.N G) : G = V c (Pipeline.arrRef spec2 w) := by
  have hin : (cfg2.win w).isOut = false := by revert hw; fin_cases w <;> first | exact fun _ => rfl | exact fun h => absurd rfl h
  rw [(rdat V c).ArrAt_in w hin] at h
  exact h

theorem arrAt (w : Fin 5) (G) (h : (rdat V c).ArrAt w cfg2.N G) : G = next V c (Proc.devRef .tc (Pipeline.arrRef spec2 w)) := by
  by_cases hw : w = 4
  · subst hw
    exact (arrAt_out V c G h).trans (Function.update_self (Proc.devRef .tc main_call0_v36 : DevRef τ sig) (out V c) (V c)).symm
  · refine (arrAt_in V c w hw G h).trans (Function.update_of_ne ?_ _ _).symm
    revert hw; fin_cases w <;> first | exact fun h => absurd rfl h | exact fun _ => by decide

theorem rest (b : Ref sig .tc) (hb : b ∉ Finset.univ.image (Pipeline.arrRef spec2)) : next V c (Proc.devRef .tc b) = V c (Proc.devRef .tc b) := by
  refine Function.update_of_ne (fun e => hb ?_) _ _
  rw [Proc.devRef_injective _ e]
  exact Finset.mem_image.mpr ⟨4, Finset.mem_univ _, rfl⟩

end Cert.Reg2
-- ==== Proof.Region3.lean ====
/-
  Region 3: the fourth mid layer.
-/
module

public import proofs.«01_k».proof.Proof.MidRegion
public import proofs.«01_k».proof.Proof.Gen.Kernel.Points

@[expose] public section

noncomputable section

namespace Cert.Reg3

open Cert.Kernel Cert.Kernel.Gen Cert.Run
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg RDat Dat)

variable {F : FTy → Type} [FloatOps F]

local notation "𝕄" => MT nD τ sig Unit (Elt F) ℕ UU ℕ

variable (V : Dev nD → Valuation τ sig (Elt F)) (c : Dev nD)

abbrev inU : S47920x192.Idx → Elt F .bf16 := V c main_call0_v36
abbrev inW : S9x192x64.Idx → Elt F .bf16 := V c main_call0_v39
abbrev inB : S1x64.Idx → Elt F .f32 := V c main_call0_v40
abbrev inM : S45056x3.Idx → Elt F .bf16 := V c main_call0_v20

/-- What the output buffer satisfies after `n` points. -/
abbrev good (n : Nat) (X : S47920x192.Idx → Elt F .bf16) : Prop := Mid.Good (inU V c) (inW V c) (inB V c) (mblk (inM V c)) n X

/-- The region's proof data: the inputs stay as found, each point brings the output nearer to its final contents. -/
def rdat : RDat τ (Elt F) Unit ℕ UU ℕ cfg3 c where
  A w := V c (Pipeline.arrRef spec3 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => good V c t.val Y → good V c (t.val + 1) X
  Φ _ := Pipeline.scopedRest (Ix := Unit) (Name := ℕ) (U := UU) (Lvl := ℕ) (Val := Elt F) spec3 c
  q _ := fullShare
  owed _ := 0

theorem share (w : Fin cfg3.W) : (rdat V c).share w = fullShare := by unfold RDat.share; split <;> rfl

theorem finds_0 (t : Fin cfg3.N) (X) (h : (rdat V c).Finds 0 t X) : X = inU V c :=
  finds_const (rdat V c) 0 N_0 fetch3_0 (fun _ => rfl) (fun _ _ _ h => h) _ (fun t d _ => by
    funext x; exact congrArg (inU V c) (by funext a; refine Fin.ext ((Pipeline.Window.rect_emb_val_of_index_zero (cfg3.win 0) t a ?_ _).trans rfl); fin_cases a <;> rfl)) _ t X rfl h
theorem finds_1 (t : Fin cfg3.N) (X) (h : (rdat V c).Finds 1 t X) : X = inW V c :=
  finds_const (rdat V c) 1 N_0 fetch3_1 (fun _ => rfl) (fun _ _ _ h => h) _ (fun t d _ => by
    funext x; exact congrArg (inW V c) (by funext a; refine Fin.ext ((Pipeline.Window.rect_emb_val_of_index_zero (cfg3.win 1) t a ?_ _).trans rfl); fin_cases a <;> rfl)) _ t X rfl h
theorem finds_2 (t : Fin cfg3.N) (X) (h : (rdat V c).Finds 2 t X) : X = inB V c :=
  finds_const (rdat V c) 2 N_0 fetch3_2 (fun _ => rfl) (fun _ _ _ h => h) _ (fun t d _ => by
    funext x; exact congrArg (inB V c) (by funext a; refine Fin.ext ((Pipeline.Window.rect_emb_val_of_index_zero (cfg3.win 2) t a ?_ _).trans rfl); fin_cases a <;> rfl)) _ t X rfl h
theorem finds_3 (t : Fin cfg3.N) (X) (h : (rdat V c).Finds 3 t X) : X = mblk (inM V c) (t.cast N_0) := by
  obtain ⟨d, rfl⟩ := ((rdat V c).finds_of_fetch (fetch3_3 t) X).mp h
  funext x; exact congrArg (inM V c) (by
    have e : (grid0.coords t 0).val = t.val := congrArg (fun i : grid0.Coords => (i 0).val) (coords_eq t)
    have ht : t.val < 11 := t.isLt
    funext a
    refine Fin.ext ((Pipeline.Window.rect_emb_val (cfg3.win 3) t _ a).trans ?_)
    match a with
    | 0 =>
      show (BitVec.ofNat 32 (grid0.coords t 0).val).toNat * 4096 + (x 0).val = 4096 * t.val + (x 0).val
      rw [e, BitVec.toNat_ofNat, Nat.mod_eq_of_lt (by omega), Nat.mul_comm]
    | 1 => show 0 * 3 + (x 1).val = (x 1).val; omega)
theorem finds_4 (t : Fin cfg3.N) (X) (h : (rdat V c).Finds 4 t X) : good V c t.val X :=
  finds_step (rdat V c) 4 N_0 (fun _ => rfl) flush3_4 (good V c) (Mid.good_zero _ _ _ _) (fun _ _ _ h => h) _ t X rfl h

/-- Each point's body, at whatever the buffers may then hold. -/
theorem body : (rdat V c).BodyObligation (defs₀ (F := F)) Variants.none () Set.univ := fun t Y hY => by
  have e0 := finds_0 V c t _ (hY 0)
  have e1 := finds_1 V c t _ (hY 1)
  have e2 := finds_2 V c t _ (hY 2)
  have e3 := finds_3 V c t _ (hY 3)
  have e4 := finds_4 V c t _ (hY 4)
  rw [bigSep_W3, bigSep_W3]
  rw [show (rdat V c).Φ t.castSucc = _ from scopedRest3_split c, show (rdat V c).Φ t.succ = _ from scopedRest3_split c,
    show (rdat V c).owesAt () t.succ = (rdat V c).owesAt () t.castSucc from rfl]
  iintro ⟨⟨⟨%g, Hs⟩, Hr⟩, Ho, H0, H1, H2, H3, H4⟩
  rw [show defs₀ (F := F) .tc cfg3.body (cfg3.bodyArgs t (cfg3.slots t)) = bodyAt3 t from rfl]
  unfold bodyAt3
  rw [cc3_eq]
  iapply (mid_owns c (grid0.coords t) (st3_0 t) (st3_1 t) (st3_2 t) (st3_3 t) (st3_4 t) (Memref.whole cc3_scratch0)
    (hstage3_0 _) (hstage3_1 _) (hstage3_2 _) (hstage3_3 _) (hstage3_4 _) (Memref.isWhole_whole _) (Y 0) (Y 1) (Y 2) (Y 3) (Y 4) Set.univ _)
  isplitl [H0]; · iexact H0
  isplitl [H1]; · iexact H1
  isplitl [H2]; · iexact H2
  isplitl [H3]; · iexact H3
  isplitl [H4]; · iexact H4
  isplitl [Hs]; · iexists g; iexact Hs
  iintro %g' H0 H1 H2 H3 H4 Hs
  isplitl [Hs Hr]
  · isplitl [Hs]; · iexact Hs
    iexact Hr
  isplitl [Ho]; · iexact Ho
  isplitl [H0]; · iexists (Y 0); isplitr; (· ipureintro; rfl); iexact H0
  isplitl [H1]; · iexists (Y 1); isplitr; (· ipureintro; rfl); iexact H1
  isplitl [H2]; · iexists (Y 2); isplitr; (· ipureintro; rfl); iexact H2
  isplitl [H3]; · iexists (Y 3); isplitr; (· ipureintro; rfl); iexact H3
  iexists _; isplitr; swap; (· iexact H4)
  ipureintro
  intro hg
  rw [e0, e1, e2, e3, coords_eq]
  exact Mid.good_step _ _ _ _ (t.cast N_0) g' (Y 4) hg

/-- The output array after the region. -/
def out : Buf (Elt F) ((c : Thread nD τ).loc main_call0_v41) := midOut (inU V c) (inW V c) (inB V c) (inM V c)

/-- The unscoped buffers after the region. -/
abbrev next : Valuation τ sig (Elt F) := Function.update (V c) main_call0_v41 (out V c)

theorem arrAt_out (G) (h : (rdat V c).ArrAt 4 cfg3.N G) : G = out V c := by
  obtain ⟨X, ⟨Y, hY, hYX⟩, hG⟩ := h.emb_eq_of_wholeAt (t₀ := t3_10) (by decide +kernel)
  have hX : X = midOut (inU V c) (inW V c) (inB V c) (inM V c) := Mid.good_full _ _ _ _ X (hYX (finds_4 V c _ Y hY))
  funext j
  exact (hG j).trans (congrFun hX j)

theorem arrAt_in (w : Fin 5) (hw : w ≠ 4) (G) (h : (rdat V c).ArrAt w cfg3.N G) : G = V c (Pipeline.arrRef spec3 w) := by
  have hin : (cfg3.win w).isOut = false := by revert hw; fin_cases w <;> first | exact fun _ => rfl | exact fun h => absurd rfl h
  rw [(rdat V c).ArrAt_in w hin] at h
  exact h

theorem arrAt (w : Fin 5) (G) (h : (rdat V c).ArrAt w cfg3.N G) : G = next V c (Proc.devRef .tc (Pipeline.arrRef spec3 w)) := by
  by_cases hw : w = 4
  · subst hw
    exact (arrAt_out V c G h).trans (Function.update_self (Proc.devRef .tc main_call0_v41 : DevRef τ sig) (out V c) (V c)).symm
  · refine (arrAt_in V c w hw G h).trans (Function.update_of_ne ?_ _ _).symm
    revert hw; fin_cases w <;> first | exact fun h => absurd rfl h | exact fun _ => by decide

theorem rest (b : Ref sig .tc) (hb : b ∉ Finset.univ.image (Pipeline.arrRef spec3)) : next V c (Proc.devRef .tc b) = V c (Proc.devRef .tc b) := by
  refine Function.update_of_ne (fun e => hb ?_) _ _
  rw [Proc.devRef_injective _ e]
  exact Finset.mem_image.mpr ⟨4, Finset.mem_univ _, rfl⟩

end Cert.Reg3
-- ==== Proof.Region4.lean ====
/-
  Region 4: the last layer.
-/
module

public import proofs.«01_k».proof.Proof.Owned
public import proofs.«01_k».proof.Proof.Region
public import proofs.«01_k».proof.Proof.Gen.Kernel.Points

@[expose] public section

noncomputable section

namespace Cert.Reg4

open Cert.Kernel Cert.Kernel.Gen Cert.Run
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg RDat Dat)

variable {F : FTy → Type} [FloatOps F]

local notation "𝕄" => MT nD τ sig Unit (Elt F) ℕ UU ℕ

/-- Grid point number `t`, and grid point `t`'s coordinates. -/
def pt4 (t : Fin 11) : grid4.Coords := fun | 0 => t
theorem coords_eq (t : Fin grid4.N) : grid4.coords t = pt4 (t.cast N_4) := by
  funext a
  match a with
  | 0 => exact Fin.ext (by show t.val / 1 % 11 = t.val; have := t.isLt; have e := N_4; omega)

def ixB (r c : Nat) (hr : r < 4096) (hc : c < 54) : S4096x54.Idx := fun | 0 => ⟨r, hr⟩ | 1 => ⟨c, hc⟩

/-- What the last layer leaves in its output array: of its packed input, its filters and its bias. -/
def lastOut (u : S47920x192.Idx → Elt F .bf16) (w : S9x192x54.Idx → Elt F .bf16) (b : S1x54.Idx → Elt F .f32) : S45056x54.Idx → Elt F .f32 := fun x =>
  Last.yV (pt4 ⟨(x 0).val / 4096, by have h : (x 0).val < 45056 := (x 0).isLt; omega⟩) u w b (ixB ((x 0).val % 4096) (x 1).val (Nat.mod_lt _ (by decide)) (x 1).isLt)

variable (V : Dev nD → Valuation τ sig (Elt F)) (c : Dev nD)

abbrev inU : S47920x192.Idx → Elt F .bf16 := V c main_call0_v41
abbrev inW : S9x192x54.Idx → Elt F .bf16 := V c main_call0_v44
abbrev inB : S1x54.Idx → Elt F .f32 := V c main_call0_v45

/-- The region's proof data: the inputs stay as found, the output block is the inputs' alone. -/
def rdat : RDat τ (Elt F) Unit ℕ UU ℕ cfg4 c where
  A w := V c (Pipeline.arrRef spec4 w)
  after w t := match w with
    | ⟨0, _⟩ => fun Y X => X = Y
    | ⟨1, _⟩ => fun Y X => X = Y
    | ⟨2, _⟩ => fun Y X => X = Y
    | ⟨3, _⟩ => fun _ X => X = Last.yV (pt4 (t.cast N_4)) (inU V c) (inW V c) (inB V c)
  Φ _ := Pipeline.scopedRest (Ix := Unit) (Name := ℕ) (U := UU) (Lvl := ℕ) (Val := Elt F) spec4 c
  q _ := fullShare
  owed _ := 0

theorem share (w : Fin cfg4.W) : (rdat V c).share w = fullShare := by unfold RDat.share; split <;> rfl

theorem finds_0 (t : Fin cfg4.N) (X) (h : (rdat V c).Finds 0 t X) : X = inU V c :=
  finds_const (rdat V c) 0 N_4 fetch4_0 (fun _ => rfl) (fun _ _ _ h => h) _ (fun t d _ => by
    funext x; exact congrArg (inU V c) (by funext a; refine Fin.ext ((Pipeline.Window.rect_emb_val_of_index_zero (cfg4.win 0) t a ?_ _).trans rfl); fin_cases a <;> rfl)) _ t X rfl h
theorem finds_1 (t : Fin cfg4.N) (X) (h : (rdat V c).Finds 1 t X) : X = inW V c :=
  finds_const (rdat V c) 1 N_4 fetch4_1 (fun _ => rfl) (fun _ _ _ h => h) _ (fun t d _ => by
    funext x; exact congrArg (inW V c) (by funext a; refine Fin.ext ((Pipeline.Window.rect_emb_val_of_index_zero (cfg4.win 1) t a ?_ _).trans rfl); fin_cases a <;> rfl)) _ t X rfl h
theorem finds_2 (t : Fin cfg4.N) (X) (h : (rdat V c).Finds 2 t X) : X = inB V c :=
  finds_const (rdat V c) 2 N_4 fetch4_2 (fun _ => rfl) (fun _ _ _ h => h) _ (fun t d _ => by
    funext x; exact congrArg (inB V c) (by funext a; refine Fin.ext ((Pipeline.Window.rect_emb_val_of_index_zero (cfg4.win 2) t a ?_ _).trans rfl); fin_cases a <;> rfl)) _ t X rfl h

/-- Each point's body, at whatever the buffers may then hold. -/
theorem body : (rdat V c).BodyObligation (defs₀ (F := F)) Variants.none () Set.univ := fun t Y hY => by
  have e0 := finds_0 V c t _ (hY 0)
  have e1 := finds_1 V c t _ (hY 1)
  have e2 := finds_2 V c t _ (hY 2)
  rw [bigSep_W4, bigSep_W4]
  rw [show (rdat V c).Φ t.succ = (rdat V c).Φ t.castSucc from rfl, show (rdat V c).owesAt () t.succ = (rdat V c).owesAt () t.castSucc from rfl]
  rw [show defs₀ (F := F) .tc cfg4.body (cfg4.bodyArgs t (cfg4.slots t)) = bodyAt4 t from rfl]
  unfold bodyAt4
  iintro ⟨Hr, Ho, H0, H1, H2, H3⟩
  iapply (last_owns c (grid4.coords t) (st4_0 t) (st4_1 t) (st4_2 t) (st4_3 t)
    (hstage4_0 _) (hstage4_1 _) (hstage4_2 _) (hstage4_3 _) (Y 0) (Y 1) (Y 2) (Y 3) Set.univ _)
  isplitl [H0]; · iexact H0
  isplitl [H1]; · iexact H1
  isplitl [H2]; · iexact H2
  isplitl [H3]; · iexact H3
  iintro H0 H1 H2 H3
  isplitl [Hr]; · iexact Hr
  isplitl [Ho]; · iexact Ho
  isplitl [H0]; · iexists (Y 0); isplitr; (· ipureintro; rfl); iexact H0
  isplitl [H1]; · iexists (Y 1); isplitr; (· ipureintro; rfl); iexact H1
  isplitl [H2]; · iexists (Y 2); isplitr; (· ipureintro; rfl); iexact H2
  iexists _; isplitr; swap; (· iexact H3)
  ipureintro
  show Last.yV (grid4.coords t) (Y 0) (Y 1) (Y 2) = _
  rw [e0, e1, e2, coords_eq]

/-- The output array after the region. -/
def out : Buf (Elt F) ((c : Thread nD τ).loc main_call0_v46) := lastOut (inU V c) (inW V c) (inB V c)

/-- The unscoped buffers after the region. -/
abbrev next : Valuation τ sig (Elt F) := Function.update (V c) main_call0_v46 (out V c)

theorem yV_congr {t t' : Fin 11} (e : t = t') (u : S47920x192.Idx → Elt F .bf16) (w : S9x192x54.Idx → Elt F .bf16) (b : S1x54.Idx → Elt F .f32) (y y' : S4096x54.Idx) (ey : y = y') :
    Last.yV (pt4 t) u w b y = Last.yV (pt4 t') u w b y' := by subst e; subst ey; rfl

theorem arrAt_out (G) (h : (rdat V c).ArrAt 3 cfg4.N G) : G = out V c := by
  obtain ⟨X, hX, hG⟩ := h.exists_exact
  rw [hG (Function.update (fun _ _ _ => Classical.arbitrary _) 3 X) fun u _ _ => by rw [Function.update_self]]
  refine Pipeline.Dat.arrAt_eq_of_covers _ 3 _ (by decide +kernel) fun t hf y => ?_
  obtain ⟨_, _, hYX⟩ := hX t t.isLt hf
  have hXt : X t = Last.yV (pt4 (t.cast N_4)) (inU V c) (inW V c) (inB V c) := hYX
  have e : (grid4.coords t 0).val = t.val := congrArg (fun i : grid4.Coords => (i 0).val) (coords_eq t)
  have ht : t.val < 11 := t.isLt
  have y0 : (y 0).val < 4096 := (y 0).isLt
  have b0 : ((((cfg4.win 3).blk t).view.emb y : S45056x54.Idx) 0).val = t.val * 4096 + (y 0).val := by
    refine (Pipeline.Window.rect_emb_val (cfg4.win 3) t y 0).trans ?_
    show (BitVec.ofNat 32 (grid4.coords t 0).val).toNat * 4096 + (y 0).val = _
    rw [e, BitVec.toNat_ofNat, Nat.mod_eq_of_lt (by omega)]
  have b1 : ((((cfg4.win 3).blk t).view.emb y : S45056x54.Idx) 1).val = (y 1).val := by
    refine (Pipeline.Window.rect_emb_val (cfg4.win 3) t y 1).trans ?_
    show 0 * 54 + (y 1).val = _; omega
  rw [RDat.withAfter_after, Function.update_self, hXt]
  refine yV_congr (Fin.ext ?_) _ _ _ _ _ ?_
  · show t.val = ((((cfg4.win 3).blk t).view.emb y : S45056x54.Idx) 0).val / 4096
    omega
  · funext a
    refine Fin.ext ?_
    match a with
    | 0 =>
      show (y 0).val = ((((cfg4.win 3).blk t).view.emb y : S45056x54.Idx) 0).val % 4096
      omega
    | 1 => exact b1.symm

theorem arrAt_in (w : Fin 4) (hw : w ≠ 3) (G) (h : (rdat V c).ArrAt w cfg4.N G) : G = V c (Pipeline.arrRef spec4 w) := by
  have hin : (cfg4.win w).isOut = false := by revert hw; fin_cases w <;> first | exact fun _ => rfl | exact fun h => absurd rfl h
  rw [(rdat V c).ArrAt_in w hin] at h
  exact h

theorem arrAt (w : Fin 4) (G) (h : (rdat V c).ArrAt w cfg4.N G) : G = next V c (Proc.devRef .tc (Pipeline.arrRef spec4 w)) := by
  by_cases hw : w = 3
  · subst hw
    exact (arrAt_out V c G h).trans (Function.update_self (Proc.devRef .tc main_call0_v46 : DevRef τ sig) (out V c) (V c)).symm
  · refine (arrAt_in V c w hw G h).trans (Function.update_of_ne ?_ _ _).symm
    revert hw; fin_cases w <;> first | exact fun h => absurd rfl h | exact fun _ => by decide

theorem rest (b : Ref sig .tc) (hb : b ∉ Finset.univ.image (Pipeline.arrRef spec4)) : next V c (Proc.devRef .tc b) = V c (Proc.devRef .tc b) := by
  refine Function.update_of_ne (fun e => hb ?_) _ _
  rw [Proc.devRef_injective _ e]
  exact Finset.mem_image.mpr ⟨3, Finset.mem_univ _, rfl⟩

end Cert.Reg4
-- ==== Proof.KernelRun.lean ====
/-
  The kernel's run: the host stretches and the five regions in order, from any memory to one whose result is the last
  valuation's and whose arguments are unchanged.
-/
module

public import proofs.«01_k».proof.Proof.Region0
public import proofs.«01_k».proof.Proof.Region1
public import proofs.«01_k».proof.Proof.Region2
public import proofs.«01_k».proof.Proof.Region3
public import proofs.«01_k».proof.Proof.Region4
public import Idealize.ShloMosaic.Adequacy
public import Idealize.ShloMosaic.Init

@[expose] public section

noncomputable section

namespace Cert.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg RDat Dat)

variable {F : FTy → Type} [FloatOps F]

local notation "𝕄" => MT nD τ sig Unit (Elt F) ℕ UU ℕ

variable (m : (ℓ : Loc nD τ sig) → Buf (Elt F) ℓ)

/-! ## The buffers between the items -/

/-- The unscoped buffers after each region and each host stretch. -/
def U2 (c : Dev nD) : Valuation τ sig (Elt F) := Reg0.next (V1 m) c
def U3 (c : Dev nD) : Valuation τ sig (Elt F) := StableHlo.after hostOps1 (U2 m c)
def U4 (c : Dev nD) : Valuation τ sig (Elt F) := Reg1.next (U3 m) c
def U5 (c : Dev nD) : Valuation τ sig (Elt F) := StableHlo.after hostOps2 (U4 m c)
def U6 (c : Dev nD) : Valuation τ sig (Elt F) := Reg2.next (U5 m) c
def U7 (c : Dev nD) : Valuation τ sig (Elt F) := StableHlo.after hostOps3 (U6 m c)
def U8 (c : Dev nD) : Valuation τ sig (Elt F) := Reg3.next (U7 m) c
def U9 (c : Dev nD) : Valuation τ sig (Elt F) := StableHlo.after hostOps4 (U8 m c)
def U10 (c : Dev nD) : Valuation τ sig (Elt F) := Reg4.next (U9 m) c
def U11 (c : Dev nD) : Valuation τ sig (Elt F) := StableHlo.after hostOps5 (U10 m c)

/-- What each region leaves, read off the chain. -/
def outs : Outs (F := F) := fun j r c => match j with
  | 2 => U2 m c r
  | 4 => U4 m c r
  | 6 => U6 m c r
  | 8 => U8 m c r
  | _ => U10 m c r

theorem update_out (W : Valuation τ sig (Elt F)) (d : DevRef τ sig) (x : (d.ty).Contents (Elt F)) : Function.update W d (Function.update W d x d) = Function.update W d x := by
  rw [Function.update_self]

theorem V2_eq (c : Dev nD) : V2 m (outs m) c = U2 m c := update_out _ _ _
theorem V3_eq (c : Dev nD) : V3 m (outs m) c = U3 m c := congrArg (StableHlo.after hostOps1) (V2_eq m c)
theorem V4_eq (c : Dev nD) : V4 m (outs m) c = U4 m c := by
  unfold V4; rw [V3_eq]; exact update_out _ _ _
theorem V5_eq (c : Dev nD) : V5 m (outs m) c = U5 m c := congrArg (StableHlo.after hostOps2) (V4_eq m c)
theorem V6_eq (c : Dev nD) : V6 m (outs m) c = U6 m c := by
  unfold V6; rw [V5_eq]; exact update_out _ _ _
theorem V7_eq (c : Dev nD) : V7 m (outs m) c = U7 m c := congrArg (StableHlo.after hostOps3) (V6_eq m c)
theorem V8_eq (c : Dev nD) : V8 m (outs m) c = U8 m c := by
  unfold V8; rw [V7_eq]; exact update_out _ _ _
theorem V9_eq (c : Dev nD) : V9 m (outs m) c = U9 m c := congrArg (StableHlo.after hostOps4) (V8_eq m c)
theorem V10_eq (c : Dev nD) : V10 m (outs m) c = U10 m c := by
  unfold V10; rw [V9_eq]; exact update_out _ _ _
theorem V11_eq (c : Dev nD) : V11 m (outs m) c = U11 m c := congrArg (StableHlo.after hostOps5) (V10_eq m c)

/-! ## The segments -/

/-- Every region's proof data, each at the buffers it is entered with. -/
def rdats : (p : Fin 5) → (c : Dev nD) → RDat τ (Elt F) Unit ℕ UU ℕ (Pipeline.pin (pcfgs (F := F)) adm p) c
  | ⟨0, _⟩ => Reg0.rdat (V1 m)
  | ⟨1, _⟩ => Reg1.rdat (U3 m)
  | ⟨2, _⟩ => Reg2.rdat (U5 m)
  | ⟨3, _⟩ => Reg3.rdat (U7 m)
  | ⟨4, _⟩ => Reg4.rdat (U9 m)

attribute [local irreducible] Pipeline.scopedRest StableHlo.after

def R0 := mkSeg (rdats m) 0 launch0 (Reg0.body (V1 m)) (V1 m) (U2 m) (fun c t => (rfl : (Reg0.rdat (V1 m) c).Φ t = Pipeline.scopedRest spec0 c)) (fun c w => Reg0.share (V1 m) c w) (fun _ _ => rfl) (fun _ => rfl) rfl (fun _ _ => rfl)
  (fun c w G h => Reg0.arrAt (V1 m) c w G h) (fun c b hb => Reg0.rest (V1 m) c b hb)
def R1 := mkSeg (rdats m) 1 launch1 (Reg1.body (U3 m)) (U3 m) (U4 m) (fun c t => (rfl : (Reg1.rdat (U3 m) c).Φ t = Pipeline.scopedRest spec1 c)) (fun c w => Reg1.share (U3 m) c w) (fun _ _ => rfl) (fun _ => rfl) rfl (fun _ _ => rfl)
  (fun c w G h => Reg1.arrAt (U3 m) c w G h) (fun c b hb => Reg1.rest (U3 m) c b hb)
def R2 := mkSeg (rdats m) 2 launch2 (Reg2.body (U5 m)) (U5 m) (U6 m) (fun c t => (rfl : (Reg2.rdat (U5 m) c).Φ t = Pipeline.scopedRest spec2 c)) (fun c w => Reg2.share (U5 m) c w) (fun _ _ => rfl) (fun _ => rfl) rfl (fun _ _ => rfl)
  (fun c w G h => Reg2.arrAt (U5 m) c w G h) (fun c b hb => Reg2.rest (U5 m) c b hb)
def R3 := mkSeg (rdats m) 3 launch3 (Reg3.body (U7 m)) (U7 m) (U8 m) (fun c t => (rfl : (Reg3.rdat (U7 m) c).Φ t = Pipeline.scopedRest spec3 c)) (fun c w => Reg3.share (U7 m) c w) (fun _ _ => rfl) (fun _ => rfl) rfl (fun _ _ => rfl)
  (fun c w G h => Reg3.arrAt (U7 m) c w G h) (fun c b hb => Reg3.rest (U7 m) c b hb)
def R4 := mkSeg (rdats m) 4 launch4 (Reg4.body (U9 m)) (U9 m) (U10 m) (fun c t => (rfl : (Reg4.rdat (U9 m) c).Φ t = Pipeline.scopedRest spec4 c)) (fun c w => Reg4.share (U9 m) c w) (fun _ _ => rfl) (fun _ => rfl) rfl (fun _ _ => rfl)
  (fun c w G h => Reg4.arrAt (U9 m) c w G h) (fun c b hb => Reg4.rest (U9 m) c b hb)

end Cert.Run
-- ==== Proof.KernelEnd.lean ====
/-
  The kernel's whole run: from any memory every execution ends with the arguments as launched, the result at the last
  valuation, and every semaphore at zero.
-/
module

public import proofs.«01_k».proof.Proof.KernelRun

@[expose] public section

noncomputable section

namespace Cert.Run

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg RDat Dat)

variable {F : FTy → Type} [FloatOps F]

local notation "𝕄" => MT nD τ sig Unit (Elt F) ℕ UU ℕ

variable (m : (ℓ : Loc nD τ sig) → Buf (Elt F) ℓ)

/-- What rides along each host stretch. -/
abbrev EE : Fin 6 → Dev nD → sProp 𝕄 := fun _ => RR

/-- The program, item by item. -/
abbrev items (c : Dev nD) : List (RDat.Seg (pcfgs (F := F)) adm (rdats m) () defs₀ Variants.none LL lvv) :=
  [.host (seg0 m Variants.none LL lvv EE), .region (R0 m), .host (seg2 m (outs m) Variants.none LL lvv EE), .region (R1 m),
    .host (seg4 m (outs m) Variants.none LL lvv EE), .region (R2 m), .host (seg6 m (outs m) Variants.none LL lvv EE), .region (R3 m),
    .host (seg8 m (outs m) Variants.none LL lvv EE), .region (R4 m), .host (seg10 m (outs m) Variants.none LL lvv EE)]

/-- The pipeline library's tokens at launch. -/
def u₀ : UU := (initOf (Pipeline.cells cfgs cellOf_inj) (Pipeline.launchToks cfgs cellOf_inj), 1)

/-- The unscoped buffers at one valuation, beside what rides along, pass to an equal valuation. -/
theorem held_cast (c : Dev nD) {V W : Valuation τ sig (Elt F)} (h : V = W) :
    iprop(StableHlo.held (c : Thread nD τ) (Pipeline.ucRefs τ sig) V ∗ RR c) ⊢ (iprop(StableHlo.held (c : Thread nD τ) (Pipeline.ucRefs τ sig) W ∗ RR c) : sProp 𝕄) := by
  rw [h]

/-- What the run leaves on a core: the arguments as launched, the result at the last valuation. -/
def Post (c : Dev nD) (s : (ℓ : Loc nD τ sig) → Buf (Elt F) ℓ) : Prop :=
  s ((c.tc : Thread nD τ).loc main_v0) = U11 m c main_v0
  ∧ s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)
  ∧ s ((c.tc : Thread nD τ).loc main_arg8) = m ((c.tc : Thread nD τ).loc main_arg8)
  ∧ s ((c.tc : Thread nD τ).loc main_arg9) = m ((c.tc : Thread nD τ).loc main_arg9)
  ∧ s ((c.tc : Thread nD τ).loc main_arg10) = m ((c.tc : Thread nD τ).loc main_arg10)

set_option backward.isDefEq.respectTransparency.types false in
theorem kernel_run (ρ : Dev nD → PrngReg) :
    θ_run defs (onTc (τ := τ) (main (F := F))) ⟨m, fun _ => 0, ρ⟩ (fun r => (∀ c : Dev nD, Post m c r.2.mem) ∧ r.2.sem = fun _ => 0) := by
  refine RDat.θ_run_regions_kit_dev_sems (pcfgs (F := F)) adm (rdats m) () cellOf_inj embL defs₀ Variants.none LL lvv m ρ main
    (items m)
    (fun c Q => by
      rewrite [main_chain c, RDat.Seg.run_eq_chain,
        show (items m c).map RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      dsimp (config := { failIfUnchanged := false }) only
      exact .rfl)
    (fun c => by simp only [items, RDat.Seg.pipes_host, RDat.Seg.pipes_region, RDat.Seg.pipes_nil]; decide) 0 (fun _ _ => rfl)
    (fun _ => iprop(emp)) u₀ ?_
    (T₀ := fun c => iprop(StableHlo.held (c : Thread nD τ) (Pipeline.ucRefs τ sig) (V0 m c) ∗ RR c))
    (Tₙ := fun c => StableHlo.held (c : Thread nD τ) (Pipeline.ucRefs τ sig) (V11 m (outs m) c))
    (hch := fun c => ⟨.rfl, .rfl, held_cast c (V2_eq m c).symm, held_cast c (V3_eq m c), held_cast c (V4_eq m c).symm, held_cast c (V5_eq m c),
      held_cast c (V6_eq m c).symm, held_cast c (V7_eq m c), held_cast c (V8_eq m c).symm, held_cast c (V9_eq m c), held_cast c (V10_eq m c).symm, .rfl⟩)
    (hinit := ?_) (QY := fun c s => Post m c s.mem)
    (hfin := fun c s' => ?_) (hQ := fun _ h hz => ⟨h, funext fun g => hz g (.inr (regions_no_unscoped g.2))⟩)
  · iintro Hu
    ihave H := (ownU_pair _ _) $$ Hu
    icases H with ⟨HP, -⟩
    imodintro
    isplitl [HP]; · iexact HP
    iapply (show (BI.emp : sProp 𝕄) ⊢ bigSep Finset.univ (fun _ : Dev nD => BI.emp) from by rw [BI.bigSep_emp_const])
    iempintro
  · refine Pipeline.initEach LL lvv fun c => ?_
    rw [show unscopedBufs c (fun b => m ((c.tc : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V11 m (outs m) c) s') $$ [Hh HSI]
    · isplitl [Hh] <;> iassumption
    icases Hr with ⟨%h, HSI⟩
    imodintro
    isplitr
    · ipureintro
      have at' : ∀ b : Ref sig .tc, Proc.devRef .tc b ∈ Pipeline.ucRefs τ sig → s'.mem.mem ((c.tc : Thread nD τ).loc b) = V11 m (outs m) c b := fun b hb => h (Proc.devRef .tc b) hb
      exact ⟨(at' main_v0 (Finset.mem_filter.mpr ⟨StableHlo.devRef_mem_tcRefs main_v0, by decide⟩)).trans (congrFun (V11_eq m c) _),
        (at' main_arg0 (Finset.mem_filter.mpr ⟨StableHlo.devRef_mem_tcRefs main_arg0, by decide⟩)).trans (V11_main_arg0 m (outs m) c),
        (at' main_arg1 (Finset.mem_filter.mpr ⟨StableHlo.devRef_mem_tcRefs main_arg1, by decide⟩)).trans (V11_main_arg1 m (outs m) c),
        (at' main_arg2 (Finset.mem_filter.mpr ⟨StableHlo.devRef_mem_tcRefs main_arg2, by decide⟩)).trans (V11_main_arg2 m (outs m) c),
        (at' main_arg3 (Finset.mem_filter.mpr ⟨StableHlo.devRef_mem_tcRefs main_arg3, by decide⟩)).trans (V11_main_arg3 m (outs m) c),
        (at' main_arg4 (Finset.mem_filter.mpr ⟨StableHlo.devRef_mem_tcRefs main_arg4, by decide⟩)).trans (V11_main_arg4 m (outs m) c),
        (at' main_arg5 (Finset.mem_filter.mpr ⟨StableHlo.devRef_mem_tcRefs main_arg5, by decide⟩)).trans (V11_main_arg5 m (outs m) c),
        (at' main_arg6 (Finset.mem_filter.mpr ⟨StableHlo.devRef_mem_tcRefs main_arg6, by decide⟩)).trans (V11_main_arg6 m (outs m) c),
        (at' main_arg7 (Finset.mem_filter.mpr ⟨StableHlo.devRef_mem_tcRefs main_arg7, by decide⟩)).trans (V11_main_arg7 m (outs m) c),
        (at' main_arg8 (Finset.mem_filter.mpr ⟨StableHlo.devRef_mem_tcRefs main_arg8, by decide⟩)).trans (V11_main_arg8 m (outs m) c),
        (at' main_arg9 (Finset.mem_filter.mpr ⟨StableHlo.devRef_mem_tcRefs main_arg9, by decide⟩)).trans (V11_main_arg9 m (outs m) c),
        (at' main_arg10 (Finset.mem_filter.mpr ⟨StableHlo.devRef_mem_tcRefs main_arg10, by decide⟩)).trans (V11_main_arg10 m (outs m) c)⟩
    · iexact HSI

end Cert.Run
-- ==== Proof.Frames.lean ====
/-
  The frames of the three programs: each ends with its arguments as launched and every semaphore at zero. The idealized
  kernel is the kernel's own text, so its run is the kernel's run read over the extended reals.
-/
module

public import proofs.«01_k».proof.Proof.KernelEnd
public import proofs.«01_k».proof.Defs
public import proofs.«01_k».proof.Proof.Gen.KernelIdeal
public import proofs.«01_k».proof.Proof.Gen.ReferenceIdeal.Run

@[expose] public section

noncomputable section

namespace Cert.Run

open Idealize.ShloMosaic Idealize.ShloMosaic.TcCoe Idealize.SL.Sem Idealize.ShloMosaic.Tactic

/-- The idealized kernel's run. -/
theorem ideal_run (m : (ℓ : Loc KernelIdeal.nD KernelIdeal.τ KernelIdeal.sig) → Buf (Elt Ideal) ℓ) (ρ : Dev KernelIdeal.nD → PrngReg) :
    θ_run (KernelIdeal.defs (F := Ideal)) (onTc (τ := KernelIdeal.τ) (KernelIdeal.main (F := Ideal))) ⟨m, fun _ => 0, ρ⟩
      (fun r => (∀ c : Dev KernelIdeal.nD, Post (F := Ideal) m c r.2.mem) ∧ r.2.sem = fun _ => 0) := by
  have h := kernel_run (F := Ideal) m ρ
  have e : θ_run (Kernel.defs (F := Ideal)) (onTc (τ := Kernel.τ) (Kernel.main (F := Ideal))) ⟨m, fun _ => 0, ρ⟩
      (fun r => (∀ c : Dev Kernel.nD, Post (F := Ideal) m c r.2.mem) ∧ r.2.sem = fun _ => 0)
    = θ_run (KernelIdeal.defs (F := Ideal)) (onTc (τ := KernelIdeal.τ) (KernelIdeal.main (F := Ideal))) ⟨m, fun _ => 0, ρ⟩
      (fun r => (∀ c : Dev KernelIdeal.nD, Post (F := Ideal) m c r.2.mem) ∧ r.2.sem = fun _ => 0) := by chain_rfl
  exact e ▸ h

theorem frame_p : quiescent_Kernel := fun m ρ _ =>
  (θ_run Kernel.defs _ _).mono (fun _ h => ⟨fun c => (h.1 c).2, h.2⟩) (kernel_run (F := Bits) m ρ)

theorem frame_pi : quiescent_KernelIdeal := fun m ρ _ =>
  (θ_run KernelIdeal.defs _ _).mono (fun _ h => ⟨fun c => (h.1 c).2, h.2⟩) (ideal_run m ρ)

theorem frame_ri : quiescent_ReferenceIdeal := fun m ρ _ =>
  (θ_run ReferenceIdeal.defs _ _).mono (fun r h => ⟨fun c => (h c).2, sem_eq_zero_of_no_sems (by decide) r.2⟩)
    (ReferenceIdeal.Value.run (F := Ideal) m ρ)

end Cert.Run
-- ==== Proof.Spec.lean ====
/-
  The convolution network in plain numbers: activations, filters and biases as functions of natural numbers, a layer as
  a sum over its taps and channels, and the kernel's flat padded layout with the sums over it cut back into taps.
-/
module

public import Idealize.ShloMosaic.Lib.Pointwise

@[expose] public section

noncomputable section

namespace Cert.Spec

open Idealize.ShloMosaic
open Finset (range)

/-! ## Arrays read at natural numbers -/

/-- An array read at numbers: zero outside its bounds. -/
def rd1 {n0 : Nat} (x : (⟨1, ![n0]⟩ : Shape).Idx → EReal) (a : Nat) : EReal := if h : a < n0 then x (ix1 ⟨a, h⟩) else 0
def rd2 {n0 n1 : Nat} (x : (⟨2, ![n0, n1]⟩ : Shape).Idx → EReal) (a b : Nat) : EReal :=
  if h : a < n0 ∧ b < n1 then x (ix2 ⟨a, h.1⟩ ⟨b, h.2⟩) else 0
def rd3 {n0 n1 n2 : Nat} (x : (⟨3, ![n0, n1, n2]⟩ : Shape).Idx → EReal) (a b c : Nat) : EReal :=
  if h : a < n0 ∧ b < n1 ∧ c < n2 then x (ix3 ⟨a, h.1⟩ ⟨b, h.2.1⟩ ⟨c, h.2.2⟩) else 0
def rd4 {n0 n1 n2 n3 : Nat} (x : (⟨4, ![n0, n1, n2, n3]⟩ : Shape).Idx → EReal) (a b c d : Nat) : EReal :=
  if h : a < n0 ∧ b < n1 ∧ c < n2 ∧ d < n3 then x (ix4 ⟨a, h.1⟩ ⟨b, h.2.1⟩ ⟨c, h.2.2.1⟩ ⟨d, h.2.2.2⟩) else 0
def rd5 {n0 n1 n2 n3 n4 : Nat} (x : (⟨5, ![n0, n1, n2, n3, n4]⟩ : Shape).Idx → EReal) (a b c d e : Nat) : EReal :=
  if h : a < n0 ∧ b < n1 ∧ c < n2 ∧ d < n3 ∧ e < n4 then x (ix5 ⟨a, h.1⟩ ⟨b, h.2.1⟩ ⟨c, h.2.2.1⟩ ⟨d, h.2.2.2.1⟩ ⟨e, h.2.2.2.2⟩) else 0

theorem rd1_val {n0 : Nat} (x : (⟨1, ![n0]⟩ : Shape).Idx → EReal) (a : Fin n0) : rd1 x a.val = x (ix1 a) := dif_pos a.isLt
theorem rd2_val {n0 n1 : Nat} (x : (⟨2, ![n0, n1]⟩ : Shape).Idx → EReal) (a : Fin n0) (b : Fin n1) : rd2 x a.val b.val = x (ix2 a b) :=
  dif_pos ⟨a.isLt, b.isLt⟩
theorem rd3_val {n0 n1 n2 : Nat} (x : (⟨3, ![n0, n1, n2]⟩ : Shape).Idx → EReal) (a : Fin n0) (b : Fin n1) (c : Fin n2) :
    rd3 x a.val b.val c.val = x (ix3 a b c) := dif_pos ⟨a.isLt, b.isLt, c.isLt⟩
theorem rd4_val {n0 n1 n2 n3 : Nat} (x : (⟨4, ![n0, n1, n2, n3]⟩ : Shape).Idx → EReal) (a : Fin n0) (b : Fin n1) (c : Fin n2) (d : Fin n3) :
    rd4 x a.val b.val c.val d.val = x (ix4 a b c d) := dif_pos ⟨a.isLt, b.isLt, c.isLt, d.isLt⟩
theorem rd5_val {n0 n1 n2 n3 n4 : Nat} (x : (⟨5, ![n0, n1, n2, n3, n4]⟩ : Shape).Idx → EReal) (a : Fin n0) (b : Fin n1) (c : Fin n2) (d : Fin n3)
    (e : Fin n4) : rd5 x a.val b.val c.val d.val e.val = x (ix5 a b c d e) := dif_pos ⟨a.isLt, b.isLt, c.isLt, d.isLt, e.isLt⟩

/-! ## A layer -/

/-- An activation, by channel, depth, height and width; filters by output channel, input channel and tap. -/
abbrev Act : Type := Nat → Nat → Nat → Nat → EReal
abbrev Filt : Type := Nat → Nat → Nat → Nat → Nat → EReal

/-- The activation inside a border of zeros one wide, of `C` channels. -/
def padA (C : Nat) (A : Act) (i D H W : Nat) : EReal :=
  if i < C ∧ (1 ≤ D ∧ D ≤ 32) ∧ (1 ≤ H ∧ H ≤ 32) ∧ (1 ≤ W ∧ W ≤ 32) then A i (D - 1) (H - 1) (W - 1) else 0

/-- One convolution layer of `C` input channels, before the rectifier. -/
def conv (C : Nat) (A : Act) (K : Filt) (b : Nat → EReal) : Act := fun o d h w =>
  (∑ x ∈ range 3, ∑ y ∈ range 3, ∑ z ∈ range 3, ∑ i ∈ range C, K o i x y z * padA C A i (d + x) (h + y) (w + z)) + b o

/-- The rectifier. -/
def relu (A : Act) : Act := fun o d h w => max (A o d h w) 0

/-- What `padA` reads of an activation is its values inside the box. -/
theorem padA_congr {C : Nat} {A A' : Act} (h : ∀ i d e f, i < C → d < 32 → e < 32 → f < 32 → A i d e f = A' i d e f) (i D H W : Nat) :
    padA C A i D H W = padA C A' i D H W := by
  unfold padA
  split
  · next c => exact h _ _ _ _ c.1 (by omega) (by omega) (by omega)
  · rfl

theorem conv_congr {C : Nat} {A A' : Act} (h : ∀ i d e f, i < C → d < 32 → e < 32 → f < 32 → A i d e f = A' i d e f) (K : Filt) (b : Nat → EReal) :
    conv C A K b = conv C A' K b := by
  have e : padA C A = padA C A' := by
    funext i D H W
    exact padA_congr h i D H W
  funext o d e' f
  unfold conv
  rw [e]

/-- The whole network: four rectified layers and one that is not. -/
def net (A : Act) (K1 K2 K3 K4 K5 : Filt) (b1 b2 b3 b4 b5 : Nat → EReal) : Act :=
  conv 64 (relu (conv 64 (relu (conv 64 (relu (conv 64 (relu (conv 36 A K1 b1)) K2 b2)) K3 b3)) K4 b4)) K5 b5

/-! ## Sums cut in blocks -/

theorem sum_blocks (n m : Nat) (f : Nat → EReal) : ∑ k ∈ range (n * m), f k = ∑ a ∈ range n, ∑ c ∈ range m, f (a * m + c) := by
  induction n with
  | zero => simp
  | succ n ih => rw [Nat.succ_mul, Finset.sum_range_add, ih, Finset.sum_range_succ]

/-- A sum over `64` channels whose terms vanish from `C` on. -/
theorem sum_channels {C : Nat} (hC : C ≤ 64) (f : Nat → EReal) (h : ∀ i, C ≤ i → f i = 0) : ∑ i ∈ range 64, f i = ∑ i ∈ range C, f i := by
  symm
  refine Finset.sum_subset (fun i hi => ?_) fun i _ hi => ?_
  · simp only [Finset.mem_range] at hi ⊢; omega
  · simp only [Finset.mem_range] at hi; exact h i (by omega)

/-! ## The flat layout -/

/-- The padded activation laid flat: a plane is 1360 rows, a line 40, and 16 rows of zeros come first. -/
def flat (C : Nat) (A : Act) (n c : Nat) : EReal :=
  if 16 ≤ n then padA C A c ((n - 16) / 1360) ((n - 16) / 40 % 34) ((n - 16) % 40) else 0

/-- A buffer holds activation `A` packed: column group `k / 64` is the flat layout shifted by as many rows. -/
def Packed (C : Nat) (A : Act) (u : Nat → Nat → EReal) : Prop := ∀ v k, v < 47920 → k < 192 → u v k = flat C A (v + k / 64) (k % 64)

/-- A buffer holds filters `K` packed: by tap in depth and height, then tap in width and input channel. -/
def Filters (C O : Nat) (K : Filt) (w : Nat → Nat → Nat → EReal) : Prop :=
  ∀ t k o, t < 9 → k < 192 → o < O → w t k o = if k % 64 < C then K o (k % 64) (t / 3) (t % 3) (k / 64) else 0

/-- The row shift of a tap in depth and height. -/
abbrev shift (t : Nat) : Nat := 1360 * (t / 3) + 40 * (t % 3)

/-- The products the kernel sums for one output: nine taps of 192 products each, from row `e` of the packed input. -/
def dots (u : Nat → Nat → EReal) (w : Nat → Nat → Nat → EReal) (e o : Nat) : EReal :=
  ∑ t ∈ range 9, ∑ k ∈ range 192, u (e + shift t) k * w t k o

/-- On a packed input those are the convolution's products, at the position whose first tap is row `e` of the flat layout. -/
theorem dots_eq {C O : Nat} (hC : C ≤ 64) {A : Act} {K : Filt} {u : Nat → Nat → EReal} {w : Nat → Nat → Nat → EReal}
    (hu : Packed C A u) (hw : Filters C O K w) (b : Nat → EReal) {d h f o : Nat} (hd : d < 32) (hh : h < 32) (hf : f < 32) (ho : o < O) :
    dots u w (1360 * d + 40 * h + f + 16) o + b o = conv C A K b o d h f := by
  unfold dots conv
  congr 1
  rw [show (9 : Nat) = 3 * 3 from rfl, sum_blocks]
  refine Finset.sum_congr rfl fun x hx => Finset.sum_congr rfl fun y hy => ?_
  rw [show (192 : Nat) = 3 * 64 from rfl, sum_blocks]
  refine Finset.sum_congr rfl fun z hz => ?_
  simp only [Finset.mem_range] at hx hy hz
  have key : ∀ i, i < 64 → u (1360 * d + 40 * h + f + 16 + shift (x * 3 + y)) (z * 64 + i) * w (x * 3 + y) (z * 64 + i) o
      = if i < C then K o i x y z * padA C A i (d + x) (h + y) (f + z) else 0 := by
    intro i hi
    rw [hw _ _ _ (by omega) (by omega) ho, hu _ _ (by unfold shift; omega) (by omega)]
    rw [show (z * 64 + i) % 64 = i by omega, show (z * 64 + i) / 64 = z by omega, show (x * 3 + y) / 3 = x by omega, show (x * 3 + y) % 3 = y by omega]
    by_cases hi' : i < C
    · rw [if_pos hi', if_pos hi', mul_comm]
      congr 1
      unfold flat shift
      rw [if_pos (by omega)]
      congr 1 <;> omega
    · rw [if_neg hi', if_neg hi', mul_zero]
  rw [Finset.sum_congr rfl fun i hi => key i (Finset.mem_range.mp hi), sum_channels hC _ fun i hi => if_neg (by omega)]
  exact Finset.sum_congr rfl fun i hi => if_pos (Finset.mem_range.mp hi)

/-- Is flat position `p` inside the box. -/
abbrev Inside (p : Nat) : Prop := (1 ≤ p / 1360 ∧ p / 1360 ≤ 32) ∧ (1 ≤ p / 40 % 34 ∧ p / 40 % 34 ≤ 32) ∧ (1 ≤ p % 40 ∧ p % 40 ≤ 32)

/-- The mask: column `j` is the inside of the box, seen from 1392 rows on. -/
def Mask (M : Nat → Nat → EReal) : Prop := ∀ q j, q < 45056 → j < 3 → M q j = if Inside (1392 + j + q) then 1 else 0

/-- What a mid layer leaves at row `v`, column `k` of its output. -/
def midAt (u : Nat → Nat → EReal) (w : Nat → Nat → Nat → EReal) (b : Nat → EReal) (M : Nat → Nat → EReal) (v k : Nat) : EReal :=
  if 1408 ≤ v ∧ v < 46464 then max (dots u w (v - 1408 + (7 + k / 64)) (k % 64) + b (k % 64)) 0 * M (v - 1408) (k / 64) else 0

/-- A mid layer's output is packed again, and holds the layer's activation. -/
theorem mid_packed {C : Nat} (hC : C ≤ 64) {A : Act} {K : Filt} {u : Nat → Nat → EReal} {w : Nat → Nat → Nat → EReal} {b : Nat → EReal}
    {M : Nat → Nat → EReal} (hu : Packed C A u) (hw : Filters C 64 K w) (hM : Mask M) : Packed 64 (relu (conv C A K b)) (midAt u w b M) := by
  intro v k hv hk
  have hc : k % 64 < 64 := Nat.mod_lt _ (by decide)
  have hj : k / 64 < 3 := by omega
  unfold midAt
  generalize k % 64 = c at hc
  generalize k / 64 = j at hj
  by_cases h : 1408 ≤ v ∧ v < 46464
  · unfold flat padA
    rw [if_pos h, if_pos (show 16 ≤ v + j by omega), hM (v - 1408) j (by omega) hj]
    have ep : 1392 + j + (v - 1408) = v + j - 16 := by omega
    rw [ep]
    have er : v - 1408 + (7 + j) = v + j - 16 - 1385 := by omega
    rw [er]
    have hp : v + j - 16 < 46464 + 2 - 16 := by omega
    have hp' : 1392 ≤ v + j - 16 := by omega
    generalize v + j - 16 = p at hp hp'
    by_cases hin : Inside p
    · rw [if_pos hin, if_pos ⟨hc, hin⟩, mul_one]
      unfold Inside at hin
      unfold relu
      rw [← dots_eq hC hu hw b (d := p / 1360 - 1) (h := p / 40 % 34 - 1) (f := p % 40 - 1) (by omega) (by omega) (by omega) hc,
        show 1360 * (p / 1360 - 1) + 40 * (p / 40 % 34 - 1) + (p % 40 - 1) + 16 = p - 1385 by omega]
    · rw [if_neg hin, if_neg fun h' => hin h'.2, mul_zero]
  · rw [if_neg h]
    unfold flat padA
    split
    · rw [if_neg]
      omega
    · rfl

/-- What the last layer leaves at row `q`, column `o` of its output. -/
def lastAt (u : Nat → Nat → EReal) (w : Nat → Nat → Nat → EReal) (b : Nat → EReal) (q o : Nat) : EReal := dots u w (q + 16) o + b o

/-- The last layer's output holds the layer's convolution, a plane 1360 rows and a line 40. -/
theorem last_eq {C : Nat} (hC : C ≤ 64) {A : Act} {K : Filt} {u : Nat → Nat → EReal} {w : Nat → Nat → Nat → EReal} {b : Nat → EReal}
    (hu : Packed C A u) (hw : Filters C 54 K w) {d h f o : Nat} (hd : d < 32) (hh : h < 32) (hf : f < 32) (ho : o < 54) :
    lastAt u w b (d * 1360 + h * 40 + f) o = conv C A K b o d h f := by
  rw [← dots_eq hC hu hw b hd hh hf ho]
  unfold lastAt
  congr 2
  omega

end Cert.Spec

end
-- ==== Proof.HostValue.lean ====
/-
  What the host's operations around the five layers compute, over the extended reals: the packed input, the mask, each
  layer's filters and bias, and the result cut from the last layer's output.
-/
module

public import proofs.«01_k».proof.Proof.KernelRun
public import proofs.«01_k».proof.Proof.Spec

@[expose] public section

noncomputable section

namespace Cert.Host

open Cert.Kernel Cert.Kernel.Gen Cert.Spec
open Idealize.ShloMosaic

variable {F : FTy → Type} [FloatOps F]

/-! ## The terms -/

/-- The scalar that pads. -/
def padVal : FVec F S_ .f32 := sitofp .f32 (constantI S_ 32 0#32)

/-- The input laid out flat, a halo around its box, its channels filled up to 64. -/
def flatIn (x : FVec F S1x36x32x32x32 .f32) : FVec F S46240x64 .f32 :=
  shapeCast S46240x64
    (pad S34x34x40x64 ![1, 1, 1, 0] ![1, 1, 7, 28] ![0, 0, 0, 0]
      (transpose S32x32x32x36 [1, 2, 3, 0] (shapeCast S36x32x32x32 x shapeCasts_S1x36x32x32x32_S36x32x32x32) transposes_S36x32x32x32_S32x32x32x36_1_2_3_0)
      padVal pads_S32x32x32x36_S34x34x40x64_110_110_170_0280 h_S_) shapeCasts_S34x34x40x64_S46240x64

/-- Three copies side by side, each one row further on. -/
def packIn (y : FVec F S46240x64 .f32) : FVec F S47920x192 .bf16 :=
  truncf .bf16 (concatenate S47920x192 1 [⟨S47920x64, pad S47920x64 ![16, 0] ![1664, 0] ![0, 0] y padVal pads_S46240x64_S47920x64_1616640_000 h_S_⟩,
    ⟨S47920x64, pad S47920x64 ![15, 0] ![1665, 0] ![0, 0] y padVal pads_S46240x64_S47920x64_1516650_000 h_S_⟩,
    ⟨S47920x64, pad S47920x64 ![14, 0] ![1666, 0] ![0, 0] y padVal pads_S46240x64_S47920x64_1416660_000 h_S_⟩]
    concatenates_S47920x64_S47920x64_S47920x64_S47920x192_d1) bitsLt_bf16_f32

/-- Ones inside the box, laid out flat. -/
def flatMask : FVec F S46240 .f32 :=
  shapeCast S46240 (pad S34x34x40 ![1, 1, 1] ![1, 1, 7] ![0, 0, 0] (broadcastInDim S32x32x32 ![] bcast_S_S32x32x32 (constant S_ .f32 0x3F800000#32))
    padVal pads_S32x32x32_S34x34x40_110_110_170 h_S_) shapeCasts_S34x34x40_S46240

/-- Three columns cut from it, each one row further on. -/
def packMask (y : FVec F S46240 .f32) : FVec F S45056x3 .bf16 :=
  truncf .bf16 (concatenate S45056x3 1
    [⟨S45056x1, broadcastInDim S45056x1 ![0] bcast_S45056_S45056x1_0 (extractStridedSlice S45056 ![1392] (pad S46451 ![0] ![211] ![0] y padVal pads_S46240_S46451_02110 h_S_) slices_S46451_S45056_1392)⟩,
    ⟨S45056x1, broadcastInDim S45056x1 ![0] bcast_S45056_S45056x1_0 (extractStridedSlice S45056 ![1393] (pad S46451 ![0] ![211] ![0] y padVal pads_S46240_S46451_02110 h_S_) slices_S46451_S45056_1393)⟩,
    ⟨S45056x1, broadcastInDim S45056x1 ![0] bcast_S45056_S45056x1_0 (extractStridedSlice S45056 ![1394] (pad S46451 ![0] ![211] ![0] y padVal pads_S46240_S46451_02110 h_S_) slices_S46451_S45056_1394)⟩]
    concatenates_S45056x1_S45056x1_S45056x1_S45056x3_d1) bitsLt_bf16_f32

/-- Filters with the tap's depth and height outermost, then its width and the input channel, then the output channel. -/
def filt36 (w : FVec F S64x36x3x3x3 .f32) : FVec F S9x192x64 .bf16 :=
  truncf .bf16 (shapeCast S9x192x64 (pad S3x3x3x64x64 ![0, 0, 0, 0, 0] ![0, 0, 0, 28, 0] ![0, 0, 0, 0, 0]
    (transpose S3x3x3x36x64 [2, 3, 4, 1, 0] w transposes_S64x36x3x3x3_S3x3x3x36x64_2_3_4_1_0) padVal pads_S3x3x3x36x64_S3x3x3x64x64_000_000_000_0280_000 h_S_) shapeCasts_S3x3x3x64x64_S9x192x64) bitsLt_bf16_f32
def filt64 (w : FVec F S64x64x3x3x3 .f32) : FVec F S9x192x64 .bf16 :=
  truncf .bf16 (shapeCast S9x192x64 (transpose S3x3x3x64x64 [2, 3, 4, 1, 0] w transposes_S64x64x3x3x3_S3x3x3x64x64_2_3_4_1_0) shapeCasts_S3x3x3x64x64_S9x192x64) bitsLt_bf16_f32
def filt54 (w : FVec F S54x64x3x3x3 .f32) : FVec F S9x192x54 .bf16 :=
  truncf .bf16 (shapeCast S9x192x54 (transpose S3x3x3x64x54 [2, 3, 4, 1, 0] w transposes_S54x64x3x3x3_S3x3x3x64x54_2_3_4_1_0) shapeCasts_S3x3x3x64x54_S9x192x54) bitsLt_bf16_f32

def bias64 (b : FVec F S64 .f32) : FVec F S1x64 .f32 := broadcastInDim S1x64 ![1] bcast_S64_S1x64_1 b
def bias54 (b : FVec F S54 .f32) : FVec F S1x54 .f32 := broadcastInDim S1x54 ![1] bcast_S54_S1x54_1 b

/-- The result: the box cut out of the last layer's rows. -/
def cut (y : FVec F S45056x54 .f32) : FVec F S1x294912x6 .f32 :=
  shapeCast S1x294912x6 (extractStridedSlice S32x32x32x54 ![0, 0, 0, 0]
    (shapeCast S34x34x40x54 (pad S46240x54 ![0, 0] ![1184, 0] ![0, 0] y padVal pads_S45056x54_S46240x54_011840_000 h_S_) shapeCasts_S46240x54_S34x34x40x54)
    slices_S34x34x40x54_S32x32x32x54_0_0_0_0) shapeCasts_S32x32x32x54_S1x294912x6

/-! ## The terms read at numbers -/

theorem padVal_at (j : S_.Idx) : (padVal : FVec Ideal S_ .f32) j = 0 := by
  show FloatOps.sitofp (F := Ideal) .f32 0#32 = (0 : EReal)
  show (((0#32 : BitVec 32).toInt : ℝ) : EReal) = 0
  norm_num

theorem box_read (x : S1x36x32x32x32.Idx → EReal) (k a b c : Nat) :
    (if h : (1 ≤ a ∧ a - 1 < 32) ∧ (1 ≤ b ∧ b - 1 < 32) ∧ (1 ≤ c ∧ c - 1 < 32) ∧ k < 36 then
      x (ix5 0 ⟨k, h.2.2.2⟩ ⟨a - 1, h.1.2⟩ ⟨b - 1, h.2.1.2⟩ ⟨c - 1, h.2.2.1.2⟩) else 0) = padA 36 (rd5 x 0) k a b c := by
  unfold padA
  by_cases h : (1 ≤ a ∧ a - 1 < 32) ∧ (1 ≤ b ∧ b - 1 < 32) ∧ (1 ≤ c ∧ c - 1 < 32) ∧ k < 36
  · have h' : k < 36 ∧ (1 ≤ a ∧ a ≤ 32) ∧ (1 ≤ b ∧ b ≤ 32) ∧ (1 ≤ c ∧ c ≤ 32) := by omega
    rw [dif_pos h, if_pos h']
    exact (rd5_val x 0 ⟨k, h.2.2.2⟩ ⟨a - 1, h.1.2⟩ ⟨b - 1, h.2.1.2⟩ ⟨c - 1, h.2.2.1.2⟩).symm
  · have h' : ¬(k < 36 ∧ (1 ≤ a ∧ a ≤ 32) ∧ (1 ≤ b ∧ b ≤ 32) ∧ (1 ≤ c ∧ c ≤ 32)) := by omega
    rw [dif_neg h, if_neg h']

theorem flatIn_at (x : FVec Ideal S1x36x32x32x32 .f32) (n : Fin 46240) (k : Fin 64) :
    flatIn x (ix2 n k) = padA 36 (rd5 x 0) k.val (n.val / 1360) (n.val / 40 % 34) (n.val % 40) := by
  unfold flatIn
  pointwise
  simp only [padVal_at]
  exact box_read x k.val (n.val / 1360) (n.val / 40 % 34) (n.val % 40)

/-- One column group: the flat layout `p` rows up, zero outside it. -/
theorem group_read (y : S46240x64.Idx → EReal) (p v c n k : Nat) (hp : p ≤ 16) (e : v + 16 - p = n) (ec : c = k) (hc : c < 64) (hn : 14 ≤ p) :
    (if h : (p ≤ v ∧ v - p < 46240) ∧ c < 64 then y (ix2 ⟨v - p, h.1.2⟩ ⟨c, h.2⟩) else 0) = if 16 ≤ n then rd2 y (n - 16) k else 0 := by
  subst ec
  by_cases h : p ≤ v
  · have e' : n - 16 = v - p := by omega
    rw [if_pos (by omega), e']
    unfold rd2
    by_cases h' : v - p < 46240
    · rw [dif_pos ⟨⟨h, h'⟩, hc⟩, dif_pos ⟨h', hc⟩]
    · rw [dif_neg fun q => h' q.1.2, dif_neg fun q => h' q.1]
  · rw [dif_neg fun q => h q.1.1, if_neg (by omega)]

/-- The three column groups. -/
theorem groups_read (y : S46240x64.Idx → EReal) (v k : Nat) (hk : k < 192) :
    (if h : k < 64 then
      if h_1 : (16 ≤ v ∧ v - 16 < 46240) ∧ k < 64 then y (ix2 ⟨v - 16, h_1.1.2⟩ ⟨k, h_1.2⟩) else 0
    else if h : k - 64 < 64 then
      if h_1 : (15 ≤ v ∧ v - 15 < 46240) ∧ k - 64 < 64 then y (ix2 ⟨v - 15, h_1.1.2⟩ ⟨k - 64, h_1.2⟩) else 0
    else if h_1 : (14 ≤ v ∧ v - 14 < 46240) ∧ k - 64 - 64 < 64 then y (ix2 ⟨v - 14, h_1.1.2⟩ ⟨k - 64 - 64, h_1.2⟩) else 0)
      = if 16 ≤ v + k / 64 then rd2 y (v + k / 64 - 16) (k % 64) else 0 := by
  split
  · exact group_read y 16 v k _ _ (by omega) (by omega) (by omega) (by omega) (by omega)
  · split
    · exact group_read y 15 v (k - 64) _ _ (by omega) (by omega) (by omega) (by omega) (by omega)
    · exact group_read y 14 v (k - 64 - 64) _ _ (by omega) (by omega) (by omega) (by omega) (by omega)

theorem packIn_at (y : FVec Ideal S46240x64 .f32) (v : Fin 47920) (k : Fin 192) :
    packIn y (ix2 v k) = if 16 ≤ v.val + k.val / 64 then rd2 y (v.val + k.val / 64 - 16) (k.val % 64) else 0 := by
  unfold packIn
  pointwise
  simp only [padVal_at]
  exact groups_read y v.val k.val k.isLt

theorem flatMask_at (n : Fin 46240) :
    flatMask (F := Ideal) (ix1 n) = if Inside n.val then 1 else 0 := by
  unfold flatMask
  pointwise
  unfold Inside
  split
  · next h => rw [if_pos (by omega)]
  · next h => rw [if_neg (by omega)]; exact padVal_at _

theorem packMask_at (y : FVec Ideal S46240 .f32) (q : Fin 45056) (j : Fin 3) :
    packMask y (ix2 q j) = rd1 y (1392 + j.val + q.val) := by
  unfold packMask
  pointwise
  have hq := q.isLt
  have hj := j.isLt
  have key : ∀ t : Nat, j.val = t → (if h : 1392 + t + q.val < 46240 then y (ix1 ⟨1392 + t + q.val, h⟩) else padVal (Shape.Idx.first h_S_)) = rd1 y (1392 + j.val + q.val) := by
    intro t e
    rw [e, rd1, padVal_at]
  split
  · exact key 0 (by omega)
  · split
    · exact key 1 (by omega)
    · exact key 2 (by omega)

theorem filt_read (w : S64x36x3x3x3.Idx → EReal) (o c x y z : Nat) (ho : o < 64) (hx : x < 3) (hy : y < 3) (hz : z < 3) :
    (if h : x < 3 ∧ y < 3 ∧ z < 3 ∧ c < 36 then w (ix5 ⟨o, ho⟩ ⟨c, h.2.2.2⟩ ⟨x, h.1⟩ ⟨y, h.2.1⟩ ⟨z, h.2.2.1⟩) else 0) = if c < 36 then rd5 w o c x y z else 0 := by
  by_cases h : c < 36
  · rw [dif_pos ⟨hx, hy, hz, h⟩, if_pos h]
    exact (rd5_val w ⟨o, ho⟩ ⟨c, h⟩ ⟨x, hx⟩ ⟨y, hy⟩ ⟨z, hz⟩).symm
  · rw [dif_neg fun q => h q.2.2.2, if_neg h]

theorem filt36_at (w : FVec Ideal S64x36x3x3x3 .f32) (t : Fin 9) (k : Fin 192) (o : Fin 64) :
    filt36 w (ix3 t k o) = if k.val % 64 < 36 then rd5 w o.val (k.val % 64) (t.val / 3) (t.val % 3) (k.val / 64) else 0 := by
  have ht := t.isLt
  have hk := k.isLt
  unfold filt36
  pointwise
  simp only [padVal_at]
  exact filt_read w o.val (k.val % 64) (t.val / 3) (t.val % 3) (k.val / 64) o.isLt (by omega) (by omega) (by omega)

theorem filt64_at (w : FVec Ideal S64x64x3x3x3 .f32) (t : Fin 9) (k : Fin 192) (o : Fin 64) :
    filt64 w (ix3 t k o) = if k.val % 64 < 64 then rd5 w o.val (k.val % 64) (t.val / 3) (t.val % 3) (k.val / 64) else 0 := by
  unfold filt64
  pointwise
  rw [if_pos (Nat.mod_lt _ (by decide))]
  exact (rd5_val w _ _ _ _ _).symm

theorem filt54_at (w : FVec Ideal S54x64x3x3x3 .f32) (t : Fin 9) (k : Fin 192) (o : Fin 54) :
    filt54 w (ix3 t k o) = if k.val % 64 < 64 then rd5 w o.val (k.val % 64) (t.val / 3) (t.val % 3) (k.val / 64) else 0 := by
  unfold filt54
  pointwise
  rw [if_pos (Nat.mod_lt _ (by decide))]
  exact (rd5_val w _ _ _ _ _).symm

theorem bias64_at (b : FVec Ideal S64 .f32) (o : Fin 64) : bias64 b (ix2 0 o) = b (ix1 o) := by
  unfold bias64
  pointwise

theorem bias54_at (b : FVec Ideal S54 .f32) (o : Fin 54) : bias54 b (ix2 0 o) = b (ix1 o) := by
  unfold bias54
  pointwise

theorem cut_at (y : FVec Ideal S45056x54 .f32) (r : Fin 294912) (s : Fin 6) :
    cut y (ix3 0 r s) = rd2 y (r.val / 9216 * 1360 + r.val / 288 % 32 * 40 + r.val / 9 % 32) (r.val % 9 * 6 + s.val) := by
  have hr := r.isLt
  have hs := s.isLt
  have h : r.val / 9216 * 1360 + r.val / 288 % 32 * 40 + r.val / 9 % 32 < 45056 ∧ r.val % 9 * 6 + s.val < 54 := by omega
  unfold cut
  pointwise
  refine (dif_pos h).trans ?_
  exact (rd2_val y ⟨_, h.1⟩ ⟨_, h.2⟩).symm

/-! ## The layers' inputs -/

theorem flat_read (x : FVec Ideal S1x36x32x32x32 .f32) (n k : Nat) (hk : k < 64) :
    rd2 (flatIn x) n k = padA 36 (rd5 x 0) k (n / 1360) (n / 40 % 34) (n % 40) := by
  by_cases h : n < 46240
  · exact (rd2_val (flatIn x) ⟨n, h⟩ ⟨k, hk⟩).trans (flatIn_at x ⟨n, h⟩ ⟨k, hk⟩)
  · have h' : ¬(k < 36 ∧ (1 ≤ n / 1360 ∧ n / 1360 ≤ 32) ∧ (1 ≤ n / 40 % 34 ∧ n / 40 % 34 ≤ 32) ∧ (1 ≤ n % 40 ∧ n % 40 ≤ 32)) := by omega
    unfold padA rd2
    rw [dif_neg fun q => h q.1, if_neg h']

theorem packed_in (x : FVec Ideal S1x36x32x32x32 .f32) : Packed 36 (rd5 x 0) (rd2 (packIn (flatIn x))) := by
  intro v k hv hk
  refine (rd2_val (packIn (flatIn x)) ⟨v, hv⟩ ⟨k, hk⟩).trans ((packIn_at (flatIn x) ⟨v, hv⟩ ⟨k, hk⟩).trans ?_)
  unfold flat
  simp only []
  by_cases h : 16 ≤ v + k / 64
  · rw [if_pos h, if_pos h]
    exact flat_read x _ _ (Nat.mod_lt _ (by decide))
  · rw [if_neg h, if_neg h]

theorem mask_in : Mask (rd2 (packMask (F := Ideal) flatMask)) := by
  intro q j hq hj
  refine (rd2_val _ ⟨q, hq⟩ ⟨j, hj⟩).trans ((packMask_at _ _ _).trans ?_)
  by_cases hn : 1392 + j + q < 46240
  · exact (rd1_val _ ⟨1392 + j + q, hn⟩).trans (flatMask_at _)
  · refine (dif_neg hn).trans (if_neg ?_).symm
    unfold Inside
    omega

theorem filters36 (w : FVec Ideal S64x36x3x3x3 .f32) : Filters 36 64 (rd5 w) (rd3 (filt36 w)) := fun t k o ht hk ho =>
  (rd3_val _ ⟨t, ht⟩ ⟨k, hk⟩ ⟨o, ho⟩).trans (filt36_at _ _ _ _)
theorem filters64 (w : FVec Ideal S64x64x3x3x3 .f32) : Filters 64 64 (rd5 w) (rd3 (filt64 w)) := fun t k o ht hk ho =>
  (rd3_val _ ⟨t, ht⟩ ⟨k, hk⟩ ⟨o, ho⟩).trans (filt64_at _ _ _ _)
theorem filters54 (w : FVec Ideal S54x64x3x3x3 .f32) : Filters 64 54 (rd5 w) (rd3 (filt54 w)) := fun t k o ht hk ho =>
  (rd3_val _ ⟨t, ht⟩ ⟨k, hk⟩ ⟨o, ho⟩).trans (filt54_at _ _ _ _)

theorem biases64 (b : FVec Ideal S64 .f32) : (fun o => rd2 (bias64 b) 0 o) = rd1 b := by
  funext o
  by_cases h : o < 64
  · exact (rd2_val _ 0 ⟨o, h⟩).trans ((bias64_at _ _).trans (rd1_val _ ⟨o, h⟩).symm)
  · simp only [rd2, rd1, dif_neg h, h, and_false, dif_neg (not_false : ¬False)]
theorem biases54 (b : FVec Ideal S54 .f32) : (fun o => rd2 (bias54 b) 0 o) = rd1 b := by
  funext o
  by_cases h : o < 54
  · exact (rd2_val _ 0 ⟨o, h⟩).trans ((bias54_at _ _).trans (rd1_val _ ⟨o, h⟩).symm)
  · simp only [rd2, rd1, dif_neg h, h, and_false, dif_neg (not_false : ¬False)]

end Cert.Host

end
-- ==== Proof.HostRun.lean ====
/-
  What each of the host's stretches of operations leaves in the buffers the layers read, and in the result.
-/
module

public import proofs.«01_k».proof.Proof.HostValue

@[expose] public section

noncomputable section

namespace Cert.Host

open Cert.Kernel Cert.Kernel.Gen Cert.Spec
open Idealize.ShloMosaic
open Idealize.ShloMosaic.TcCoe

variable {F : FTy → Type} [FloatOps F]

variable (V : Valuation τ sig (Elt F))

theorem after0_v8 : StableHlo.after hostOps0 V main_call0_v8 = packIn (flatIn (V main_arg0)) := by chain_rfl
theorem after0_v20 : StableHlo.after hostOps0 V main_call0_v20 = packMask (F := F) flatMask := by chain_rfl
theorem after0_v24 : StableHlo.after hostOps0 V main_call0_v24 = filt36 (V main_arg1) := by chain_rfl
theorem after0_v25 : StableHlo.after hostOps0 V main_call0_v25 = bias64 (V main_arg2) := by chain_rfl
theorem after1_v29 : StableHlo.after hostOps1 V main_call0_v29 = filt64 (V main_arg3) := by chain_rfl
theorem after1_v30 : StableHlo.after hostOps1 V main_call0_v30 = bias64 (V main_arg4) := by chain_rfl
theorem after2_v34 : StableHlo.after hostOps2 V main_call0_v34 = filt64 (V main_arg5) := by chain_rfl
theorem after2_v35 : StableHlo.after hostOps2 V main_call0_v35 = bias64 (V main_arg6) := by chain_rfl
theorem after3_v39 : StableHlo.after hostOps3 V main_call0_v39 = filt64 (V main_arg7) := by chain_rfl
theorem after3_v40 : StableHlo.after hostOps3 V main_call0_v40 = bias64 (V main_arg8) := by chain_rfl
theorem after4_v44 : StableHlo.after hostOps4 V main_call0_v44 = filt54 (V main_arg9) := by chain_rfl
theorem after4_v45 : StableHlo.after hostOps4 V main_call0_v45 = bias54 (V main_arg10) := by chain_rfl

theorem after5_v49 : StableHlo.after hostOps5 V main_call0_v49 = extractStridedSlice S32x32x32x54 ![0, 0, 0, 0]
    (shapeCast S34x34x40x54 (pad S46240x54 ![0, 0] ![1184, 0] ![0, 0] (V main_call0_v46 : FVec F S45056x54 .f32) padVal pads_S45056x54_S46240x54_011840_000 h_S_) shapeCasts_S46240x54_S34x34x40x54)
    slices_S34x34x40x54_S32x32x32x54_0_0_0_0 := by chain_rfl
theorem after5_v0 : StableHlo.after hostOps5 V main_v0 = cut (V main_call0_v46) := by
  show shapeCast S1x294912x6 (StableHlo.after hostOps5 V main_call0_v49 : FVec F S32x32x32x54 .f32) shapeCasts_S32x32x32x54_S1x294912x6 = _
  rw [after5_v49]
  rfl

end Cert.Host

end
-- ==== Proof.MidValue.lean ====
/-
  What a mid layer leaves, over the extended reals, read at an index: the nine taps' products, the bias, the rectifier
  and the mask.
-/
module

public import proofs.«01_k».proof.Proof.MidRegion
public import proofs.«01_k».proof.Proof.Spec

@[expose] public section

noncomputable section

namespace Cert.Mid

open Cert.Kernel Cert.Run Cert.Spec
open Idealize.ShloMosaic
open Finset (range)
open Facts₀ Facts

variable [Cert.Kernel.Facts]
variable (i : grid0.Coords) (u : S47920x192.Idx → Ideal .bf16) (w : S9x192x64.Idx → Ideal .bf16) (b : S1x64.Idx → Ideal .f32)

theorem rows_at {s t : Nat} (hs : s < 20) (ht : t < 9) (r : Fin 208) (k : Fin 192) :
    rowsV (F := Ideal) i u hs ht (ix2 r k) = rd2 u (4096 * (i 0).val + 208 * s + r.val + shift t) k.val := by
  have hi : (i 0).val < 11 := (i 0).isLt
  have ht' : shift t ≤ 2800 := by unfold shift; omega
  have hr := r.isLt
  rw [rd2, dif_pos ⟨by omega, k.isLt⟩]
  unfold rowsV VecWindow.window
  congr 1
  funext a
  refine Fin.ext ?_
  have e := off1_eq i hs ht
  match a with
  | 0 =>
    refine (congrArg (· + 1 * r.val) (congrFun e 0)).trans ?_
    show 4096 * (i 0).val + 208 * s + tapOff t + 1 * r.val = 4096 * (i 0).val + 208 * s + r.val + shift t
    unfold tapOff shift; omega
  | 1 =>
    refine (congrArg (· + 1 * k.val) (congrFun e 1)).trans ?_
    show 0 + 1 * k.val = k.val
    omega

theorem filt_at {t : Nat} (ht : t < 9) (k : Fin 192) (o : Fin 64) : filtV (F := Ideal) w ht (ix3 0 k o) = rd3 w t k.val o.val := by
  rw [rd3, dif_pos ⟨ht, k.isLt, o.isLt⟩]
  unfold filtV VecWindow.window
  congr 1
  funext a
  refine Fin.ext ?_
  match a with
  | 0 => show t + 1 * 0 = t; omega
  | 1 => show 0 + 1 * k.val = k.val; omega
  | 2 => show 0 + 1 * o.val = o.val; omega

theorem tap_at {s t : Nat} (hs : s < 20) (ht : t < 9) (acc : FVec Ideal S208x64 .f32) (r : Fin 208) (o : Fin 64) :
    tapV (F := Ideal) i u w hs ht acc (ix2 r o) = acc (ix2 r o) + ∑ k ∈ range 192, rd2 u (4096 * (i 0).val + 208 * s + r.val + shift t) k * rd3 w t k o.val := by
  unfold tapV
  rw [Finset.sum_range]
  pointwise
  refine congrArg (acc (ix2 r o) + ·) (Finset.sum_congr rfl fun k _ => ?_)
  exact congrArg₂ (· * ·) (rows_at i u hs ht r k) (filt_at w ht k o)

theorem acc_at {s : Nat} (hs : s < 20) (r : Fin 208) (o : Fin 64) : (n : Nat) → (h : n ≤ 9) →
    accV (F := Ideal) i u w hs n h (ix2 r o) = ∑ t ∈ range n, ∑ k ∈ range 192, rd2 u (4096 * (i 0).val + 208 * s + r.val + shift t) k * rd3 w t k o.val
  | 0, _ => by
    unfold accV
    pointwise
    rfl
  | n + 1, h => by
    rw [accV, tap_at, acc_at hs r o n]
    exact (Finset.sum_range_succ _ n).symm

theorem sub_at {s : Nat} (hs : s < 20) (r : Fin 208) (o : Fin 64) :
    subV (F := Ideal) i u w b hs (ix2 r o) = max (dots (rd2 u) (rd3 w) (4096 * (i 0).val + 208 * s + r.val) o.val + rd2 b 0 o.val) 0 := by
  have e := acc_at i u w hs r o 9 (Nat.le_refl 9)
  have eb : rd2 b 0 o.val = b (ix2 0 o) := rd2_val b 0 o
  unfold dots
  rw [← e, eb]
  unfold subV
  pointwise

theorem y_at (r : Fin 4160) (o : Fin 64) :
    yV (F := Ideal) i u w b (ix2 r o) = max (dots (rd2 u) (rd3 w) (4096 * (i 0).val + r.val) o.val + rd2 b 0 o.val) 0 := by
  have hr := r.isLt
  have e := sub_at i u w b (s := r.val / 208) (by omega) ⟨r.val % 208, Nat.mod_lt _ (by decide)⟩ o
  have en : 4096 * (i 0).val + 208 * (r.val / 208) + r.val % 208 = 4096 * (i 0).val + r.val := by omega
  rw [show (⟨r.val % 208, Nat.mod_lt _ (by decide)⟩ : Fin 208).val = r.val % 208 from rfl, en] at e
  rw [← e]
  unfold yV
  simp only [ix2_0, ix2_1]
  refine congrArg _ ?_
  funext a
  match a with
  | 0 => rfl
  | 1 => rfl

variable (mk : S4096x3.Idx → Ideal .bf16)

theorem tail_at (j : Nat) (hj : j < 3) (r : Fin 4096) (o : Fin 64) :
    tailAt (F := Ideal) i u w b mk j hj (ix2 r o)
      = max (dots (rd2 u) (rd3 w) (4096 * (i 0).val + r.val + (7 + j)) o.val + rd2 b 0 o.val) 0 * mk (ix2 r ⟨j, hj⟩) := by
  have hr := r.isLt
  have e := y_at i u w b ⟨r.val + (7 + j), by omega⟩ o
  rw [show 4096 * (i 0).val + (⟨r.val + (7 + j), by omega⟩ : Fin 4160).val = 4096 * (i 0).val + r.val + (7 + j) by show _ + (_ + _) = _; omega] at e
  rw [← e]
  unfold tailAt tailV
  pointwise
  refine congrArg₂ (· * ·) ?_ ?_
  · unfold VecWindow.window
    congr 1
    funext a
    refine Fin.ext ?_
    match a with
    | 0 => show 7 + j + 1 * r.val = r.val + (7 + j); omega
    | 1 => show 0 + 1 * o.val = o.val; omega
  · unfold VecWindow.window
    congr 1
    funext a
    refine Fin.ext ?_
    match a with
    | 0 => show 0 + 1 * r.val = r.val; omega
    | 1 => show j + 1 * 0 = j; omega

variable (M : S45056x3.Idx → Ideal .bf16)

/-- The output buffer, read at numbers. -/
theorem midOut_at (v k : Nat) (hv : v < 47920) (hk : k < 192) :
    rd2 (midOut (F := Ideal) u w b M) v k = midAt (rd2 u) (rd3 w) (fun o => rd2 b 0 o) (rd2 M) v k := by
  rw [rd2, dif_pos ⟨hv, hk⟩]
  unfold midOut outV midAt
  simp only [ix2_0, ix2_1]
  by_cases h : 1408 ≤ v ∧ v < 46464
  · refine (dif_pos h).trans (Eq.trans ?_ (if_pos h).symm)
    have e := tail_at (pt0 ⟨(v - 1408) / 4096, by omega⟩) u w b (mblk (F := Ideal) M ⟨(v - 1408) / 4096, by omega⟩) (k / 64) (by omega)
      ⟨(v - 1408) % 4096, Nat.mod_lt _ (by decide)⟩ ⟨k % 64, Nat.mod_lt _ (by decide)⟩
    have en : 4096 * ((v - 1408) / 4096) + (v - 1408) % 4096 = v - 1408 := by omega
    rw [show 4096 * ((pt0 ⟨(v - 1408) / 4096, by omega⟩ : grid0.Coords) 0).val + (⟨(v - 1408) % 4096, Nat.mod_lt _ (by decide)⟩ : Fin 4096).val = v - 1408 from en] at e
    have em : mblk (F := Ideal) M ⟨(v - 1408) / 4096, by omega⟩ (ix2 ⟨(v - 1408) % 4096, Nat.mod_lt _ (by decide)⟩ ⟨k / 64, by omega⟩) = rd2 M (v - 1408) (k / 64) := by
      rw [rd2, dif_pos ⟨by omega, by omega⟩]
      refine congrArg M ?_
      funext a
      refine Fin.ext ?_
      match a with
      | 0 => exact en
      | 1 => rfl
    rw [em] at e
    refine Eq.trans ?_ e
    refine congrArg _ ?_
    funext a
    match a with
    | 0 => rfl
    | 1 => rfl
  · refine (dif_neg h).trans (Eq.trans ?_ (if_neg h).symm)
    pointwise

end Cert.Mid

end
-- ==== Proof.LastValue.lean ====
/-
  What the last layer leaves, over the extended reals, read at an index: the nine taps' products and the bias.
-/
module

public import proofs.«01_k».proof.Proof.Region4
public import proofs.«01_k».proof.Proof.Spec

@[expose] public section

noncomputable section

namespace Cert.Last

open Cert.Kernel Cert.Run Cert.Spec
open Idealize.ShloMosaic
open Finset (range)
open Cert.Mid (tapOff)
open Facts₀ Facts

variable [Cert.Kernel.Facts]
variable (i : grid4.Coords) (u : S47920x192.Idx → Ideal .bf16) (w : S9x192x54.Idx → Ideal .bf16) (b : S1x54.Idx → Ideal .f32)

theorem rows_at {s t : Nat} (hs : s < 16) (ht : t < 9) (r : Fin 256) (k : Fin 192) :
    rowsV (F := Ideal) i u hs ht (ix2 r k) = rd2 u (4096 * (i 0).val + 256 * s + r.val + 16 + shift t) k.val := by
  have hi : (i 0).val < 11 := (i 0).isLt
  have ht' : shift t ≤ 2800 := by unfold shift; omega
  have hr := r.isLt
  rw [rd2, dif_pos ⟨by omega, k.isLt⟩]
  unfold rowsV VecWindow.window
  congr 1
  funext a
  refine Fin.ext ?_
  have e := off1_eq i hs ht
  match a with
  | 0 =>
    refine (congrArg (· + 1 * r.val) (congrFun e 0)).trans ?_
    show 4096 * (i 0).val + 256 * s + 16 + tapOff t + 1 * r.val = 4096 * (i 0).val + 256 * s + r.val + 16 + shift t
    unfold tapOff shift; omega
  | 1 =>
    refine (congrArg (· + 1 * k.val) (congrFun e 1)).trans ?_
    show 0 + 1 * k.val = k.val
    omega

theorem filt_at {t : Nat} (ht : t < 9) (k : Fin 192) (o : Fin 54) : filtV (F := Ideal) w ht (ix3 0 k o) = rd3 w t k.val o.val := by
  rw [rd3, dif_pos ⟨ht, k.isLt, o.isLt⟩]
  unfold filtV VecWindow.window
  congr 1
  funext a
  refine Fin.ext ?_
  match a with
  | 0 => show t + 1 * 0 = t; omega
  | 1 => show 0 + 1 * k.val = k.val; omega
  | 2 => show 0 + 1 * o.val = o.val; omega

theorem tap_at {s t : Nat} (hs : s < 16) (ht : t < 9) (acc : FVec Ideal S256x54 .f32) (r : Fin 256) (o : Fin 54) :
    tapV (F := Ideal) i u w hs ht acc (ix2 r o) = acc (ix2 r o) + ∑ k ∈ range 192, rd2 u (4096 * (i 0).val + 256 * s + r.val + 16 + shift t) k * rd3 w t k o.val := by
  unfold tapV
  rw [Finset.sum_range]
  pointwise
  refine congrArg (acc (ix2 r o) + ·) (Finset.sum_congr rfl fun k _ => ?_)
  exact congrArg₂ (· * ·) (rows_at i u hs ht r k) (filt_at w ht k o)

theorem acc_at {s : Nat} (hs : s < 16) (r : Fin 256) (o : Fin 54) : (n : Nat) → (h : n ≤ 9) →
    accV (F := Ideal) i u w hs n h (ix2 r o) = ∑ t ∈ range n, ∑ k ∈ range 192, rd2 u (4096 * (i 0).val + 256 * s + r.val + 16 + shift t) k * rd3 w t k o.val
  | 0, _ => by
    unfold accV
    pointwise
    rfl
  | n + 1, h => by
    rw [accV, tap_at, acc_at hs r o n]
    exact (Finset.sum_range_succ _ n).symm

theorem sub_at {s : Nat} (hs : s < 16) (r : Fin 256) (o : Fin 54) :
    subV (F := Ideal) i u w b hs (ix2 r o) = dots (rd2 u) (rd3 w) (4096 * (i 0).val + 256 * s + r.val + 16) o.val + rd2 b 0 o.val := by
  have e := acc_at i u w hs r o 9 (Nat.le_refl 9)
  have eb : rd2 b 0 o.val = b (ix2 0 o) := rd2_val b 0 o
  unfold dots
  rw [← e, eb]
  unfold subV
  pointwise

theorem y_at (r : Fin 4096) (o : Fin 54) :
    yV (F := Ideal) i u w b (ix2 r o) = dots (rd2 u) (rd3 w) (4096 * (i 0).val + r.val + 16) o.val + rd2 b 0 o.val := by
  have hr := r.isLt
  have e := sub_at i u w b (s := r.val / 256) (by omega) ⟨r.val % 256, Nat.mod_lt _ (by decide)⟩ o
  have en : 4096 * (i 0).val + 256 * (r.val / 256) + r.val % 256 = 4096 * (i 0).val + r.val := by omega
  rw [show (⟨r.val % 256, Nat.mod_lt _ (by decide)⟩ : Fin 256).val = r.val % 256 from rfl, en] at e
  rw [← e]
  unfold yV
  simp only [ix2_0, ix2_1]
  refine congrArg _ ?_
  funext a
  match a with
  | 0 => rfl
  | 1 => rfl

/-- The output array, read at numbers. -/
theorem lastOut_at (q o : Nat) (hq : q < 45056) (ho : o < 54) :
    rd2 (Reg4.lastOut (F := Ideal) u w b) q o = lastAt (rd2 u) (rd3 w) (fun o => rd2 b 0 o) q o := by
  rw [rd2, dif_pos ⟨hq, ho⟩]
  unfold Reg4.lastOut lastAt
  simp only [ix2_0, ix2_1]
  have e := y_at (Reg4.pt4 ⟨q / 4096, by omega⟩) u w b ⟨q % 4096, Nat.mod_lt _ (by decide)⟩ ⟨o, ho⟩
  have en : 4096 * (q / 4096) + q % 4096 = q := by omega
  rw [show 4096 * ((Reg4.pt4 ⟨q / 4096, by omega⟩ : grid4.Coords) 0).val + (⟨q % 4096, Nat.mod_lt _ (by decide)⟩ : Fin 4096).val = q from en] at e
  refine Eq.trans ?_ e
  refine congrArg _ ?_
  funext a
  match a with
  | 0 => rfl
  | 1 => rfl

end Cert.Last

end
-- ==== Proof.KernelValue.lean ====
/-
  The kernel's result is the network of Proof/Spec of its arguments: each region takes a packed activation to the next
  layer's, and the host cuts the box out of the last one's rows.
-/
module

public import proofs.«01_k».proof.Proof.HostRun
public import proofs.«01_k».proof.Proof.MidValue
public import proofs.«01_k».proof.Proof.LastValue
public import proofs.«01_k».proof.Proof.Gen.Kernel.Regions

@[expose] public section

noncomputable section

namespace Cert.Run

open Cert.Kernel Cert.Kernel.Gen Cert.Spec Cert.Host
open Idealize.ShloMosaic
open Idealize.ShloMosaic.TcCoe

section Keep

variable {F : FTy → Type} [FloatOps F]
variable (m : (ℓ : Loc nD τ sig) → Buf (Elt F) ℓ) (c : Dev nD) (r : Ref sig .tc)

/-! ## What the items leave unchanged -/

theorem keep2 (h : r ∉ ([main_call0_v26] : List (Ref sig .tc))) : U2 m c r = V1 m c r := (congrFun (V2_eq m c) r).symm.trans (V2_of m (outs m) c r h)
theorem keep3 (h : r ∉ hostOps1_W) : U3 m c r = U2 m c r := StableHlo.after_of_writes_sub hostOps1 _ hostOps1_writes h
theorem keep4 (h : r ∉ ([main_call0_v31] : List (Ref sig .tc))) : U4 m c r = U3 m c r :=
  (congrFun (V4_eq m c) r).symm.trans ((V4_of m (outs m) c r h).trans (congrFun (V3_eq m c) r))
theorem keep5 (h : r ∉ hostOps2_W) : U5 m c r = U4 m c r := StableHlo.after_of_writes_sub hostOps2 _ hostOps2_writes h
theorem keep6 (h : r ∉ ([main_call0_v36] : List (Ref sig .tc))) : U6 m c r = U5 m c r :=
  (congrFun (V6_eq m c) r).symm.trans ((V6_of m (outs m) c r h).trans (congrFun (V5_eq m c) r))
theorem keep7 (h : r ∉ hostOps3_W) : U7 m c r = U6 m c r := StableHlo.after_of_writes_sub hostOps3 _ hostOps3_writes h
theorem keep8 (h : r ∉ ([main_call0_v41] : List (Ref sig .tc))) : U8 m c r = U7 m c r :=
  (congrFun (V8_eq m c) r).symm.trans ((V8_of m (outs m) c r h).trans (congrFun (V7_eq m c) r))
theorem keep9 (h : r ∉ hostOps4_W) : U9 m c r = U8 m c r := StableHlo.after_of_writes_sub hostOps4 _ hostOps4_writes h

/-- A buffer that no item up to the second, fourth, sixth or eighth writes after the first stretch. -/
theorem upto2 (h : r ∉ ([main_call0_v26] : List (Ref sig .tc))) : U2 m c r = V1 m c r := keep2 m c r h
theorem upto4 (h : r ∉ main_call0_v31 :: main_call0_v26 :: hostOps1_W) : U4 m c r = V1 m c r := by
  simp only [List.mem_cons, not_or] at h
  rw [keep4 m c r (by simp [h]), keep3 m c r (by simp [h]), keep2 m c r (by simp [h])]
theorem upto6 (h : r ∉ main_call0_v36 :: main_call0_v31 :: main_call0_v26 :: (hostOps2_W ++ hostOps1_W)) : U6 m c r = V1 m c r := by
  simp only [List.mem_cons, List.mem_append, not_or] at h
  rw [keep6 m c r (by simp [h]), keep5 m c r (by simp [h]), upto4 m c r (by simp [h])]
theorem upto8 (h : r ∉ main_call0_v41 :: main_call0_v36 :: main_call0_v31 :: main_call0_v26 :: (hostOps3_W ++ (hostOps2_W ++ hostOps1_W))) : U8 m c r = V1 m c r := by
  simp only [List.mem_cons, List.mem_append, not_or] at h
  rw [keep8 m c r (by simp [h]), keep7 m c r (by simp [h]), upto6 m c r (by simp [h])]

end Keep

variable (m : (ℓ : Loc nD τ sig) → Buf (Elt Ideal) ℓ) (c : Dev nD)

/-! ## One layer -/

/-- A mid layer takes a packed activation to the packed next one. -/
theorem mid_step {C : Nat} (hC : C ≤ 64) {A : Act} {K : Filt} {β : Nat → EReal} {u : S47920x192.Idx → Ideal .bf16} {w : S9x192x64.Idx → Ideal .bf16}
    {b : S1x64.Idx → Ideal .f32} {M : S45056x3.Idx → Ideal .bf16} (hu : Packed C A (rd2 u)) (hw : Filters C 64 K (rd3 w))
    (hb : (fun o => rd2 b 0 o) = β) (hM : Mask (rd2 M)) : Packed 64 (relu (conv C A K β)) (rd2 (midOut (F := Ideal) u w b M)) := by
  intro v k hv hk
  rw [Mid.midOut_at u w b M v k hv hk, hb]
  exact mid_packed hC hu hw hM v k hv hk

/-- The last layer's rows hold the convolution of a packed activation. -/
theorem last_step {C : Nat} (hC : C ≤ 64) {A : Act} {K : Filt} {β : Nat → EReal} {u : S47920x192.Idx → Ideal .bf16} {w : S9x192x54.Idx → Ideal .bf16}
    {b : S1x54.Idx → Ideal .f32} (hu : Packed C A (rd2 u)) (hw : Filters C 54 K (rd3 w)) (hb : (fun o => rd2 b 0 o) = β)
    {d h f o : Nat} (hd : d < 32) (hh : h < 32) (hf : f < 32) (ho : o < 54) :
    rd2 (Reg4.lastOut (F := Ideal) u w b) (d * 1360 + h * 40 + f) o = conv C A K β o d h f := by
  rw [Last.lastOut_at u w b _ _ (by omega) ho, hb]
  exact last_eq hC hu hw hd hh hf ho

/-! ## The chain -/

abbrev x0 : FVec Ideal S1x36x32x32x32 .f32 := V0 m c main_arg0
abbrev w1 : FVec Ideal S64x36x3x3x3 .f32 := V0 m c main_arg1
abbrev b1 : FVec Ideal S64 .f32 := V0 m c main_arg2
abbrev w2 : FVec Ideal S64x64x3x3x3 .f32 := V0 m c main_arg3
abbrev b2 : FVec Ideal S64 .f32 := V0 m c main_arg4
abbrev w3 : FVec Ideal S64x64x3x3x3 .f32 := V0 m c main_arg5
abbrev b3 : FVec Ideal S64 .f32 := V0 m c main_arg6
abbrev w4 : FVec Ideal S64x64x3x3x3 .f32 := V0 m c main_arg7
abbrev b4 : FVec Ideal S64 .f32 := V0 m c main_arg8
abbrev w5 : FVec Ideal S54x64x3x3x3 .f32 := V0 m c main_arg9
abbrev b5 : FVec Ideal S54 .f32 := V0 m c main_arg10

/-- The activations after each rectified layer. -/
def act1 : Act := relu (conv 36 (rd5 (x0 m c) 0) (rd5 (w1 m c)) (rd1 (b1 m c)))
def act2 : Act := relu (conv 64 (act1 m c) (rd5 (w2 m c)) (rd1 (b2 m c)))
def act3 : Act := relu (conv 64 (act2 m c) (rd5 (w3 m c)) (rd1 (b3 m c)))
def act4 : Act := relu (conv 64 (act3 m c) (rd5 (w4 m c)) (rd1 (b4 m c)))

/-- The network of the kernel's arguments. -/
abbrev netOf : Act := net (rd5 (x0 m c) 0) (rd5 (w1 m c)) (rd5 (w2 m c)) (rd5 (w3 m c)) (rd5 (w4 m c)) (rd5 (w5 m c))
  (rd1 (b1 m c)) (rd1 (b2 m c)) (rd1 (b3 m c)) (rd1 (b4 m c)) (rd1 (b5 m c))

theorem mask_at : (V1 m c main_call0_v20 : FVec Ideal S45056x3 .bf16) = packMask (F := Ideal) flatMask := after0_v20 (V0 m c)

theorem packed1 : Packed 64 (act1 m c) (rd2 (U2 m c main_call0_v26 : FVec Ideal S47920x192 .bf16)) := by
  have e : U2 m c main_call0_v26 = midOut (F := Ideal) (V1 m c main_call0_v8) (V1 m c main_call0_v24) (V1 m c main_call0_v25) (V1 m c main_call0_v20) := by
    unfold U2
    exact (Function.update_self (Proc.devRef .tc main_call0_v26 : DevRef τ sig) _ _).trans rfl
  rw [e, show V1 m c main_call0_v8 = _ from after0_v8 (V0 m c), show V1 m c main_call0_v24 = _ from after0_v24 (V0 m c),
    show V1 m c main_call0_v25 = _ from after0_v25 (V0 m c), mask_at]
  exact mid_step (by decide) (packed_in _) (filters36 _) (biases64 _) mask_in

theorem packed2 : Packed 64 (act2 m c) (rd2 (U4 m c main_call0_v31 : FVec Ideal S47920x192 .bf16)) := by
  have e : U4 m c main_call0_v31 = midOut (F := Ideal) (U3 m c main_call0_v26) (U3 m c main_call0_v29) (U3 m c main_call0_v30) (U3 m c main_call0_v20) := by
    unfold U4
    exact (Function.update_self (Proc.devRef .tc main_call0_v31 : DevRef τ sig) _ _).trans rfl
  rw [e, keep3 m c main_call0_v26 (by decide), show U3 m c main_call0_v29 = _ from after1_v29 (U2 m c), show U3 m c main_call0_v30 = _ from after1_v30 (U2 m c),
    keep3 m c main_call0_v20 (by decide), upto2 m c main_call0_v20 (by decide), mask_at, upto2 m c main_arg3 (by decide), upto2 m c main_arg4 (by decide),
    V1_of m c main_arg3 (by decide), V1_of m c main_arg4 (by decide)]
  exact mid_step (by decide) (packed1 m c) (filters64 _) (biases64 _) mask_in

theorem packed3 : Packed 64 (act3 m c) (rd2 (U6 m c main_call0_v36 : FVec Ideal S47920x192 .bf16)) := by
  have e : U6 m c main_call0_v36 = midOut (F := Ideal) (U5 m c main_call0_v31) (U5 m c main_call0_v34) (U5 m c main_call0_v35) (U5 m c main_call0_v20) := by
    unfold U6
    exact (Function.update_self (Proc.devRef .tc main_call0_v36 : DevRef τ sig) _ _).trans rfl
  rw [e, keep5 m c main_call0_v31 (by decide), show U5 m c main_call0_v34 = _ from after2_v34 (U4 m c), show U5 m c main_call0_v35 = _ from after2_v35 (U4 m c),
    keep5 m c main_call0_v20 (by decide), upto4 m c main_call0_v20 (by decide), mask_at, upto4 m c main_arg5 (by decide), upto4 m c main_arg6 (by decide),
    V1_of m c main_arg5 (by decide), V1_of m c main_arg6 (by decide)]
  exact mid_step (by decide) (packed2 m c) (filters64 _) (biases64 _) mask_in

theorem packed4 : Packed 64 (act4 m c) (rd2 (U8 m c main_call0_v41 : FVec Ideal S47920x192 .bf16)) := by
  have e : U8 m c main_call0_v41 = midOut (F := Ideal) (U7 m c main_call0_v36) (U7 m c main_call0_v39) (U7 m c main_call0_v40) (U7 m c main_call0_v20) := by
    unfold U8
    exact (Function.update_self (Proc.devRef .tc main_call0_v41 : DevRef τ sig) _ _).trans rfl
  rw [e, keep7 m c main_call0_v36 (by decide), show U7 m c main_call0_v39 = _ from after3_v39 (U6 m c), show U7 m c main_call0_v40 = _ from after3_v40 (U6 m c),
    keep7 m c main_call0_v20 (by decide), upto6 m c main_call0_v20 (by decide), mask_at, upto6 m c main_arg7 (by decide), upto6 m c main_arg8 (by decide),
    V1_of m c main_arg7 (by decide), V1_of m c main_arg8 (by decide)]
  exact mid_step (by decide) (packed3 m c) (filters64 _) (biases64 _) mask_in

/-- The last layer's output. -/
theorem rows5 {d h f o : Nat} (hd : d < 32) (hh : h < 32) (hf : f < 32) (ho : o < 54) :
    rd2 (U10 m c main_call0_v46 : FVec Ideal S45056x54 .f32) (d * 1360 + h * 40 + f) o = netOf m c o d h f := by
  have e : U10 m c main_call0_v46 = Reg4.lastOut (F := Ideal) (U9 m c main_call0_v41) (U9 m c main_call0_v44) (U9 m c main_call0_v45) := by
    unfold U10
    exact (Function.update_self (Proc.devRef .tc main_call0_v46 : DevRef τ sig) _ _).trans rfl
  rw [e, keep9 m c main_call0_v41 (by decide), show U9 m c main_call0_v44 = _ from after4_v44 (U8 m c), show U9 m c main_call0_v45 = _ from after4_v45 (U8 m c),
    upto8 m c main_arg9 (by decide), upto8 m c main_arg10 (by decide), V1_of m c main_arg9 (by decide), V1_of m c main_arg10 (by decide)]
  exact last_step (by decide) (packed4 m c) (filters54 _) (biases54 _) hd hh hf ho

/-- The kernel's result, read at an index. -/
theorem result_at (r : Fin 294912) (s : Fin 6) :
    (U11 m c main_v0 : FVec Ideal S1x294912x6 .f32) (ix3 0 r s) = netOf m c (r.val % 9 * 6 + s.val) (r.val / 9216) (r.val / 288 % 32) (r.val / 9 % 32) := by
  have hr := r.isLt
  have hs := s.isLt
  rw [show U11 m c main_v0 = _ from after5_v0 (U10 m c)]
  exact (cut_at _ r s).trans (rows5 m c (by omega) (by omega) (by omega) (by omega))

end Cert.Run

end
-- ==== Proof.RefDot.lean ====
/-
  The reference's layers read at an index: padding, the three stacks of shifted slices, the contraction over the taps
  and the input channels, the bias and the rectifier, as the layers of Proof/Spec.
-/
module

public import proofs.«01_k».proof.Proof.Gen.ReferenceIdeal.Run
public import proofs.«01_k».proof.Proof.Spec

@[expose] public section

noncomputable section

namespace Cert.Ref

open Cert.ReferenceIdeal Cert.ReferenceIdeal.Gen Cert.Spec
open Idealize.ShloMosaic
open Finset (range)
open Facts₀ Facts

/-! ## A contraction over four axes -/

/-- An index of four coordinates, at any sizes. -/
def mk4 {sz : Fin 4 → Nat} (a : Fin (sz 0)) (b : Fin (sz 1)) (c : Fin (sz 2)) (d : Fin (sz 3)) : (p : Fin 4) → Fin (sz p)
  | 0 => a | 1 => b | 2 => c | 3 => d

/-- Such indices are the quadruples of their coordinates. -/
def quad (sz : Fin 4 → Nat) : (Fin (sz 0) × Fin (sz 1) × Fin (sz 2) × Fin (sz 3)) ≃ ((p : Fin 4) → Fin (sz p)) where
  toFun q := mk4 q.1 q.2.1 q.2.2.1 q.2.2.2
  invFun k := (k 0, k 1, k 2, k 3)
  left_inv _ := rfl
  right_inv k := by
    funext p
    match p with
    | 0 => rfl
    | 1 => rfl
    | 2 => rfl
    | 3 => rfl

theorem sum4 {sz : Fin 4 → Nat} (f : ((p : Fin 4) → Fin (sz p)) → EReal) :
    ∑ k, f k = ∑ a : Fin (sz 0), ∑ b : Fin (sz 1), ∑ c : Fin (sz 2), ∑ d : Fin (sz 3), f (mk4 a b c d) := by
  rw [← Equiv.sum_comp (quad sz) f]
  simp only [Fintype.sum_prod_type]
  rfl

/-- The contraction of filters with stacked windows, at an index: input channels innermost. -/
theorem dot36_at (W : S64x36x3x3x3.Idx → EReal) (x : S3x3x3x36x32x32x32.Idx → EReal) (o : Fin 64) (d h w : Fin 32) :
    (Host.dotGeneral (F := Ideal) (φ₁ := .f32) (φ₂ := .f32) dot_S64x36x3x3x3_S3x3x3x36x32x32x32_S64x32x32x32_2341_0123_0_456_n_n none W x : FVec Ideal S64x32x32x32 .f32) (ix4 o d h w)
      = ∑ a : Fin 3, ∑ b : Fin 3, ∑ c : Fin 3, ∑ i : Fin 36, W (ix5 o i a b c) * x (ix7 a b c i d h w) := by
  refine (zero_add _).trans ((sum4 (sz := fun p : Fin 4 => dot_S64x36x3x3x3_S3x3x3x36x32x32x32_S64x32x32x32_2341_0123_0_456_n_n.contr.size p) _).trans ?_)
  refine Finset.sum_congr rfl fun a _ => Finset.sum_congr rfl fun b _ => Finset.sum_congr rfl fun c _ => Finset.sum_congr rfl fun i _ => ?_
  refine congrArg₂ (fun l r => W l * x r) ?_ ?_
  · funext p; fin_cases p <;> rfl
  · funext p; fin_cases p <;> rfl

theorem dot64_at (W : S64x64x3x3x3.Idx → EReal) (x : S3x3x3x64x32x32x32.Idx → EReal) (o : Fin 64) (d h w : Fin 32) :
    (Host.dotGeneral (F := Ideal) (φ₁ := .f32) (φ₂ := .f32) dot_S64x64x3x3x3_S3x3x3x64x32x32x32_S64x32x32x32_2341_0123_0_456_n_n none W x : FVec Ideal S64x32x32x32 .f32) (ix4 o d h w)
      = ∑ a : Fin 3, ∑ b : Fin 3, ∑ c : Fin 3, ∑ i : Fin 64, W (ix5 o i a b c) * x (ix7 a b c i d h w) := by
  refine (zero_add _).trans ((sum4 (sz := fun p : Fin 4 => dot_S64x64x3x3x3_S3x3x3x64x32x32x32_S64x32x32x32_2341_0123_0_456_n_n.contr.size p) _).trans ?_)
  refine Finset.sum_congr rfl fun a _ => Finset.sum_congr rfl fun b _ => Finset.sum_congr rfl fun c _ => Finset.sum_congr rfl fun i _ => ?_
  refine congrArg₂ (fun l r => W l * x r) ?_ ?_
  · funext p; fin_cases p <;> rfl
  · funext p; fin_cases p <;> rfl

theorem dot54_at (W : S54x64x3x3x3.Idx → EReal) (x : S3x3x3x64x32x32x32.Idx → EReal) (o : Fin 54) (d h w : Fin 32) :
    (Host.dotGeneral (F := Ideal) (φ₁ := .f32) (φ₂ := .f32) dot_S54x64x3x3x3_S3x3x3x64x32x32x32_S54x32x32x32_2341_0123_0_456_n_n none W x : FVec Ideal S54x32x32x32 .f32) (ix4 o d h w)
      = ∑ a : Fin 3, ∑ b : Fin 3, ∑ c : Fin 3, ∑ i : Fin 64, W (ix5 o i a b c) * x (ix7 a b c i d h w) := by
  refine (zero_add _).trans ((sum4 (sz := fun p : Fin 4 => dot_S54x64x3x3x3_S3x3x3x64x32x32x32_S54x32x32x32_2341_0123_0_456_n_n.contr.size p) _).trans ?_)
  refine Finset.sum_congr rfl fun a _ => Finset.sum_congr rfl fun b _ => Finset.sum_congr rfl fun c _ => Finset.sum_congr rfl fun i _ => ?_
  refine congrArg₂ (fun l r => W l * x r) ?_ ?_
  · funext p; fin_cases p <;> rfl
  · funext p; fin_cases p <;> rfl

end Cert.Ref

end
-- ==== Proof.RefLayer.lean ====
/-
  The reference's layers as functions, and each read at an index as a layer of Proof/Spec.
-/
module

public import proofs.«01_k».proof.Proof.RefDot

@[expose] public section

noncomputable section

namespace Cert.Ref

open Cert.ReferenceIdeal Cert.ReferenceIdeal.Gen Cert.Spec
open Idealize.ShloMosaic
open Finset (range)

variable {F : FTy → Type} [FloatOps F]

/-- A position moved on by a tap. -/
def plus (w : Fin 32) (t : Fin 3) : Fin 34 := ⟨t.val + w.val, by omega⟩

theorem plus_zero (w : Fin 32) : plus w 0 = ⟨w.val, by omega⟩ := Fin.ext (Nat.zero_add _)

theorem plus_val (w : Fin 32) (t : Fin 3) : (plus w t).val = w.val + t.val := Nat.add_comm _ _

/-- A value chosen by tests on a tap is the one at the tap. -/
theorem three (t : Fin 3) {P : Fin 3 → EReal} {v0 v1 v2 : EReal} (h0 : v0 = P 0) (h1 : v1 = P 1) (h2 : v2 = P 2) :
    (if t.val < 1 then v0 else if t.val - 1 < 1 then v1 else v2) = P t := by
  match t with
  | 0 => exact h0
  | 1 => exact h1
  | 2 => exact h2

/-- The integer zero, converted. -/
theorem zero_conv : FloatOps.sitofp (F := Ideal) .f32 0#32 = (0 : EReal) := by
  show ((((0#32 : BitVec 32).toInt : ℤ) : ℝ) : EReal) = 0
  simp

/-- A padded read, as the padded activation. -/
theorem pad_read {C : Nat} (y : (⟨4, ![C, 32, 32, 32]⟩ : Shape).Idx → EReal) (i : Fin C) (D H W : Nat) :
    (if h : (1 ≤ D ∧ D - 1 < 32) ∧ (1 ≤ H ∧ H - 1 < 32) ∧ (1 ≤ W ∧ W - 1 < 32) then
      y (ix4 i ⟨D - 1, h.1.2⟩ ⟨H - 1, h.2.1.2⟩ ⟨W - 1, h.2.2.2⟩) else FloatOps.sitofp (F := Ideal) .f32 0#32) = padA C (rd4 y) i.val D H W := by
  have hi := i.isLt
  unfold padA
  by_cases h : (1 ≤ D ∧ D - 1 < 32) ∧ (1 ≤ H ∧ H - 1 < 32) ∧ (1 ≤ W ∧ W - 1 < 32)
  · rw [dif_pos h, if_pos ⟨hi, by omega, by omega, by omega⟩, rd4, dif_pos ⟨hi, h.1.2, h.2.1.2, h.2.2.2⟩]
  · rw [dif_neg h, if_neg fun h' => h ⟨by omega, by omega, by omega⟩, zero_conv]

/-! ## Windows of 36 channels -/

section Windows36

/-- The activation inside its border of zeros. -/
def pad36 (y : FVec F S36x32x32x32 .f32) : FVec F S36x34x34x34 .f32 :=
  pad S36x34x34x34 ![0, 1, 1, 1] ![0, 1, 1, 1] ![0, 0, 0, 0] y (sitofp .f32 (constantI S_ 32 0#32)) pads_S36x32x32x32_S36x34x34x34_000_110_110_110 h_S_

/-- The windows stacked by tap: in width, then in height, then in depth. -/
def stackW36 (x : FVec F S36x34x34x34 .f32) : FVec F S3x36x34x34x32 .f32 :=
  concatenate S3x36x34x34x32 0 [⟨S1x36x34x34x32, broadcastInDim S1x36x34x34x32 ![1, 2, 3, 4] bcast_S36x34x34x32_S1x36x34x34x32_1_2_3_4 (extractStridedSlice S36x34x34x32 ![0, 0, 0, 0] x slices_S36x34x34x34_S36x34x34x32_0_0_0_0)⟩,
    ⟨S1x36x34x34x32, broadcastInDim S1x36x34x34x32 ![1, 2, 3, 4] bcast_S36x34x34x32_S1x36x34x34x32_1_2_3_4 (extractStridedSlice S36x34x34x32 ![0, 0, 0, 1] x slices_S36x34x34x34_S36x34x34x32_0_0_0_1)⟩,
    ⟨S1x36x34x34x32, broadcastInDim S1x36x34x34x32 ![1, 2, 3, 4] bcast_S36x34x34x32_S1x36x34x34x32_1_2_3_4 (extractStridedSlice S36x34x34x32 ![0, 0, 0, 2] x slices_S36x34x34x34_S36x34x34x32_0_0_0_2)⟩]
    concatenates_S1x36x34x34x32_S1x36x34x34x32_S1x36x34x34x32_S3x36x34x34x32_d0
def stackH36 (x : FVec F S3x36x34x34x32 .f32) : FVec F S3x3x36x34x32x32 .f32 :=
  concatenate S3x3x36x34x32x32 0 [⟨S1x3x36x34x32x32, broadcastInDim S1x3x36x34x32x32 ![1, 2, 3, 4, 5] bcast_S3x36x34x32x32_S1x3x36x34x32x32_1_2_3_4_5 (extractStridedSlice S3x36x34x32x32 ![0, 0, 0, 0, 0] x slices_S3x36x34x34x32_S3x36x34x32x32_0_0_0_0_0)⟩,
    ⟨S1x3x36x34x32x32, broadcastInDim S1x3x36x34x32x32 ![1, 2, 3, 4, 5] bcast_S3x36x34x32x32_S1x3x36x34x32x32_1_2_3_4_5 (extractStridedSlice S3x36x34x32x32 ![0, 0, 0, 1, 0] x slices_S3x36x34x34x32_S3x36x34x32x32_0_0_0_1_0)⟩,
    ⟨S1x3x36x34x32x32, broadcastInDim S1x3x36x34x32x32 ![1, 2, 3, 4, 5] bcast_S3x36x34x32x32_S1x3x36x34x32x32_1_2_3_4_5 (extractStridedSlice S3x36x34x32x32 ![0, 0, 0, 2, 0] x slices_S3x36x34x34x32_S3x36x34x32x32_0_0_0_2_0)⟩]
    concatenates_S1x3x36x34x32x32_S1x3x36x34x32x32_S1x3x36x34x32x32_S3x3x36x34x32x32_d0
def stackD36 (x : FVec F S3x3x36x34x32x32 .f32) : FVec F S3x3x3x36x32x32x32 .f32 :=
  concatenate S3x3x3x36x32x32x32 0 [⟨S1x3x3x36x32x32x32, broadcastInDim S1x3x3x36x32x32x32 ![1, 2, 3, 4, 5, 6] bcast_S3x3x36x32x32x32_S1x3x3x36x32x32x32_1_2_3_4_5_6 (extractStridedSlice S3x3x36x32x32x32 ![0, 0, 0, 0, 0, 0] x slices_S3x3x36x34x32x32_S3x3x36x32x32x32_0_0_0_0_0_0)⟩,
    ⟨S1x3x3x36x32x32x32, broadcastInDim S1x3x3x36x32x32x32 ![1, 2, 3, 4, 5, 6] bcast_S3x3x36x32x32x32_S1x3x3x36x32x32x32_1_2_3_4_5_6 (extractStridedSlice S3x3x36x32x32x32 ![0, 0, 0, 1, 0, 0] x slices_S3x3x36x34x32x32_S3x3x36x32x32x32_0_0_0_1_0_0)⟩,
    ⟨S1x3x3x36x32x32x32, broadcastInDim S1x3x3x36x32x32x32 ![1, 2, 3, 4, 5, 6] bcast_S3x3x36x32x32x32_S1x3x3x36x32x32x32_1_2_3_4_5_6 (extractStridedSlice S3x3x36x32x32x32 ![0, 0, 0, 2, 0, 0] x slices_S3x3x36x34x32x32_S3x3x36x32x32x32_0_0_0_2_0_0)⟩]
    concatenates_S1x3x3x36x32x32x32_S1x3x3x36x32x32x32_S1x3x3x36x32x32x32_S3x3x3x36x32x32x32_d0

theorem pad36_at (y : FVec Ideal S36x32x32x32 .f32) (i : Fin 36) (D H W : Fin 34) : pad36 y (ix4 i D H W) = padA 36 (rd4 y) i.val D.val H.val W.val := by
  unfold pad36
  pointwise
  exact pad_read y i D.val H.val W.val

theorem stackW36_at (x : FVec Ideal S36x34x34x34 .f32) (c : Fin 3) (i : Fin 36) (D H : Fin 34) (w : Fin 32) :
    stackW36 x (ix5 c i D H w) = x (ix4 i D H (plus w c)) := by
  unfold stackW36
  pointwise
  refine three c (P := fun t => x (ix4 i D H (plus w t))) ?_ rfl rfl
  show _ = x (ix4 i D H (plus w 0))
  rw [plus_zero]

theorem stackH36_at (x : FVec Ideal S3x36x34x34x32 .f32) (b c : Fin 3) (i : Fin 36) (D : Fin 34) (h w : Fin 32) :
    stackH36 x (ix6 b c i D h w) = x (ix5 c i D (plus h b) w) := by
  unfold stackH36
  pointwise
  refine three b (P := fun t => x (ix5 c i D (plus h t) w)) ?_ rfl rfl
  show _ = x (ix5 c i D (plus h 0) w)
  rw [plus_zero]

theorem stackD36_at (x : FVec Ideal S3x3x36x34x32x32 .f32) (a b c : Fin 3) (i : Fin 36) (d h w : Fin 32) :
    stackD36 x (ix7 a b c i d h w) = x (ix6 b c i (plus d a) h w) := by
  unfold stackD36
  pointwise
  refine three a (P := fun t => x (ix6 b c i (plus d t) h w)) ?_ rfl rfl
  show _ = x (ix6 b c i (plus d 0) h w)
  rw [plus_zero]

/-- The stacked windows of a padded activation. -/
theorem windows36_at (y : FVec Ideal S36x32x32x32 .f32) (a b c : Fin 3) (i : Fin 36) (d h w : Fin 32) :
    stackD36 (stackH36 (stackW36 (pad36 y))) (ix7 a b c i d h w) = padA 36 (rd4 y) i.val (d.val + a.val) (h.val + b.val) (w.val + c.val) := by
  rw [stackD36_at, stackH36_at, stackW36_at, pad36_at, plus_val, plus_val, plus_val]

end Windows36

/-! ## Windows of 64 channels -/

section Windows64

/-- The activation inside its border of zeros. -/
def pad64 (y : FVec F S64x32x32x32 .f32) : FVec F S64x34x34x34 .f32 :=
  pad S64x34x34x34 ![0, 1, 1, 1] ![0, 1, 1, 1] ![0, 0, 0, 0] y (sitofp .f32 (constantI S_ 32 0#32)) pads_S64x32x32x32_S64x34x34x34_000_110_110_110 h_S_

/-- The windows stacked by tap: in width, then in height, then in depth. -/
def stackW64 (x : FVec F S64x34x34x34 .f32) : FVec F S3x64x34x34x32 .f32 :=
  concatenate S3x64x34x34x32 0 [⟨S1x64x34x34x32, broadcastInDim S1x64x34x34x32 ![1, 2, 3, 4] bcast_S64x34x34x32_S1x64x34x34x32_1_2_3_4 (extractStridedSlice S64x34x34x32 ![0, 0, 0, 0] x slices_S64x34x34x34_S64x34x34x32_0_0_0_0)⟩,
    ⟨S1x64x34x34x32, broadcastInDim S1x64x34x34x32 ![1, 2, 3, 4] bcast_S64x34x34x32_S1x64x34x34x32_1_2_3_4 (extractStridedSlice S64x34x34x32 ![0, 0, 0, 1] x slices_S64x34x34x34_S64x34x34x32_0_0_0_1)⟩,
    ⟨S1x64x34x34x32, broadcastInDim S1x64x34x34x32 ![1, 2, 3, 4] bcast_S64x34x34x32_S1x64x34x34x32_1_2_3_4 (extractStridedSlice S64x34x34x32 ![0, 0, 0, 2] x slices_S64x34x34x34_S64x34x34x32_0_0_0_2)⟩]
    concatenates_S1x64x34x34x32_S1x64x34x34x32_S1x64x34x34x32_S3x64x34x34x32_d0
def stackH64 (x : FVec F S3x64x34x34x32 .f32) : FVec F S3x3x64x34x32x32 .f32 :=
  concatenate S3x3x64x34x32x32 0 [⟨S1x3x64x34x32x32, broadcastInDim S1x3x64x34x32x32 ![1, 2, 3, 4, 5] bcast_S3x64x34x32x32_S1x3x64x34x32x32_1_2_3_4_5 (extractStridedSlice S3x64x34x32x32 ![0, 0, 0, 0, 0] x slices_S3x64x34x34x32_S3x64x34x32x32_0_0_0_0_0)⟩,
    ⟨S1x3x64x34x32x32, broadcastInDim S1x3x64x34x32x32 ![1, 2, 3, 4, 5] bcast_S3x64x34x32x32_S1x3x64x34x32x32_1_2_3_4_5 (extractStridedSlice S3x64x34x32x32 ![0, 0, 0, 1, 0] x slices_S3x64x34x34x32_S3x64x34x32x32_0_0_0_1_0)⟩,
    ⟨S1x3x64x34x32x32, broadcastInDim S1x3x64x34x32x32 ![1, 2, 3, 4, 5] bcast_S3x64x34x32x32_S1x3x64x34x32x32_1_2_3_4_5 (extractStridedSlice S3x64x34x32x32 ![0, 0, 0, 2, 0] x slices_S3x64x34x34x32_S3x64x34x32x32_0_0_0_2_0)⟩]
    concatenates_S1x3x64x34x32x32_S1x3x64x34x32x32_S1x3x64x34x32x32_S3x3x64x34x32x32_d0
def stackD64 (x : FVec F S3x3x64x34x32x32 .f32) : FVec F S3x3x3x64x32x32x32 .f32 :=
  concatenate S3x3x3x64x32x32x32 0 [⟨S1x3x3x64x32x32x32, broadcastInDim S1x3x3x64x32x32x32 ![1, 2, 3, 4, 5, 6] bcast_S3x3x64x32x32x32_S1x3x3x64x32x32x32_1_2_3_4_5_6 (extractStridedSlice S3x3x64x32x32x32 ![0, 0, 0, 0, 0, 0] x slices_S3x3x64x34x32x32_S3x3x64x32x32x32_0_0_0_0_0_0)⟩,
    ⟨S1x3x3x64x32x32x32, broadcastInDim S1x3x3x64x32x32x32 ![1, 2, 3, 4, 5, 6] bcast_S3x3x64x32x32x32_S1x3x3x64x32x32x32_1_2_3_4_5_6 (extractStridedSlice S3x3x64x32x32x32 ![0, 0, 0, 1, 0, 0] x slices_S3x3x64x34x32x32_S3x3x64x32x32x32_0_0_0_1_0_0)⟩,
    ⟨S1x3x3x64x32x32x32, broadcastInDim S1x3x3x64x32x32x32 ![1, 2, 3, 4, 5, 6] bcast_S3x3x64x32x32x32_S1x3x3x64x32x32x32_1_2_3_4_5_6 (extractStridedSlice S3x3x64x32x32x32 ![0, 0, 0, 2, 0, 0] x slices_S3x3x64x34x32x32_S3x3x64x32x32x32_0_0_0_2_0_0)⟩]
    concatenates_S1x3x3x64x32x32x32_S1x3x3x64x32x32x32_S1x3x3x64x32x32x32_S3x3x3x64x32x32x32_d0

theorem pad64_at (y : FVec Ideal S64x32x32x32 .f32) (i : Fin 64) (D H W : Fin 34) : pad64 y (ix4 i D H W) = padA 64 (rd4 y) i.val D.val H.val W.val := by
  unfold pad64
  pointwise
  exact pad_read y i D.val H.val W.val

theorem stackW64_at (x : FVec Ideal S64x34x34x34 .f32) (c : Fin 3) (i : Fin 64) (D H : Fin 34) (w : Fin 32) :
    stackW64 x (ix5 c i D H w) = x (ix4 i D H (plus w c)) := by
  unfold stackW64
  pointwise
  refine three c (P := fun t => x (ix4 i D H (plus w t))) ?_ rfl rfl
  show _ = x (ix4 i D H (plus w 0))
  rw [plus_zero]

theorem stackH64_at (x : FVec Ideal S3x64x34x34x32 .f32) (b c : Fin 3) (i : Fin 64) (D : Fin 34) (h w : Fin 32) :
    stackH64 x (ix6 b c i D h w) = x (ix5 c i D (plus h b) w) := by
  unfold stackH64
  pointwise
  refine three b (P := fun t => x (ix5 c i D (plus h t) w)) ?_ rfl rfl
  show _ = x (ix5 c i D (plus h 0) w)
  rw [plus_zero]

theorem stackD64_at (x : FVec Ideal S3x3x64x34x32x32 .f32) (a b c : Fin 3) (i : Fin 64) (d h w : Fin 32) :
    stackD64 x (ix7 a b c i d h w) = x (ix6 b c i (plus d a) h w) := by
  unfold stackD64
  pointwise
  refine three a (P := fun t => x (ix6 b c i (plus d t) h w)) ?_ rfl rfl
  show _ = x (ix6 b c i (plus d 0) h w)
  rw [plus_zero]

/-- The stacked windows of a padded activation. -/
theorem windows64_at (y : FVec Ideal S64x32x32x32 .f32) (a b c : Fin 3) (i : Fin 64) (d h w : Fin 32) :
    stackD64 (stackH64 (stackW64 (pad64 y))) (ix7 a b c i d h w) = padA 64 (rd4 y) i.val (d.val + a.val) (h.val + b.val) (w.val + c.val) := by
  rw [stackD64_at, stackH64_at, stackW64_at, pad64_at, plus_val, plus_val, plus_val]

end Windows64

/-! ## The layers -/

/-- The bias and the rectifier, at an index. -/
theorem rect_at (P : FVec Ideal S64x32x32x32 .f32) (b : FVec Ideal S64 .f32) (o : Fin 64) (d h w : Fin 32) :
    maximumf (addf P (broadcastInDim S64x32x32x32 ![0, 1, 2, 3] bcast_S64x1x1x1_S64x32x32x32_0_1_2_3 (broadcastInDim S64x1x1x1 ![0] bcast_S64_S64x1x1x1_0 b)))
      (broadcastInDim S64x32x32x32 ![] bcast_S_S64x32x32x32 (constant S_ .f32 0x00000000#32)) (ix4 o d h w) = max (P (ix4 o d h w) + b (ix1 o)) 0 := by
  pointwise

theorem bias_at (P : FVec Ideal S54x32x32x32 .f32) (b : FVec Ideal S54 .f32) (o : Fin 54) (d h w : Fin 32) :
    addf P (broadcastInDim S54x32x32x32 ![0, 1, 2, 3] bcast_S54x1x1x1_S54x32x32x32_0_1_2_3 (broadcastInDim S54x1x1x1 ![0] bcast_S54_S54x1x1x1_0 b)) (ix4 o d h w)
      = P (ix4 o d h w) + b (ix1 o) := by
  pointwise

/-- A mid layer of 36 input channels. -/
def layer36 (y : FVec F S36x32x32x32 .f32) (W : FVec F S64x36x3x3x3 .f32) (b : FVec F S64 .f32) : FVec F S64x32x32x32 .f32 :=
  maximumf (addf (Host.dotGeneral dot_S64x36x3x3x3_S3x3x3x36x32x32x32_S64x32x32x32_2341_0123_0_456_n_n none W (stackD36 (stackH36 (stackW36 (pad36 y)))))
    (broadcastInDim S64x32x32x32 ![0, 1, 2, 3] bcast_S64x1x1x1_S64x32x32x32_0_1_2_3 (broadcastInDim S64x1x1x1 ![0] bcast_S64_S64x1x1x1_0 b)))
    (broadcastInDim S64x32x32x32 ![] bcast_S_S64x32x32x32 (constant S_ .f32 0x00000000#32))

theorem layer36_at (y : FVec Ideal S36x32x32x32 .f32) (W : FVec Ideal S64x36x3x3x3 .f32) (b : FVec Ideal S64 .f32) (o : Fin 64) (d h w : Fin 32) :
    layer36 y W b (ix4 o d h w) = relu (conv 36 (rd4 y) (rd5 W) (rd1 b)) o.val d.val h.val w.val := by
  have e := dot36_at W (stackD36 (stackH36 (stackW36 (pad36 y)))) o d h w
  simp only [windows36_at] at e
  refine (rect_at _ b o d h w).trans ?_
  rw [e]
  unfold relu conv
  simp only [Finset.sum_range, rd5_val, rd1_val]

/-- A mid layer of 64 input channels. -/
def layer64 (y : FVec F S64x32x32x32 .f32) (W : FVec F S64x64x3x3x3 .f32) (b : FVec F S64 .f32) : FVec F S64x32x32x32 .f32 :=
  maximumf (addf (Host.dotGeneral dot_S64x64x3x3x3_S3x3x3x64x32x32x32_S64x32x32x32_2341_0123_0_456_n_n none W (stackD64 (stackH64 (stackW64 (pad64 y)))))
    (broadcastInDim S64x32x32x32 ![0, 1, 2, 3] bcast_S64x1x1x1_S64x32x32x32_0_1_2_3 (broadcastInDim S64x1x1x1 ![0] bcast_S64_S64x1x1x1_0 b)))
    (broadcastInDim S64x32x32x32 ![] bcast_S_S64x32x32x32 (constant S_ .f32 0x00000000#32))

theorem layer64_at (y : FVec Ideal S64x32x32x32 .f32) (W : FVec Ideal S64x64x3x3x3 .f32) (b : FVec Ideal S64 .f32) (o : Fin 64) (d h w : Fin 32) :
    layer64 y W b (ix4 o d h w) = relu (conv 64 (rd4 y) (rd5 W) (rd1 b)) o.val d.val h.val w.val := by
  have e := dot64_at W (stackD64 (stackH64 (stackW64 (pad64 y)))) o d h w
  simp only [windows64_at] at e
  refine (rect_at _ b o d h w).trans ?_
  rw [e]
  unfold relu conv
  simp only [Finset.sum_range, rd5_val, rd1_val]

/-- The last layer of 64 input channels. -/
def layerLast (y : FVec F S64x32x32x32 .f32) (W : FVec F S54x64x3x3x3 .f32) (b : FVec F S54 .f32) : FVec F S54x32x32x32 .f32 :=
  addf (Host.dotGeneral dot_S54x64x3x3x3_S3x3x3x64x32x32x32_S54x32x32x32_2341_0123_0_456_n_n none W (stackD64 (stackH64 (stackW64 (pad64 y)))))
    (broadcastInDim S54x32x32x32 ![0, 1, 2, 3] bcast_S54x1x1x1_S54x32x32x32_0_1_2_3 (broadcastInDim S54x1x1x1 ![0] bcast_S54_S54x1x1x1_0 b))

theorem layerLast_at (y : FVec Ideal S64x32x32x32 .f32) (W : FVec Ideal S54x64x3x3x3 .f32) (b : FVec Ideal S54 .f32) (o : Fin 54) (d h w : Fin 32) :
    layerLast y W b (ix4 o d h w) = conv 64 (rd4 y) (rd5 W) (rd1 b) o.val d.val h.val w.val := by
  have e := dot54_at W (stackD64 (stackH64 (stackW64 (pad64 y)))) o d h w
  simp only [windows64_at] at e
  refine (bias_at _ b o d h w).trans ?_
  rw [e]
  unfold conv
  simp only [Finset.sum_range, rd5_val, rd1_val]

end Cert.Ref

end
-- ==== Proof.RefValue.lean ====
/-
  The reference's result is the network of Proof/Spec of its arguments, laid out with the output channel innermost.
-/
module

public import proofs.«01_k».proof.Proof.RefLayer

@[expose] public section

noncomputable section

namespace Cert.Ref

open Cert.ReferenceIdeal Cert.ReferenceIdeal.Gen Cert.ReferenceIdeal.Value Cert.Spec
open Idealize.ShloMosaic Idealize.SL.Sem

variable {F : FTy → Type} [FloatOps F]

section Term

variable (V : Valuation τ sig (Elt F))

/-- The five layers of the arguments. -/
def out1 : FVec F S64x32x32x32 .f32 :=
  layer36 (shapeCast S36x32x32x32 (V (Proc.devRef .tc main_arg0) : FVec F S1x36x32x32x32 .f32) shapeCasts_S1x36x32x32x32_S36x32x32x32)
    (V (Proc.devRef .tc main_arg1)) (V (Proc.devRef .tc main_arg2))
def out2 : FVec F S64x32x32x32 .f32 := layer64 (out1 V) (V (Proc.devRef .tc main_arg3)) (V (Proc.devRef .tc main_arg4))
def out3 : FVec F S64x32x32x32 .f32 := layer64 (out2 V) (V (Proc.devRef .tc main_arg5)) (V (Proc.devRef .tc main_arg6))
def out4 : FVec F S64x32x32x32 .f32 := layer64 (out3 V) (V (Proc.devRef .tc main_arg7)) (V (Proc.devRef .tc main_arg8))
def out5 : FVec F S54x32x32x32 .f32 := layerLast (out4 V) (V (Proc.devRef .tc main_arg9)) (V (Proc.devRef .tc main_arg10))

/-- What the reference returns. -/
def result : FVec F S1x294912x6 .f32 :=
  shapeCast S1x294912x6 (transpose S32x32x32x54 [1, 2, 3, 0] (out5 V) transposes_S54x32x32x32_S32x32x32x54_1_2_3_0) shapeCasts_S32x32x32x54_S1x294912x6

theorem res_main_v15_eq : res_main_v15 V = stackH36 (stackW36 (pad36 (shapeCast S36x32x32x32 (V (Proc.devRef .tc main_arg0) : FVec F S1x36x32x32x32 .f32) shapeCasts_S1x36x32x32x32_S36x32x32x32))) := rfl
theorem res_main_v29_eq : res_main_v29 V = pad64 (out1 V) := by unfold res_main_v29; rw [res_main_v15_eq]; rfl
theorem res_main_v43_eq : res_main_v43 V = stackH64 (stackW64 (pad64 (out1 V))) := by unfold res_main_v43 res_main_v36; rw [res_main_v29_eq]; rfl
theorem res_main_v57_eq : res_main_v57 V = pad64 (out2 V) := by unfold res_main_v57; rw [res_main_v43_eq]; rfl
theorem res_main_v71_eq : res_main_v71 V = stackH64 (stackW64 (pad64 (out2 V))) := by unfold res_main_v71 res_main_v64; rw [res_main_v57_eq]; rfl
theorem res_main_v85_eq : res_main_v85 V = pad64 (out3 V) := by unfold res_main_v85; rw [res_main_v71_eq]; rfl
theorem res_main_v99_eq : res_main_v99 V = stackH64 (stackW64 (pad64 (out3 V))) := by unfold res_main_v99 res_main_v92; rw [res_main_v85_eq]; rfl
theorem res_main_v113_eq : res_main_v113 V = pad64 (out4 V) := by unfold res_main_v113; rw [res_main_v99_eq]; rfl
theorem res_main_v127_eq : res_main_v127 V = stackH64 (stackW64 (pad64 (out4 V))) := by unfold res_main_v127 res_main_v120; rw [res_main_v113_eq]; rfl

end Term

section Read

variable (V : Valuation τ sig (Elt Ideal))

/-- The input activation. -/
theorem input_at (x : FVec Ideal S1x36x32x32x32 .f32) (i d h w : Nat) (hi : i < 36) (hd : d < 32) (hh : h < 32) (hw : w < 32) :
    rd4 (shapeCast S36x32x32x32 x shapeCasts_S1x36x32x32x32_S36x32x32x32) i d h w = rd5 x 0 i d h w := by
  rw [rd4, dif_pos ⟨hi, hd, hh, hw⟩, rd5, dif_pos ⟨Nat.one_pos, hi, hd, hh, hw⟩]
  pointwise

/-- The network of the arguments. -/
abbrev netOf : Act :=
  net (rd5 (V (Proc.devRef .tc main_arg0) : FVec Ideal S1x36x32x32x32 .f32) 0)
    (rd5 (V (Proc.devRef .tc main_arg1) : FVec Ideal S64x36x3x3x3 .f32)) (rd5 (V (Proc.devRef .tc main_arg3) : FVec Ideal S64x64x3x3x3 .f32))
    (rd5 (V (Proc.devRef .tc main_arg5) : FVec Ideal S64x64x3x3x3 .f32)) (rd5 (V (Proc.devRef .tc main_arg7) : FVec Ideal S64x64x3x3x3 .f32))
    (rd5 (V (Proc.devRef .tc main_arg9) : FVec Ideal S54x64x3x3x3 .f32))
    (rd1 (V (Proc.devRef .tc main_arg2) : FVec Ideal S64 .f32)) (rd1 (V (Proc.devRef .tc main_arg4) : FVec Ideal S64 .f32))
    (rd1 (V (Proc.devRef .tc main_arg6) : FVec Ideal S64 .f32)) (rd1 (V (Proc.devRef .tc main_arg8) : FVec Ideal S64 .f32))
    (rd1 (V (Proc.devRef .tc main_arg10) : FVec Ideal S54 .f32))

/-- A mid layer of an activation known inside its box. -/
theorem layer64_of (y : FVec Ideal S64x32x32x32 .f32) (W : FVec Ideal S64x64x3x3x3 .f32) (b : FVec Ideal S64 .f32) (A : Act)
    (hy : ∀ (o : Fin 64) (d h w : Fin 32), y (ix4 o d h w) = A o.val d.val h.val w.val) (o : Fin 64) (d h w : Fin 32) :
    layer64 y W b (ix4 o d h w) = relu (conv 64 A (rd5 W) (rd1 b)) o.val d.val h.val w.val := by
  rw [layer64_at, conv_congr (fun i d h w hi hd hh hw => (rd4_val y ⟨i, hi⟩ ⟨d, hd⟩ ⟨h, hh⟩ ⟨w, hw⟩).trans (hy _ _ _ _))]

theorem out5_at (o : Fin 54) (d h w : Fin 32) : out5 V (ix4 o d h w) = netOf V o.val d.val h.val w.val := by
  unfold out5
  rw [layerLast_at]
  refine congrFun (congrFun (congrFun (congrFun (conv_congr ?_ _ _) _) _) _) _
  intro i d h w hi hd hh hw
  refine (rd4_val (out4 V) ⟨i, hi⟩ ⟨d, hd⟩ ⟨h, hh⟩ ⟨w, hw⟩).trans ?_
  refine layer64_of _ _ _ _ (layer64_of _ _ _ _ (layer64_of _ _ _ _ fun o d h w => ?_)) _ _ _ _
  unfold out1
  rw [layer36_at, conv_congr (input_at _)]

/-- The result, read at an index: row `r` lists position after position, nine rows each. -/
theorem result_at (r : Fin 294912) (s : Fin 6) :
    result V (ix3 0 r s) = netOf V (r.val % 9 * 6 + s.val) (r.val / 9216) (r.val / 288 % 32) (r.val / 9 % 32) := by
  unfold result
  pointwise
  exact out5_at V ⟨r.val % 9 * 6 + s.val, by omega⟩ ⟨r.val / 9216, by omega⟩ ⟨r.val / 288 % 32, by omega⟩ ⟨r.val / 9 % 32, by omega⟩

end Read

end Cert.Ref

end
-- ==== Proof.Value.lean ====
/-
  The idealized kernel and the reference end with equal results: both are the same network of the same arguments.
-/
module

public import proofs.«01_k».proof.Proof.Frames
public import proofs.«01_k».proof.Proof.KernelValue
public import proofs.«01_k».proof.Proof.RefValue

@[expose] public section

noncomputable section

namespace Cert.Run

open Idealize.ShloMosaic Idealize.ShloMosaic.TcCoe Idealize.SL.Sem Cert.Spec

/-- From equal arguments, the two results are equal. -/
theorem result_eq (m : (ℓ : Loc Kernel.nD Kernel.τ Kernel.sig) → Buf (Elt Ideal) ℓ)
    (m' : (ℓ : Loc ReferenceIdeal.nD ReferenceIdeal.τ ReferenceIdeal.sig) → Buf (Elt Ideal) ℓ) (c : Dev Kernel.nD)
    (h : netOf m c = Ref.netOf (StableHlo.launchContents m' c)) :
    (U11 m c Kernel.main_v0 : FVec Ideal Kernel.S1x294912x6 .f32) = Ref.result (StableHlo.launchContents m' c) := by
  funext j
  obtain ⟨r, s, rfl⟩ : ∃ (r : Fin 294912) (s : Fin 6), j = ix3 0 r s := by
    refine ⟨j 1, j 2, funext fun a => ?_⟩
    match a with
    | 0 => exact Fin.ext (Nat.lt_one_iff.mp (j 0).isLt)
    | 1 => rfl
    | 2 => rfl
  exact (result_at m c r s).trans ((congrFun (congrFun (congrFun (congrFun h _) _) _) _).trans (Ref.result_at _ r s).symm)

section Arguments

variable {x x' : Kernel.S1x36x32x32x32.Idx → EReal} {k1 k1' : Kernel.S64x36x3x3x3.Idx → EReal} {k2 k2' k3 k3' k4 k4' : Kernel.S64x64x3x3x3.Idx → EReal}
  {k5 k5' : Kernel.S54x64x3x3x3.Idx → EReal} {a1 a1' a2 a2' a3 a3' a4 a4' : Kernel.S64.Idx → EReal} {a5 a5' : Kernel.S54.Idx → EReal}

/-- Equal arguments make the same network. -/
theorem net_eq (h0 : x' = x) (h1 : k1' = k1) (h2 : a1' = a1) (h3 : k2' = k2) (h4 : a2' = a2) (h5 : k3' = k3) (h6 : a3' = a3) (h7 : k4' = k4) (h8 : a4' = a4)
    (h9 : k5' = k5) (h10 : a5' = a5) :
    net (rd5 x 0) (rd5 k1) (rd5 k2) (rd5 k3) (rd5 k4) (rd5 k5) (rd1 a1) (rd1 a2) (rd1 a3) (rd1 a4) (rd1 a5)
      = net (rd5 x' 0) (rd5 k1') (rd5 k2') (rd5 k3') (rd5 k4') (rd5 k5') (rd1 a1') (rd1 a2') (rd1 a3') (rd1 a4') (rd1 a5') := by
  subst h0 h1 h2 h3 h4 h5 h6 h7 h8 h9 h10; rfl

end Arguments

theorem value : algebraic_KernelIdeal_ReferenceIdeal := by
  intro m g m' g' _ hargs
  refine ⟨fun c => U11 (F := Ideal) m c Kernel.main_v0, (θ_run KernelIdeal.defs _ _).mono (fun _ h c => h.1 c) (ideal_run m g),
    (θ_run ReferenceIdeal.defs _ _).mono (fun r h c => ⟨((h c).1.trans ?_).trans (result_eq m m' c ?_).symm, (h c).2⟩) (ReferenceIdeal.Value.run (F := Ideal) m' g')⟩
  · rw [Ref.res_main_v127_eq]
    rfl
  · obtain ⟨h0, h1, h2, h3, h4, h5, h6, h7, h8, h9, h10⟩ := hargs c
    exact net_eq h0 h1 h2 h3 h4 h5 h6 h7 h8 h9 h10

end Cert.Run

end
-- ==== Proof.lean ====
/-
  The proof of the certificate's claim, assembled: the frames of the three programs (Proof/Frames) and the
  equality of the two idealized programs' results (Proof/Value).
-/
module

public import proofs.«01_k».proof.Proof.Frames
public import proofs.«01_k».proof.Proof.Value
public import proofs.«01_k».proof.Proof.Gen.Kernel.Regions
public import proofs.«01_k».proof.Proof.Gen.Kernel.Points
public import proofs.«01_k».proof.Proof.Gen.ReferenceIdeal.Run

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Run.frame_p, Cert.Run.frame_pi, Cert.Run.frame_ri, trivial, Cert.Run.value⟩

end Cert.Proof

end
